-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arrays [hPre_finite_arrays : Cert.Pre_finite_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arrays [hPre_finite_arrays : Cert.Pre_finite_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arrays2 [hPre_finite_arrays2 : Cert.Pre_finite_arrays2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arrays2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arrays2 [hPre_finite_arrays2 : Cert.Pre_finite_arrays2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arrays2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_arrays3 [hPre_finite_arrays3 : Cert.Pre_finite_arrays3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_arrays3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_arrays3 [hPre_finite_arrays3 : Cert.Pre_finite_arrays3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_arrays3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arrays [hKernelIdeal : Cert.KernelIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arrays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arrays [hReferenceIdeal : Cert.ReferenceIdeal.Facts] [hPre_finite_arrays : Cert.Pre_finite_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arrays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_arrays2 [hKernel2Ideal : Cert.Kernel2Ideal.Facts] [hPre_finite_arrays2 : Cert.Pre_finite_arrays2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arrays2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_arrays2 [hReference2Ideal : Cert.Reference2Ideal.Facts] [hPre_finite_arrays2 : Cert.Pre_finite_arrays2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arrays2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_arrays3 [hKernel3Ideal : Cert.Kernel3Ideal.Facts] [hPre_finite_arrays3 : Cert.Pre_finite_arrays3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_arrays3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_arrays3 [hReference3Ideal : Cert.Reference3Ideal.Facts] [hPre_finite_arrays3 : Cert.Pre_finite_arrays3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_arrays3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_arrays [hKernelIdeal : Cert.KernelIdeal.Facts] [hReferenceIdeal : Cert.ReferenceIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arrays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_arrays2 [hKernel2Ideal : Cert.Kernel2Ideal.Facts] [hReference2Ideal : Cert.Reference2Ideal.Facts] [hPre_finite_arrays2 : Cert.Pre_finite_arrays2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arrays2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_arrays3 [hKernel3Ideal : Cert.Kernel3Ideal.Facts] [hReference3Ideal : Cert.Reference3Ideal.Facts] [hPre_finite_arrays3 : Cert.Pre_finite_arrays3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_arrays3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_arrays : Cert.Pre_finite_arrays.Facts) (hPre_finite_arrays2 : Cert.Pre_finite_arrays2.Facts) (hPre_finite_arrays3 : Cert.Pre_finite_arrays3.Facts),
    quiescent_Kernel (hKernel := hKernel)
    ∧ quiescent_KernelIdeal (hKernelIdeal := hKernelIdeal)
    ∧ quiescent_KernelIdeal_pre_finite_arrays (hKernelIdeal := hKernelIdeal) (hPre_finite_arrays := hPre_finite_arrays)
    ∧ quiescent_ReferenceIdeal (hReferenceIdeal := hReferenceIdeal)
    ∧ quiescent_ReferenceIdeal_pre_finite_arrays (hReferenceIdeal := hReferenceIdeal) (hPre_finite_arrays := hPre_finite_arrays)
    ∧ quiescent_Kernel2 (hKernel2 := hKernel2)
    ∧ quiescent_Kernel2Ideal (hKernel2Ideal := hKernel2Ideal)
    ∧ quiescent_Kernel2Ideal_pre_finite_arrays2 (hKernel2Ideal := hKernel2Ideal) (hPre_finite_arrays2 := hPre_finite_arrays2)
    ∧ quiescent_Reference2Ideal (hReference2Ideal := hReference2Ideal)
    ∧ quiescent_Reference2Ideal_pre_finite_arrays2 (hReference2Ideal := hReference2Ideal) (hPre_finite_arrays2 := hPre_finite_arrays2)
    ∧ quiescent_Kernel3 (hKernel3 := hKernel3)
    ∧ quiescent_Kernel3Ideal (hKernel3Ideal := hKernel3Ideal)
    ∧ quiescent_Kernel3Ideal_pre_finite_arrays3 (hKernel3Ideal := hKernel3Ideal) (hPre_finite_arrays3 := hPre_finite_arrays3)
    ∧ quiescent_Reference3Ideal (hReference3Ideal := hReference3Ideal)
    ∧ quiescent_Reference3Ideal_pre_finite_arrays3 (hReference3Ideal := hReference3Ideal) (hPre_finite_arrays3 := hPre_finite_arrays3)
    ∧ preserves_Kernel_KernelIdeal
    ∧ algebraic_KernelIdeal_ReferenceIdeal_pre_finite_arrays (hKernelIdeal := hKernelIdeal) (hReferenceIdeal := hReferenceIdeal) (hPre_finite_arrays := hPre_finite_arrays)
    ∧ preserves_Kernel2_Kernel2Ideal
    ∧ algebraic_Kernel2Ideal_Reference2Ideal_pre_finite_arrays2 (hKernel2Ideal := hKernel2Ideal) (hReference2Ideal := hReference2Ideal) (hPre_finite_arrays2 := hPre_finite_arrays2)
    ∧ preserves_Kernel3_Kernel3Ideal
    ∧ algebraic_Kernel3Ideal_Reference3Ideal_pre_finite_arrays3 (hKernel3Ideal := hKernel3Ideal) (hReference3Ideal := hReference3Ideal) (hPre_finite_arrays3 := hPre_finite_arrays3)
-- ==== Pre_finite_arrays.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn_part1 {F : FTy → Type} [FloatOps F] (main_arg5 : FVec F S16384x512 .f32) (main_v18 : IVec S16384x512 1) : IVec S16384x512 1 :=
  let main_v19 : FVec F S16384x512 .f32 := Host.absf main_arg5
  let main_cst_4 : FVec F S_ .f32 := constant S_ .f32 0x7F800000#32
  let main_v20 : FVec F S16384x512 .f32 := broadcastInDim S16384x512 ![] bcast_S_S16384x512 main_cst_4
  let main_v21 : IVec S16384x512 1 := cmpf .olt main_v19 main_v20
  let main_v22 : IVec S16384x512 1 := andi main_v18 main_v21
  main_v22

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : IVec S16384x512 1 := andi main_v6 main_v9
  let main_v11 : FVec F S16384x512 .f32 := Host.absf main_arg3
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_v14 : IVec S16384x512 1 := andi main_v10 main_v13
  let main_v15 : FVec F S16384x512 .f32 := Host.absf main_arg4
  let main_cst_3 : FVec F S_ .f32 := constant S_ .f32 0x7F800000#32
  let main_v16 : FVec F S16384x512 .f32 := broadcastInDim S16384x512 ![] bcast_S_S16384x512 main_cst_3
  let main_v17 : IVec S16384x512 1 := cmpf .olt main_v15 main_v16
  let main_v18 : IVec S16384x512 1 := andi main_v14 main_v17
  fn_part1 (F := F) main_arg5 main_v18
-- ==== Pre_finite_arrays2.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x4x8 : S_.BroadcastsInDim S1024x4x8 (![] : Fin 0 → Fin S1024x4x8.rank)
  reducesTo_S1024x4x8_S_d0_1_2 : S1024x4x8.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_arg4 : FVec F S1024x4x8 .f32) (main_arg5 : FVec F S4x8 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1024x4x8 .f32 := Host.absf main_arg4
  let main_cst_6 : FVec F S_ .f32 := constant S_ .f32 0x7F800000#32
  let main_v20 : FVec F S1024x4x8 .f32 := broadcastInDim S1024x4x8 ![] bcast_S_S1024x4x8 main_cst_6
  let main_v21 : IVec S1024x4x8 1 := cmpf .olt main_v19 main_v20
  let main_c_7 : IVec S_ 1 := constantI S_ 1 1#1
  let main_v22 : IVec S_ 1 := (fun x v => Host.reduce IntOp.andi x v reducesTo_S1024x4x8_S_d0_1_2 h_S_) main_v21 main_c_7
  let main_v23 : IVec S_ 1 := andi main_v18 main_v22
  let main_v24 : FVec F S4x8 .f32 := Host.absf main_arg5
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x4 .f32) (main_arg3 : FVec F S4 .f32) (main_arg4 : FVec F S1024x4x8 .f32) (main_arg5 : FVec F S4x8 .f32) (main_arg6 : FVec F S32x1024x256 .f32) (main_arg7 : FVec F S32x1024x256 .f32) (main_arg8 : FVec F S32x256x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Pre_finite_arrays3.lean ====
abbrev S2x8192x8x64 : Shape := ⟨4, ![2, 8192, 8, 64]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x8x32 : S_.BroadcastsInDim S2x8192x8x32 (![] : Fin 0 → Fin S2x8192x8x32.rank)
  reducesTo_S2x8192x8x32_S_d0_1_2_3 : S2x8192x8x32.ReducesTo [0, 1, 2, 3] S_
  bcast_S_S2x8192x256 : S_.BroadcastsInDim S2x8192x256 (![] : Fin 0 → Fin S2x8192x256.rank)
  reducesTo_S2x8192x256_S_d0_1_2 : S2x8192x256.ReducesTo [0, 1, 2] S_
  bcast_S_S2x8192x32 : S_.BroadcastsInDim S2x8192x32 (![] : Fin 0 → Fin S2x8192x32.rank)
  reducesTo_S2x8192x32_S_d0_1_2 : S2x8192x32.ReducesTo [0, 1, 2] S_
  bcast_S_S256x8x64 : S_.BroadcastsInDim S256x8x64 (![] : Fin 0 → Fin S256x8x64.rank)
  reducesTo_S256x8x64_S_d0_1_2 : S256x8x64.ReducesTo [0, 1, 2] S_

variable [Facts]

def fn_part1 {F : FTy → Type} [FloatOps F] (main_arg4 : FVec F S256x8x64 .f32) (main_arg5 : FVec F S256x8x64 .f32) (main_v13 : IVec S_ 1) (main_v16 : IVec S2x8192x32 1) : IVec S_ 1 :=
  let main_c_5 : IVec S_ 1 := constantI S_ 1 1#1
  let main_v17 : IVec S_ 1 := (fun x v => Host.reduce IntOp.andi x v reducesTo_S2x8192x32_S_d0_1_2 h_S_) main_v16 main_c_5
  let main_v18 : IVec S_ 1 := andi main_v13 main_v17
  let main_v19 : FVec F S256x8x64 .f32 := Host.absf main_arg4
  let main_cst_6 : FVec F S_ .f32 := constant S_ .f32 0x7F800000#32
  let main_v20 : FVec F S256x8x64 .f32 := broadcastInDim S256x8x64 ![] bcast_S_S256x8x64 main_cst_6
  let main_v21 : IVec S256x8x64 1 := cmpf .olt main_v19 main_v20
  let main_c_7 : IVec S_ 1 := constantI S_ 1 1#1
  let main_v22 : IVec S_ 1 := (fun x v => Host.reduce IntOp.andi x v reducesTo_S256x8x64_S_d0_1_2 h_S_) main_v21 main_c_7
  let main_v23 : IVec S_ 1 := andi main_v18 main_v22
  let main_v24 : FVec F S256x8x64 .f32 := Host.absf main_arg5
  let main_cst_8 : FVec F S_ .f32 := constant S_ .f32 0x7F800000#32
  let main_v25 : FVec F S256x8x64 .f32 := broadcastInDim S256x8x64 ![] bcast_S_S256x8x64 main_cst_8
  let main_v26 : IVec S256x8x64 1 := cmpf .olt main_v24 main_v25
  let main_c_9 : IVec S_ 1 := constantI S_ 1 1#1
  let main_v27 : IVec S_ 1 := (fun x v => Host.reduce IntOp.andi x v reducesTo_S256x8x64_S_d0_1_2 h_S_) main_v26 main_c_9
  let main_v28 : IVec S_ 1 := andi main_v23 main_v27
  main_v28

def fn {F : FTy → Type} [FloatOps F] (main_arg0 : FVec F S2x8192x8x64 .f32) (main_arg1 : FVec F S2x8192x8x32 .f32) (main_arg2 : FVec F S2x8192x256 .f32) (main_arg3 : FVec F S2x8192x32 .f32) (main_arg4 : FVec F S256x8x64 .f32) (main_arg5 : FVec F S256x8x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x32 .f32 := Host.absf main_arg1
  let main_cst_0 : FVec F S_ .f32 := constant S_ .f32 0x7F800000#32
  let main_v5 : FVec F S2x8192x8x32 .f32 := broadcastInDim S2x8192x8x32 ![] bcast_S_S2x8192x8x32 main_cst_0
  let main_v6 : IVec S2x8192x8x32 1 := cmpf .olt main_v4 main_v5
  let main_c_1 : IVec S_ 1 := constantI S_ 1 1#1
  let main_v7 : IVec S_ 1 := (fun x v => Host.reduce IntOp.andi x v reducesTo_S2x8192x8x32_S_d0_1_2_3 h_S_) main_v6 main_c_1
  let main_v8 : IVec S_ 1 := andi main_v3 main_v7
  let main_v9 : FVec F S2x8192x256 .f32 := Host.absf main_arg2
  let main_cst_2 : FVec F S_ .f32 := constant S_ .f32 0x7F800000#32
  let main_v10 : FVec F S2x8192x256 .f32 := broadcastInDim S2x8192x256 ![] bcast_S_S2x8192x256 main_cst_2
  let main_v11 : IVec S2x8192x256 1 := cmpf .olt main_v9 main_v10
  let main_c_3 : IVec S_ 1 := constantI S_ 1 1#1
  let main_v12 : IVec S_ 1 := (fun x v => Host.reduce IntOp.andi x v reducesTo_S2x8192x256_S_d0_1_2 h_S_) main_v11 main_c_3
  let main_v13 : IVec S_ 1 := andi main_v8 main_v12
  let main_v14 : FVec F S2x8192x32 .f32 := Host.absf main_arg3
  let main_cst_4 : FVec F S_ .f32 := constant S_ .f32 0x7F800000#32
  let main_v15 : FVec F S2x8192x32 .f32 := broadcastInDim S2x8192x32 ![] bcast_S_S2x8192x32 main_cst_4
  let main_v16 : IVec S2x8192x32 1 := cmpf .olt main_v14 main_v15
  fn_part1 (F := F) main_arg4 main_arg5 main_v13 main_v16
-- ==== Kernel.lean ====
abbrev S16384x512 : Shape := ⟨2, ![16384, 512]⟩
abbrev S2x8192x8x64 : Shape := ⟨4, ![2, 8192, 8, 64]⟩
abbrev S2x8x8192x64 : Shape := ⟨4, ![2, 8, 8192, 64]⟩
abbrev S16x8192x64 : Shape := ⟨3, ![16, 8192, 64]⟩
abbrev S16x64x8192 : Shape := ⟨3, ![16, 64, 8192]⟩
abbrev S16x64x64 : Shape := ⟨3, ![16, 64, 64]⟩
abbrev S16x128x64 : Shape := ⟨3, ![16, 128, 64]⟩
abbrev S16x64x128 : Shape := ⟨3, ![16, 64, 128]⟩
abbrev S16x128x128 : Shape := ⟨3, ![16, 128, 128]⟩
abbrev S1x64x128 : Shape := ⟨3, ![1, 64, 128]⟩
abbrev S16x128 : Shape := ⟨2, ![16, 128]⟩
abbrev S16x128x1 : Shape := ⟨3, ![16, 128, 1]⟩
abbrev S128x256 : Shape := ⟨2, ![128, 256]⟩
abbrev S1024x128 : Shape := ⟨2, ![1024, 128]⟩
abbrev S1024x256 : Shape := ⟨2, ![1024, 256]⟩
abbrev S16x64x256 : Shape := ⟨3, ![16, 64, 256]⟩
abbrev S16x1x64 : Shape := ⟨3, ![16, 1, 64]⟩
abbrev S16x64 : Shape := ⟨2, ![16, 64]⟩
abbrev S16x64x1 : Shape := ⟨3, ![16, 64, 1]⟩
abbrev S16x1x128 : Shape := ⟨3, ![16, 1, 128]⟩
abbrev S2x8x64x8192 : Shape := ⟨4, ![2, 8, 64, 8192]⟩
abbrev S2x8x64x64 : Shape := ⟨4, ![2, 8, 64, 64]⟩

abbrev nBuf : Space → Nat
  | .hbm => 33
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S2x8192x8x64, .f32⟩
  | .hbm, ⟨8, _⟩ => ⟨S2x8x8192x64, .f32⟩
  | .hbm, ⟨9, _⟩ => ⟨S16x8192x64, .f32⟩
  | .hbm, ⟨10, _⟩ => ⟨S16x64x8192, .f32⟩
  | .hbm, ⟨11, _⟩ => ⟨S16x64x8192, .bf16⟩
  | .hbm, ⟨12, _⟩ => ⟨S2x8192x8x64, .f32⟩
  | .hbm, ⟨13, _⟩ => ⟨S2x8x8192x64, .f32⟩
  | .hbm, ⟨14, _⟩ => ⟨S16x8192x64, .f32⟩
  | .hbm, ⟨15, _⟩ => ⟨S2x8192x8x64, .f32⟩
  | .hbm, ⟨16, _⟩ => ⟨S2x8x8192x64, .f32⟩
  | .hbm, ⟨17, _⟩ => ⟨S16x8192x64, .f32⟩
  | .hbm, ⟨18, _⟩ => ⟨S2x8192x8x64, .f32⟩
  | .hbm, ⟨19, _⟩ => ⟨S2x8x8192x64, .f32⟩
  | .hbm, ⟨20, _⟩ => ⟨S16x8192x64, .f32⟩
  | .hbm, ⟨21, _⟩ => ⟨S2x8192x8x64, .f32⟩
  | .hbm, ⟨22, _⟩ => ⟨S2x8x8192x64, .f32⟩
  | .hbm, ⟨23, _⟩ => ⟨S16x8192x64, .f32⟩
  | .hbm, ⟨24, _⟩ => ⟨S2x8192x8x64, .f32⟩
  | .hbm, ⟨25, _⟩ => ⟨S2x8x8192x64, .f32⟩
  | .hbm, ⟨26, _⟩ => ⟨S16x8192x64, .f32⟩
  | .hbm, ⟨27, _⟩ => ⟨S16x64x8192, .f32⟩
  | .hbm, ⟨28, _⟩ => ⟨S16x64x64, .f32⟩
  | .hbm, ⟨29, _⟩ => ⟨S2x8x64x8192, .f32⟩
  | .hbm, ⟨30, _⟩ => ⟨S2x8192x8x64, .f32⟩
  | .hbm, ⟨31, _⟩ => ⟨S16384x512, .f32⟩
  | .hbm, ⟨32, _⟩ => ⟨S2x8x64x64, .f32⟩
  | .local _ .vmem, ⟨0, _⟩ => ⟨S16x128x64, .f32⟩
  | .local _ .vmem, ⟨1, _⟩ => ⟨S16x128x64, .f32⟩
  | .local _ .vmem, ⟨2, _⟩ => ⟨S16x128x64, .f32⟩
  | .local _ .vmem, ⟨3, _⟩ => ⟨S16x128x64, .f32⟩
  | .local _ .vmem, ⟨4, _⟩ => ⟨S16x128x64, .f32⟩
  | .local _ .vmem, ⟨5, _⟩ => ⟨S16x128x64, .f32⟩
  | .local _ .vmem, ⟨6, _⟩ => ⟨S16x128x64, .f32⟩
  | .local _ .vmem, ⟨7, _⟩ => ⟨S16x128x64, .f32⟩
  | .local _ .vmem, ⟨8, _⟩ => ⟨S16x128x64, .f32⟩
  | .local _ .vmem, ⟨9, _⟩ => ⟨S16x128x64, .f32⟩
  | .local _ .vmem, ⟨10, _⟩ => ⟨S16x64x128, .bf16⟩
  | .local _ .vmem, ⟨11, _⟩ => ⟨S16x64x128, .bf16⟩
  | .local _ .vmem, ⟨12, _⟩ => ⟨S16x64x128, .f32⟩
  | .local _ .vmem, ⟨13, _⟩ => ⟨S16x64x128, .f32⟩
  | .local _ .vmem, ⟨14, _⟩ => ⟨S16x64x64, .f32⟩
  | .local _ .vmem, ⟨15, _⟩ => ⟨S16x64x64, .f32⟩
  | .local _ .vmem, ⟨16, _⟩ => ⟨S16x64x128, .f32⟩
  | .local _ .vmem, ⟨17, _⟩ => ⟨S16x128x64, .f32⟩
  | .local _ .vmem, ⟨18, _⟩ => ⟨S16x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_22 : BitVec 32 := 0#32
  let c64_i32 : BitVec 32 := 64#32
  let v34 : BitVec 32 := Scalar.addi c0_i32_22 c64_i32
  let c1_i32 : BitVec 32 := 1#32
  ⟨c0_i32_22, v34, c1_i32⟩
def k0_off1 (k0_t1 : Fin k0_t1_loop.trips) : Fin 3 → Nat :=
  let c0_40 : Index := 0#32
  let c2_i32 : BitVec 32 := 2#32
  let c0_i32_22 : BitVec 32 := 0#32
  let c1_i32 : BitVec 32 := 1#32
  let arg13 : BitVec 32 := Scf.iv c0_i32_22 c1_i32 k0_t1
  let v40 : BitVec 32 := Scalar.muli c2_i32 arg13
  let v58 : Index := Scalar.indexCast v40
  let c0_41 : Index := 0#32
  ![0, v58.toNat, 0]
def k0_off2 (k0_t1 : Fin k0_t1_loop.trips) : Fin 3 → Nat :=
  let c0_56 : Index := 0#32
  let c2_i32 : BitVec 32 := 2#32
  let c0_i32_22 : BitVec 32 := 0#32
  let c1_i32 : BitVec 32 := 1#32
  let arg13 : BitVec 32 := Scf.iv c0_i32_22 c1_i32 k0_t1
  let v40 : BitVec 32 := Scalar.muli c2_i32 arg13
  let v95 : Index := Scalar.indexCast v40
  let c0_57 : Index := 0#32
  ![0, v95.toNat, 0]
def k0_off3 (k0_t1 : Fin k0_t1_loop.trips) : Fin 3 → Nat :=
  let c0_65 : Index := 0#32
  let c2_i32 : BitVec 32 := 2#32
  let c0_i32_22 : BitVec 32 := 0#32
  let c1_i32 : BitVec 32 := 1#32
  let arg13 : BitVec 32 := Scf.iv c0_i32_22 c1_i32 k0_t1
  let v40 : BitVec 32 := Scalar.muli c2_i32 arg13
  let c1_i32_61 : BitVec 32 := 1#32
  let v109 : BitVec 32 := Scalar.addi v40 c1_i32_61
  let v112 : Index := Scalar.indexCast v109
  let c0_66 : Index := 0#32
  ![0, v112.toNat, 0]
def k0_off4 (k0_t1 : Fin k0_t1_loop.trips) : Fin 3 → Nat :=
  let c0_81 : Index := 0#32
  let c2_i32 : BitVec 32 := 2#32
  let c0_i32_22 : BitVec 32 := 0#32
  let c1_i32 : BitVec 32 := 1#32
  let arg13 : BitVec 32 := Scf.iv c0_i32_22 c1_i32 k0_t1
  let v40 : BitVec 32 := Scalar.muli c2_i32 arg13
  let c1_i32_61 : BitVec 32 := 1#32
  let v109 : BitVec 32 := Scalar.addi v40 c1_i32_61
  let v149 : Index := Scalar.indexCast v109
  let c0_82 : Index := 0#32
  ![0, v149.toNat, 0]
def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_30 : BitVec 32 := 0#32
  let v39 : BitVec 1 := Scalar.cmpi .ne v38 c0_i32_30
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x512 : Shape := ⟨2, ![16384, 512]⟩
abbrev S2x8192x8x64 : Shape := ⟨4, ![2, 8192, 8, 64]⟩
abbrev S8192x2x8x64 : Shape := ⟨4, ![8192, 2, 8, 64]⟩
abbrev S_ : Shape := ⟨0, ![]⟩
abbrev S2x8x64x64 : Shape := ⟨4, ![2, 8, 64, 64]⟩
abbrev S1x2x8x64 : Shape := ⟨4, ![1, 2, 8, 64]⟩
abbrev S2x8x64 : Shape := ⟨3, ![2, 8, 64]⟩
abbrev S2x8x1x64 : Shape := ⟨4, ![2, 8, 1, 64]⟩
abbrev S2x8x64x1 : Shape := ⟨4, ![2, 8, 64, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S2x8192x8x64, .f32⟩
  | .hbm, ⟨7, _⟩ => ⟨S2x8192x8x64, .f32⟩
  | .hbm, ⟨8, _⟩ => ⟨S2x8192x8x64, .f32⟩
  | .hbm, ⟨9, _⟩ => ⟨S2x8192x8x64, .f32⟩
  | .hbm, ⟨10, _⟩ => ⟨S2x8192x8x64, .f32⟩
  | .hbm, ⟨11, _⟩ => ⟨S2x8192x8x64, .f32⟩
  | .hbm, ⟨12, _⟩ => ⟨S8192x2x8x64, .f32⟩
  | .hbm, ⟨13, _⟩ => ⟨S8192x2x8x64, .f32⟩
  | .hbm, ⟨14, _⟩ => ⟨S8192x2x8x64, .f32⟩
  | .hbm, ⟨15, _⟩ => ⟨S8192x2x8x64, .f32⟩
  | .hbm, ⟨16, _⟩ => ⟨S8192x2x8x64, .f32⟩
  | .hbm, ⟨17, _⟩ => ⟨S8192x2x8x64, .f32⟩
  | .hbm, ⟨18, _⟩ => ⟨S_, .f32⟩
  | .hbm, ⟨19, _⟩ => ⟨S2x8x64x64, .f32⟩
  | .hbm, ⟨20, _⟩ => ⟨S_, .f32⟩
  | .hbm, ⟨21, _⟩ => ⟨S8192x2x8x64, .f32⟩
  | .hbm, ⟨22, _⟩ => ⟨S_, .i32⟩
  | .hbm, ⟨23, _⟩ => ⟨S8192x2x8x64, .f32⟩
  | .hbm, ⟨24, _⟩ => ⟨S8192x2x8x64, .f32⟩
  | .hbm, ⟨25, _⟩ => ⟨S8192x2x8x64, .f32⟩
  | .hbm, ⟨26, _⟩ => ⟨S8192x2x8x64, .f32⟩
  | .hbm, ⟨27, _⟩ => ⟨S8192x2x8x64, .f32⟩
  | .hbm, ⟨28, _⟩ => ⟨S8192x2x8x64, .f32⟩
  | .hbm, ⟨29, _⟩ => ⟨S_, .i32⟩
  | .hbm, ⟨30, _⟩ => ⟨S2x8x64x64, .f32⟩
  | .hbm, ⟨31, _⟩ => ⟨S8192x2x8x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x8x64, .f32⟩
  | .hbm, ⟨38, _⟩ => ⟨S2x8x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x8x64, .f32⟩
  | .hbm, ⟨43, _⟩ => ⟨S2x8x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x2x8x64, .f32⟩
  | .hbm, ⟨48, _⟩ => ⟨S2x8x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x2x8x64, .f32⟩
  | .hbm, ⟨53, _⟩ => ⟨S2x8x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x2x8x64, .f32⟩
  | .hbm, ⟨58, _⟩ => ⟨S2x8x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x2x8x64, .f32⟩
  | .hbm, ⟨63, _⟩ => ⟨S2x8x64, .f32⟩
  | .hbm, ⟨64, _⟩ => ⟨S2x8x64, .f32⟩
  | .hbm, ⟨65, _⟩ => ⟨S2x8x64, .f32⟩
  | .hbm, ⟨66, _⟩ => ⟨S2x8x1x64, .f32⟩
  | .hbm, ⟨67, _⟩ => ⟨S2x8x64x64, .f32⟩
  | .hbm, ⟨68, _⟩ => ⟨S2x8x64x64, .f32⟩
  | .hbm, ⟨69, _⟩ => ⟨S2x8x64x1, .f32⟩
  | .hbm, ⟨70, _⟩ => ⟨S2x8x64, .f32⟩
  | .hbm, ⟨71, _⟩ => ⟨S2x8x1x64, .f32⟩
  | .hbm, ⟨72, _⟩ => ⟨S2x8x64x64, .f32⟩
  | .hbm, ⟨73, _⟩ => ⟨S2x8x64x64, .f32⟩
  | .hbm, ⟨74, _⟩ => ⟨S2x8x64x64, .f32⟩
  | .hbm, ⟨75, _⟩ => ⟨S2x8x64x64, .f32⟩
  | .hbm, ⟨76, _⟩ => ⟨S2x8x64x1, .f32⟩
  | .hbm, ⟨77, _⟩ => ⟨S2x8x1x64, .f32⟩
  | .hbm, ⟨78, _⟩ => ⟨S2x8x64x64, .f32⟩
  | .hbm, ⟨79, _⟩ => ⟨S2x8x64x64, .f32⟩
  | .hbm, ⟨80, _⟩ => ⟨S2x8x64x64, .f32⟩
  | .hbm, ⟨81, _⟩ => ⟨S2x8x64x64, .f32⟩
  | .hbm, ⟨82, _⟩ => ⟨S2x8x64, .f32⟩
  | .hbm, ⟨83, _⟩ => ⟨S1x2x8x64, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S8192x2x8x64, .f32⟩
  | .hbm, ⟨88, _⟩ => ⟨S_, .i32⟩
  | .hbm, ⟨89, _⟩ => ⟨S_, .i32⟩
  | .hbm, ⟨90, _⟩ => ⟨S2x8192x8x64, .f32⟩
  | .hbm, ⟨91, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_c : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v14_7 : Ref sig .tc := ⟨.hbm, 30, rfl⟩
abbrev main_v14_8 : Ref sig .tc := ⟨.hbm, 31, rfl⟩
abbrev main_while0c_c_9 : Ref sig .tc := ⟨.hbm, 32, rfl⟩
abbrev main_while0c_v17 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v17 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v18 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v19 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v20 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v21 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_v0 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v42 : Ref sig .tc := ⟨.hbm, 87, rfl⟩
abbrev main_while0b_c_9 : Ref sig .tc := ⟨.hbm, 88, rfl⟩
abbrev main_while0b_v43 : Ref sig .tc := ⟨.hbm, 89, rfl⟩
abbrev main_v15 : Ref sig .tc := ⟨.hbm, 90, rfl⟩
abbrev main_v16 : Ref sig .tc := ⟨.hbm, 91, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S1x128 : Shape := ⟨2, ![1, 128]⟩
abbrev S32 : Shape := ⟨1, ![32]⟩
abbrev S2 : Shape := ⟨1, ![2]⟩
abbrev S1x1024 : Shape := ⟨2, ![1, 1024]⟩
abbrev S1024x1024 : Shape := ⟨2, ![1024, 1024]⟩
abbrev S4x1024x256 : Shape := ⟨3, ![4, 1024, 256]⟩
abbrev S4x256x1024 : Shape := ⟨3, ![4, 256, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 44
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x4x8, .f32⟩
  | .hbm, ⟨5, _⟩ => ⟨S4x8, .f32⟩
  | .hbm, ⟨6, _⟩ => ⟨S32x1024x256, .f32⟩
  | .hbm, ⟨7, _⟩ => ⟨S32x1024x256, .f32⟩
  | .hbm, ⟨8, _⟩ => ⟨S32x256x1024, .f32⟩
  | .hbm, ⟨9, _⟩ => ⟨S1024, .f32⟩
  | .hbm, ⟨10, _⟩ => ⟨S_, .f32⟩
  | .hbm, ⟨11, _⟩ => ⟨S1024x128, .f32⟩
  | .hbm, ⟨12, _⟩ => ⟨S1024x32, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .f32⟩
  | .hbm, ⟨20, _⟩ => ⟨S1x128, .f32⟩
  | .hbm, ⟨21, _⟩ => ⟨S32, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1024x128, .bf16⟩
  | .hbm, ⟨35, _⟩ => ⟨S1024x128, .f32⟩
  | .hbm, ⟨36, _⟩ => ⟨S1024x128, .f32⟩
  | .hbm, ⟨37, _⟩ => ⟨S1024x128, .bf16⟩
  | .hbm, ⟨38, _⟩ => ⟨S1x1024, .f32⟩
  | .hbm, ⟨39, _⟩ => ⟨S1x1024, .f32⟩
  | .hbm, ⟨40, _⟩ => ⟨S32x1024x256, .bf16⟩
  | .hbm, ⟨41, _⟩ => ⟨S32x1024x256, .bf16⟩
  | .hbm, ⟨42, _⟩ => ⟨S32x256x1024, .bf16⟩
  | .hbm, ⟨43, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S1x128, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x128, .f32⟩
  | .local _ .vmem, ⟨17, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v133 : BitVec 1 := Scalar.cmpi .eq arg1 c7_i32
  let v134 : BitVec 32 := Scalar.extui v133
  let c0_i32_82 : BitVec 32 := 0#32
  let v135 : BitVec 1 := Scalar.cmpi .ne v134 c0_i32_82
  v135

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x4x8 : Shape := ⟨3, ![16384, 4, 8]⟩
abbrev S1x4x8 : Shape := ⟨3, ![1, 4, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x32 : Shape := ⟨2, ![16384, 32]⟩
abbrev S16384x32x256 : Shape := ⟨3, ![16384, 32, 256]⟩
abbrev S16384x32x1 : Shape := ⟨3, ![16384, 32, 1]⟩

abbrev nBuf : Space → Nat
  | .hbm => 125
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x4x8, .f32⟩
  | .hbm, ⟨5, _⟩ => ⟨S4x8, .f32⟩
  | .hbm, ⟨6, _⟩ => ⟨S32x1024x256, .f32⟩
  | .hbm, ⟨7, _⟩ => ⟨S32x1024x256, .f32⟩
  | .hbm, ⟨8, _⟩ => ⟨S32x256x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4, .f32⟩
  | .hbm, ⟨27, _⟩ => ⟨S1x4, .f32⟩
  | .hbm, ⟨28, _⟩ => ⟨S16384x4, .f32⟩
  | .hbm, ⟨29, _⟩ => ⟨S16384x4, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x4, .f32⟩
  | .hbm, ⟨37, _⟩ => ⟨S16384x4, .f32⟩
  | .hbm, ⟨38, _⟩ => ⟨S16384x4, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x4, .f32⟩
  | .hbm, ⟨43, _⟩ => ⟨S16384x4, .f32⟩
  | .hbm, ⟨44, _⟩ => ⟨S16384x1, .f32⟩
  | .hbm, ⟨45, _⟩ => ⟨S16384x1, .i32⟩
  | .hbm, ⟨46, _⟩ => ⟨S16384, .i32⟩
  | .hbm, ⟨47, _⟩ => ⟨S16384x1, .i32⟩
  | .hbm, ⟨48, _⟩ => ⟨S1x4, .i32⟩
  | .hbm, ⟨49, _⟩ => ⟨S16384x4, .i32⟩
  | .hbm, ⟨50, _⟩ => ⟨S16384x4, .i32⟩
  | .hbm, ⟨51, _⟩ => ⟨S16384x4, .i1⟩
  | .hbm, ⟨52, _⟩ => ⟨S16384x4, .f32⟩
  | .hbm, ⟨53, _⟩ => ⟨S16384x4x8, .f32⟩
  | .hbm, ⟨54, _⟩ => ⟨S1x4x8, .f32⟩
  | .hbm, ⟨55, _⟩ => ⟨S16384x4x8, .f32⟩
  | .hbm, ⟨56, _⟩ => ⟨S16384x4x8, .f32⟩
  | .hbm, ⟨57, _⟩ => ⟨S16384x8, .f32⟩
  | .hbm, ⟨58, _⟩ => ⟨S16384x2, .f32⟩
  | .hbm, ⟨59, _⟩ => ⟨S16384x2, .i32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384x1, .f32⟩
  | .hbm, ⟨66, _⟩ => ⟨S16384x2, .f32⟩
  | .hbm, ⟨67, _⟩ => ⟨S16384x2, .f32⟩
  | .hbm, ⟨68, _⟩ => ⟨S16384x2, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x2, .f32⟩
  | .hbm, ⟨73, _⟩ => ⟨S16384x2, .f32⟩
  | .hbm, ⟨74, _⟩ => ⟨S16384x2, .f32⟩
  | .hbm, ⟨75, _⟩ => ⟨S16384x2, .f32⟩
  | .hbm, ⟨76, _⟩ => ⟨S_, .i32⟩
  | .hbm, ⟨77, _⟩ => ⟨S16384x1, .i32⟩
  | .hbm, ⟨78, _⟩ => ⟨S16384x1, .i32⟩
  | .hbm, ⟨79, _⟩ => ⟨S16384x2, .i32⟩
  | .hbm, ⟨80, _⟩ => ⟨S16384x2, .i32⟩
  | .hbm, ⟨81, _⟩ => ⟨S16384x2x1, .i32⟩
  | .hbm, ⟨82, _⟩ => ⟨S1x1x32, .i32⟩
  | .hbm, ⟨83, _⟩ => ⟨S16384x2x32, .i32⟩
  | .hbm, ⟨84, _⟩ => ⟨S16384x2x32, .i32⟩
  | .hbm, ⟨85, _⟩ => ⟨S16384x2x32, .i1⟩
  | .hbm, ⟨86, _⟩ => ⟨S16384x2x32, .f32⟩
  | .hbm, ⟨87, _⟩ => ⟨S16384x2x1, .f32⟩
  | .hbm, ⟨88, _⟩ => ⟨S16384x2x32, .f32⟩
  | .hbm, ⟨89, _⟩ => ⟨S16384x2x32, .f32⟩
  | .hbm, ⟨90, _⟩ => ⟨S_, .f32⟩
  | .hbm, ⟨91, _⟩ => ⟨S16384x32, .f32⟩
  | .hbm, ⟨92, _⟩ => ⟨S16384x32x256, .f32⟩
  | .hbm, ⟨93, _⟩ => ⟨S16384x32x256, .f32⟩
  | .hbm, ⟨94, _⟩ => ⟨S16384x32x256, .f32⟩
  | .hbm, ⟨95, _⟩ => ⟨S16384x32x256, .f32⟩
  | .hbm, ⟨96, _⟩ => ⟨S_, .f32⟩
  | .hbm, ⟨97, _⟩ => ⟨S16384x32x256, .f32⟩
  | .hbm, ⟨98, _⟩ => ⟨S16384x32x256, .f32⟩
  | .hbm, ⟨99, _⟩ => ⟨S_, .f32⟩
  | .hbm, ⟨100, _⟩ => ⟨S16384x32x256, .f32⟩
  | .hbm, ⟨101, _⟩ => ⟨S16384x32x256, .f32⟩
  | .hbm, ⟨102, _⟩ => ⟨S16384x32x256, .f32⟩
  | .hbm, ⟨103, _⟩ => ⟨S16384x32x256, .f32⟩
  | .hbm, ⟨104, _⟩ => ⟨S16384x32x1, .f32⟩
  | .hbm, ⟨105, _⟩ => ⟨S16384x32x256, .f32⟩
  | .hbm, ⟨106, _⟩ => ⟨S16384x32x256, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384, .f32⟩
  | .hbm, ⟨112, _⟩ => ⟨S16384x1, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | .hbm, ⟨120, _⟩ => ⟨S16384x1024, .f32⟩
  | .hbm, ⟨121, _⟩ => ⟨S16384x1024, .f32⟩
  | .hbm, ⟨122, _⟩ => ⟨S1x1024, .f32⟩
  | .hbm, ⟨123, _⟩ => ⟨S16384x1024, .f32⟩
  | .hbm, ⟨124, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_values : Ref sig .tc := ⟨.hbm, 44, rfl⟩
abbrev main_indices : Ref sig .tc := ⟨.hbm, 45, rfl⟩
abbrev main_v28 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_values_5 : Ref sig .tc := ⟨.hbm, 58, rfl⟩
abbrev main_indices_6 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_11 : Ref sig .tc := ⟨.hbm, 110, rfl⟩
abbrev main_v67 : Ref sig .tc := ⟨.hbm, 111, rfl⟩
abbrev main_v68 : Ref sig .tc := ⟨.hbm, 112, rfl⟩
abbrev main_cst_12 : Ref sig .tc := ⟨.hbm, 113, rfl⟩
abbrev main_v69 : Ref sig .tc := ⟨.hbm, 114, rfl⟩
abbrev main_v70 : Ref sig .tc := ⟨.hbm, 115, rfl⟩
abbrev main_cst_13 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== Kernel3.lean ====
abbrev S2x8192x8x64 : Shape := ⟨4, ![2, 8192, 8, 64]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S256x512 : Shape := ⟨2, ![256, 512]⟩
abbrev S256x1024 : Shape := ⟨2, ![256, 1024]⟩
abbrev S16384x256 : Shape := ⟨2, ![16384, 256]⟩
abbrev S16384x1024 : Shape := ⟨2, ![16384, 1024]⟩
abbrev S16384x512 : Shape := ⟨2, ![16384, 512]⟩
abbrev S2x8x8192x64 : Shape := ⟨4, ![2, 8, 8192, 64]⟩
abbrev S16x8192x64 : Shape := ⟨3, ![16, 8192, 64]⟩
abbrev S2x8x8192x32 : Shape := ⟨4, ![2, 8, 8192, 32]⟩
abbrev S16x8192x32 : Shape := ⟨3, ![16, 8192, 32]⟩
abbrev S16x8192x96 : Shape := ⟨3, ![16, 8192, 96]⟩
abbrev S_ : Shape := ⟨0, ![]⟩
abbrev S16x1x8192x96 : Shape := ⟨4, ![16, 1, 8192, 96]⟩
abbrev S2x1x8192x32 : Shape := ⟨4, ![2, 1, 8192, 32]⟩
abbrev S16x1x8192x64 : Shape := ⟨4, ![16, 1, 8192, 64]⟩
abbrev S1x1x512x96 : Shape := ⟨4, ![1, 1, 512, 96]⟩
abbrev S1x8192x96 : Shape := ⟨3, ![1, 8192, 96]⟩
abbrev S1x8192x64 : Shape := ⟨3, ![1, 8192, 64]⟩
abbrev S1x1x512x64 : Shape := ⟨4, ![1, 1, 512, 64]⟩
abbrev S512x128 : Shape := ⟨2, ![512, 128]⟩
abbrev S512x64 : Shape := ⟨2, ![512, 64]⟩
abbrev S1x512x96 : Shape := ⟨3, ![1, 512, 96]⟩
abbrev S512x96 : Shape := ⟨2, ![512, 96]⟩
abbrev S512x512 : Shape := ⟨2, ![512, 512]⟩
abbrev S512 : Shape := ⟨1, ![512]⟩
abbrev S512x1 : Shape := ⟨2, ![512, 1]⟩
abbrev S1x512x64 : Shape := ⟨3, ![1, 512, 64]⟩

abbrev nBuf : Space → Nat
  | .hbm => 40
  | .vmem => 11
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x256, .f32⟩
  | .hbm, ⟨3, _⟩ => ⟨S2x8192x32, .f32⟩
  | .hbm, ⟨4, _⟩ => ⟨S256x8x64, .f32⟩
  | .hbm, ⟨5, _⟩ => ⟨S256x8x64, .f32⟩
  | .hbm, ⟨6, _⟩ => ⟨S256x512, .f32⟩
  | .hbm, ⟨7, _⟩ => ⟨S256x512, .f32⟩
  | .hbm, ⟨8, _⟩ => ⟨S256x1024, .f32⟩
  | .hbm, ⟨9, _⟩ => ⟨S16384x256, .f32⟩
  | .hbm, ⟨10, _⟩ => ⟨S16384x1024, .f32⟩
  | .hbm, ⟨11, _⟩ => ⟨S16384x512, .f32⟩
  | .hbm, ⟨12, _⟩ => ⟨S2x8192x8x64, .f32⟩
  | .hbm, ⟨13, _⟩ => ⟨S2x8x8192x64, .f32⟩
  | .hbm, ⟨14, _⟩ => ⟨S16x8192x64, .f32⟩
  | .hbm, ⟨15, _⟩ => ⟨S16384x256, .f32⟩
  | .hbm, ⟨16, _⟩ => ⟨S2x8192x8x32, .f32⟩
  | .hbm, ⟨17, _⟩ => ⟨S2x8x8192x32, .f32⟩
  | .hbm, ⟨18, _⟩ => ⟨S16x8192x32, .f32⟩
  | .hbm, ⟨19, _⟩ => ⟨S16x8192x96, .f32⟩
  | .hbm, ⟨20, _⟩ => ⟨S_, .f32⟩
  | .hbm, ⟨21, _⟩ => ⟨S16x8192x96, .f32⟩
  | .hbm, ⟨22, _⟩ => ⟨S16x8192x96, .f32⟩
  | .hbm, ⟨23, _⟩ => ⟨S16x8192x96, .bf16⟩
  | .hbm, ⟨24, _⟩ => ⟨S16x1x8192x96, .bf16⟩
  | .hbm, ⟨25, _⟩ => ⟨S16384x512, .f32⟩
  | .hbm, ⟨26, _⟩ => ⟨S2x8192x8x64, .f32⟩
  | .hbm, ⟨27, _⟩ => ⟨S2x8x8192x64, .f32⟩
  | .hbm, ⟨28, _⟩ => ⟨S16x8192x64, .f32⟩
  | .hbm, ⟨29, _⟩ => ⟨S2x1x8192x32, .f32⟩
  | .hbm, ⟨30, _⟩ => ⟨S2x8x8192x32, .f32⟩
  | .hbm, ⟨31, _⟩ => ⟨S16x8192x32, .f32⟩
  | .hbm, ⟨32, _⟩ => ⟨S16x8192x96, .f32⟩
  | .hbm, ⟨33, _⟩ => ⟨S16x8192x96, .bf16⟩
  | .hbm, ⟨34, _⟩ => ⟨S16384x512, .f32⟩
  | .hbm, ⟨35, _⟩ => ⟨S2x8192x8x64, .f32⟩
  | .hbm, ⟨36, _⟩ => ⟨S2x8x8192x64, .f32⟩
  | .hbm, ⟨37, _⟩ => ⟨S16x8192x64, .f32⟩
  | .hbm, ⟨38, _⟩ => ⟨S16x8192x64, .bf16⟩
  | .hbm, ⟨39, _⟩ => ⟨S16x1x8192x64, .f32⟩
  | .local _ .vmem, ⟨0, _⟩ => ⟨S1x1x512x96, .bf16⟩
  | .local _ .vmem, ⟨1, _⟩ => ⟨S1x1x512x96, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x1x512x64, .f32⟩
  | .local _ .vmem, ⟨7, _⟩ => ⟨S1x1x512x64, .f32⟩
  | .local _ .vmem, ⟨8, _⟩ => ⟨S512x128, .f32⟩
  | .local _ .vmem, ⟨9, _⟩ => ⟨S512x128, .f32⟩
  | .local _ .vmem, ⟨10, _⟩ => ⟨S512x64, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_12 : BitVec 32 := 1#32
  ⟨c0_i32_11, v19, c1_i32_12⟩
def k0_mult1 (i : grid0.Coords) (k0_t1 : Fin (k0_t1_loop i).trips) : BitVec 32 :=
  let c0_i32_11 : BitVec 32 := 0#32
  let c1_i32_12 : BitVec 32 := 1#32
  let arg9 : BitVec 32 := Scf.iv c0_i32_11 c1_i32_12 k0_t1
  let c512_i32_43 : BitVec 32 := 512#32
  let v75 : BitVec 32 := Scalar.muli arg9 c512_i32_43
  v75
def k0_off1 (i : grid0.Coords) (k0_t1 : Fin (k0_t1_loop i).trips) : Fin 3 → Nat :=
  let c0_44 : Index := 0#32
  let c0_i32_11 : BitVec 32 := 0#32
  let c1_i32_12 : BitVec 32 := 1#32
  let arg9 : BitVec 32 := Scf.iv c0_i32_11 c1_i32_12 k0_t1
  let c512_i32_43 : BitVec 32 := 512#32
  let v75 : BitVec 32 := Scalar.muli arg9 c512_i32_43
  let v76 : BitVec 32 := v75
  let v77 : Index := Scalar.indexCast v76
  let c0_45 : Index := 0#32
  ![0, v77.toNat, 0]
def k0_off2 (i : grid0.Coords) (k0_t1 : Fin (k0_t1_loop i).trips) : Fin 3 → Nat :=
  let c0_57 : Index := 0#32
  let c0_i32_11 : BitVec 32 := 0#32
  let c1_i32_12 : BitVec 32 := 1#32
  let arg9 : BitVec 32 := Scf.iv c0_i32_11 c1_i32_12 k0_t1
  let c512_i32_43 : BitVec 32 := 512#32
  let v75 : BitVec 32 := Scalar.muli arg9 c512_i32_43
  let v76 : BitVec 32 := v75
  let v104 : Index := Scalar.indexCast v76
  let c0_58 : Index := 0#32
  ![0, v104.toNat, 0]
@[reducible] def k0_t2_loop (i : grid0.Coords) : Scf.Loop 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let v16 : BitVec 32 := Scalar.addi c0_i32_11 v15
  let c1_i32_13 : BitVec 32 := 1#32
  ⟨v19, v16, c1_i32_13⟩
def k0_mult2 (i : grid0.Coords) (k0_t2 : Fin (k0_t2_loop i).trips) : BitVec 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg9 : BitVec 32 := Scf.iv v19 c1_i32_13 k0_t2
  let c512_i32_43 : BitVec 32 := 512#32
  let v75 : BitVec 32 := Scalar.muli arg9 c512_i32_43
  v75
def k0_off3 (i : grid0.Coords) (k0_t2 : Fin (k0_t2_loop i).trips) : Fin 3 → Nat :=
  let c0_44 : Index := 0#32
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg9 : BitVec 32 := Scf.iv v19 c1_i32_13 k0_t2
  let c512_i32_43 : BitVec 32 := 512#32
  let v75 : BitVec 32 := Scalar.muli arg9 c512_i32_43
  let v76 : BitVec 32 := v75
  let v77 : Index := Scalar.indexCast v76
  let c0_45 : Index := 0#32
  ![0, v77.toNat, 0]
def k0_off4 (i : grid0.Coords) (k0_t2 : Fin (k0_t2_loop i).trips) : Fin 3 → Nat :=
  let c0_57 : Index := 0#32
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg9 : BitVec 32 := Scf.iv v19 c1_i32_13 k0_t2
  let c512_i32_43 : BitVec 32 := 512#32
  let v75 : BitVec 32 := Scalar.muli arg9 c512_i32_43
  let v76 : BitVec 32 := v75
  let v104 : Index := Scalar.indexCast v76
  let c0_58 : Index := 0#32
  ![0, v104.toNat, 0]
def k0_mult3 (i : grid0.Coords) : BitVec 32 :=
  let arg1 : BitVec 32 := BitVec.ofNat 32 (i 1).val
  let c512_i32 : BitVec 32 := 512#32
  let v20 : BitVec 32 := Scalar.muli arg1 c512_i32
  v20
def k0_off5 (i : grid0.Coords) : Fin 3 → Nat :=
  let c0_14 : Index := 0#32
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_15 : Index := 0#32
  ![0, v22.toNat, 0]
def k0_off6 (i : grid0.Coords) : Fin 3 → Nat :=
  let c0_28 : Index := 0#32
  let arg1 : BitVec 32 := BitVec.ofNat 32 (i 1).val
  let c512_i32 : BitVec 32 := 512#32
  let v20 : BitVec 32 := Scalar.muli arg1 c512_i32
  let v21 : BitVec 32 := v20
  let v56 : Index := Scalar.indexCast v21
  let c0_29 : Index := 0#32
  ![0, v56.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x8x64 : Shape := ⟨4, ![2, 8192, 8, 64]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S8192 : Shape := ⟨1, ![8192]⟩
abbrev S8x256x2x8192 : Shape := ⟨4, ![8, 256, 2, 8192]⟩
abbrev S2x8192x8x256 : Shape := ⟨4, ![2, 8192, 8, 256]⟩
abbrev S2x8192x8192x8 : Shape := ⟨4, ![2, 8192, 8192, 8]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x256x8x8192 : Shape := ⟨4, ![2, 256, 8, 8192]⟩
abbrev S8x64x2x8192 : Shape := ⟨4, ![8, 64, 2, 8192]⟩
abbrev S2x8x8192x64 : Shape := ⟨4, ![2, 8, 8192, 64]⟩
abbrev S16x1x8192x64 : Shape := ⟨4, ![16, 1, 8192, 64]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x256, .f32⟩
  | .hbm, ⟨3, _⟩ => ⟨S2x8192x32, .f32⟩
  | .hbm, ⟨4, _⟩ => ⟨S256x8x64, .f32⟩
  | .hbm, ⟨5, _⟩ => ⟨S256x8x64, .f32⟩
  | .hbm, ⟨6, _⟩ => ⟨S8192, .i32⟩
  | .hbm, ⟨7, _⟩ => ⟨S8x256x2x8192, .f32⟩
  | .hbm, ⟨8, _⟩ => ⟨S2x8192x8x256, .f32⟩
  | .hbm, ⟨9, _⟩ => ⟨S2x8192x8192x8, .f32⟩
  | .hbm, ⟨10, _⟩ => ⟨S2x8x8192x8192, .f32⟩
  | .hbm, ⟨11, _⟩ => ⟨S2x8192x8192x8, .f32⟩
  | .hbm, ⟨12, _⟩ => ⟨S2x8x8192x8192, .f32⟩
  | .hbm, ⟨13, _⟩ => ⟨S2x8x8192x8192, .f32⟩
  | .hbm, ⟨14, _⟩ => ⟨S_, .f32⟩
  | .hbm, ⟨15, _⟩ => ⟨S2x8x8192x8192, .f32⟩
  | .hbm, ⟨16, _⟩ => ⟨S2x8x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S2x8x8192x8192, .i1⟩
  | .hbm, ⟨25, _⟩ => ⟨S2x8x8192x8192, .f32⟩
  | .hbm, ⟨26, _⟩ => ⟨S2x8x8192x8192, .f32⟩
  | .hbm, ⟨27, _⟩ => ⟨S_, .f32⟩
  | .hbm, ⟨28, _⟩ => ⟨S2x8x8192, .f32⟩
  | .hbm, ⟨29, _⟩ => ⟨S_, .f32⟩
  | .hbm, ⟨30, _⟩ => ⟨S2x8x8192, .f32⟩
  | .hbm, ⟨31, _⟩ => ⟨S2x8x8192, .f32⟩
  | .hbm, ⟨32, _⟩ => ⟨S2x8x8192x1, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S_, .f32⟩
  | .hbm, ⟨37, _⟩ => ⟨S2x8x8192, .f32⟩
  | .hbm, ⟨38, _⟩ => ⟨S2x8x8192x1, .f32⟩
  | .hbm, ⟨39, _⟩ => ⟨S2x8x8192x8192, .f32⟩
  | .hbm, ⟨40, _⟩ => ⟨S2x8x8192x8192, .f32⟩
  | .hbm, ⟨41, _⟩ => ⟨S2x256x8x8192, .f32⟩
  | .hbm, ⟨42, _⟩ => ⟨S2x8192x8x256, .f32⟩
  | .hbm, ⟨43, _⟩ => ⟨S8x64x2x8192, .f32⟩
  | .hbm, ⟨44, _⟩ => ⟨S2x8192x8x64, .f32⟩
  | .hbm, ⟨45, _⟩ => ⟨S2x8x8192x64, .f32⟩
  | .hbm, ⟨46, _⟩ => ⟨S16x1x8192x64, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Trip.lean ====
/- One trip of the scan's loop: the two steps it takes, as functions of the arrays a block stages and of the state
   before them, and the run of the printed trip to exactly those values. -/
module

public import proofs.«01_k».proof.Proof.Gen.KernelIdeal.Frame
public import proofs.«01_k».proof.Proof.Gen.KernelIdeal.Loops
public import Idealize.ShloMosaic.Lib.VecWindow
public import Idealize.ShloMosaic.Lib.Pipeline.ValueKit.Acc
public import Idealize.ShloMosaic.Lib.TopK.GroupedStream

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one trip computes -/

/-- The trips of the loop, over the block's 64 pairs of steps. -/
abbrev Trip := Fin k0_t1_loop.trips

section Values

variable (v32 v33 : IVec S128x256 32) (k : Trip)
  (xw xk xq xa : Vec F S16x128x64 .f32) (xv : Vec F S16x64x128 .bf16) (B : Vec F S16x128x64 .f32) (G : Vec F S16x128x128 .f32)

/-- Row `2k` of a staged array: the trip's first step. -/
abbrev rowE (x : Vec F S16x128x64 .f32) : Vec F S16x1x64 .f32 := View.ld x (Rect.unit (s := S16x128x64) (k0_off1 k) S16x1x64.size (k0_off1_inb k))
/-- Row `2k + 1`: its second step. -/
abbrev rowO (x : Vec F S16x128x64 .f32) : Vec F S16x1x64 .f32 := View.ld x (Rect.unit (s := S16x128x64) (k0_off3 k) S16x1x64.size (k0_off3_inb k))
abbrev rowE' (x : Vec F S16x128x128 .f32) : Vec F S16x1x128 .f32 := View.ld x (Rect.unit (s := S16x128x128) (k0_off2 k) S16x1x128.size (k0_off2_inb k))
abbrev rowO' (x : Vec F S16x128x128 .f32) : Vec F S16x1x128 .f32 := View.ld x (Rect.unit (s := S16x128x128) (k0_off4 k) S16x1x128.size (k0_off4_inb k))
/-- The column of values of the first step, and of the second, picked by the one-hot product. -/
abbrev colE : FVec F S16x64x128 .f32 := k0_pay4 v32 v33 0#32 1#32 k xv
abbrev colO : FVec F S16x64x128 .f32 := k0_pay11 (k0_pay3 v32 v33 0#32 1#32 k xv)

/-- The state after the trip's first step. -/
def stepE (S : Vec F S16x64x64 .f32) : Vec F S16x64x64 .f32 :=
  k0_pay8 (colE v32 v33 k xv) (k0_pay5 S (rowE k xq)) (k0_pay7 S (rowE k xw)) (rowE k xa) (rowE k xk)
/-- What its first step stores as `y`. -/
def outE (S : Vec F S16x64x64 .f32) : Vec F S16x64x128 .f32 := k0_pay9 (colE v32 v33 k xv) (k0_pay6 S (rowE k B)) (rowE' k G)
/-- The state after its second step, from that after its first. -/
def stepO (S : Vec F S16x64x64 .f32) : Vec F S16x64x64 .f32 :=
  k0_pay13 (colO v32 v33 k xv) S (k0_pay12 S (rowO k xq)) (rowO k xw) (rowO k xa) (rowO k xk)
/-- What its second step stores as `y`. -/
def outO (S : Vec F S16x64x64 .f32) : Vec F S16x64x128 .f32 := k0_pay1 (k0_pay14 (colO v32 v33 k xv) S (rowO k B) (rowO' k G))

end Values

/-- The lanes the first step's store writes, and the second's. -/
abbrev laneE (v3 : IVec S1x64x128 32) (k : Trip) : IVec S16x64x128 1 := k0_pay10 v3 (Scalar.muli 2#32 (Scf.iv 0#32 1#32 k))
abbrev laneO (v3 : IVec S1x64x128 32) (k : Trip) : IVec S16x64x128 1 := k0_pay2 (k0_pay15 v3 (Scalar.addi (Scalar.muli 2#32 (Scf.iv 0#32 1#32 k)) 1#32))

omit [FloatOps F] in
/-- A store under a mask through the whole of a buffer: the lanes the mask names take the payload, the others stay. -/
theorem read_lanes {κ : Kind} {sp : Space} {s : Shape} {e : EltTy} (v : View sig κ sp s e) (f : v.ty.Contents (Elt F)) {off : Fin s.rank → ℕ}
    (inb : ∀ a, off a + s.size a ≤ s.size a) (w : s.Idx → Elt F e) (M : IVec s 1) (x : s.Idx) :
    v.read (Elt F) ((v.slice (Rect.unit off s.size inb)).write (Elt F) f w (IVec.on M)) x = if M x = 1 then w x else v.read (Elt F) f x := by
  have h := View.read_maskedChain_emb (n := 1) v (Rect.unit off s.size inb) (fun _ => w) (fun _ => M) f 1 le_rfl x
  have hx : (Rect.unit off s.size inb).emb x = x := Rect.emb_unit_full inb x
  rw [View.selChain_succ_apply, hx] at h
  refine h.trans ?_
  congr 1
  show v.read (Elt F) f ((Rect.unit off s.size inb).emb x) = _
  rw [hx]

/-! ## The printed trip runs to those values -/

set_option maxHeartbeats 1000000 in
/-- One trip, run: the inputs and the block's two tables as they were, the state and the two stored lanes of `y` as above. -/
theorem trip (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole) (v3 : IVec S1x64x128 32) (v32 v33 : IVec S128x256 32) (k : Trip)
    (xw xk xq xa : Vec F S16x128x64 .f32) (xv : Vec F S16x64x128 .bf16) (S : Vec F S16x64x64 .f32) (B : Vec F S16x128x64 .f32) (G : Vec F S16x128x128 .f32) (D : Vec F S16x64x128 .f32) :
    (iprop(owns (c : Thread nD τ) arg2 fullShare xw ∗ owns (c : Thread nD τ) arg3 fullShare xk ∗ owns (c : Thread nD τ) arg4 fullShare xq
      ∗ owns (c : Thread nD τ) arg5 fullShare xa ∗ owns (c : Thread nD τ) arg6 fullShare xv ∗ owns (c : Thread nD τ) arg9 fullShare S
      ∗ owns (c : Thread nD τ) arg10 fullShare D ∗ owns (c : Thread nD τ) arg11 fullShare B ∗ owns (c : Thread nD τ) arg12 fullShare G) : sProp 𝕄)
    ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 v3 v32 v33 k ()) (fun _ => iprop(owns (c : Thread nD τ) arg2 fullShare xw ∗ owns (c : Thread nD τ) arg3 fullShare xk ∗ owns (c : Thread nD τ) arg4 fullShare xq
      ∗ owns (c : Thread nD τ) arg5 fullShare xa ∗ owns (c : Thread nD τ) arg6 fullShare xv
      ∗ owns (c : Thread nD τ) arg9 fullShare (stepO v32 v33 k xw xk xq xa xv (stepE v32 v33 k xw xk xq xa xv S))
      ∗ owns (c : Thread nD τ) arg10 fullShare (fun x => if laneO v3 k x = 1 then outO v32 v33 k xv B G (stepE v32 v33 k xw xk xq xa xv S) x
          else if laneE v3 k x = 1 then outE v32 v33 k xv B G S x else D x)
      ∗ owns (c : Thread nD τ) arg11 fullShare B ∗ owns (c : Thread nD τ) arg12 fullShare G)) := by
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩⟩
  obtain rfl := harg2.eq_unread hf2; obtain rfl := harg3.eq_unread hf3; obtain rfl := harg4.eq_unread hf4; obtain rfl := harg5.eq_unread hf5
  obtain rfl := harg6.eq_unread hf6; obtain rfl := harg9.eq_unread hf9; obtain rfl := harg10.eq_unread hf10; obtain rfl := harg11.eq_unread hf11; obtain rfl := harg12.eq_unread hf12
  sl_unfold [k0_t1_body]
  simp only [k0_part1_eq_skeleton, k0_part2_eq_skeleton, k0_part3_eq_skeleton]
  sl_exec
  sl_step
  isplitl [H2]
  · iexists _
    isplitr; · ipureintro; exact harg2.read_unread _
    iexact H2
  isplitl [H3]
  · iexists _
    isplitr; · ipureintro; exact harg3.read_unread _
    iexact H3
  isplitl [H4]
  · iexists _
    isplitr; · ipureintro; exact harg4.read_unread _
    iexact H4
  isplitl [H5]
  · iexists _
    isplitr; · ipureintro; exact harg5.read_unread _
    iexact H5
  isplitl [H6]
  · iexists _
    isplitr; · ipureintro; exact harg6.read_unread _
    iexact H6
  isplitl [H9]
  · iexists _
    isplitr
    swap
    · iexact H9
    ipureintro
    rw [View.read_writes_full]
    sl_unfold_words
    simp (disch := decide) only [View.readAt_eq_ld, Memref.IsWhole.read_unread, View.ld_unit_lit', View.readCov_unit_lit']
    rfl
  isplitl [H10]
  · iexists _
    isplitr
    swap
    · iexact H10
    ipureintro
    sl_unfold_words
    funext x
    refine (read_lanes (F := F) arg10.view _ _ _ _ x).trans ?_
    refine (if_congr Iff.rfl rfl (read_lanes (F := F) arg10.view _ _ _ _ x)).trans ?_
    simp (disch := decide) only [View.readAt_eq_ld, Memref.IsWhole.read_unread, View.ld_unit_lit', View.readCov_unit_lit']
    rfl
  isplitl [H11]
  · iexists _
    isplitr; · ipureintro; exact harg11.read_unread _
    iexact H11
  iexists _
  isplitr; · ipureintro; exact harg12.read_unread _
  iexact H12

end Cert.KernelIdeal.Scan
end
-- ==== Proof.Loop.lean ====
/- The scan's loop over a block: the state and the block of `y` before each trip, and the invariant that says so. -/
module

public import proofs.«01_k».proof.Proof.Trip
public import Idealize.ShloMosaic.Lib.Affine

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What a block computes -/

section Values

variable (v3 : IVec S1x64x128 32) (v32 v33 : IVec S128x256 32)
  (xw xk xq xa : Vec F S16x128x64 .f32) (xv : Vec F S16x64x128 .bf16) (B : Vec F S16x128x64 .f32) (G : Vec F S16x128x128 .f32)

/-- The state before trip `n` of the block, from the state `s` at its start. -/
def stateAt (s : Vec F S16x64x64 .f32) : ℕ → Vec F S16x64x64 .f32
  | 0 => s
  | n + 1 => if h : n < k0_t1_loop.trips then stepO v32 v33 ⟨n, h⟩ xw xk xq xa xv (stepE v32 v33 ⟨n, h⟩ xw xk xq xa xv (stateAt s n)) else stateAt s n

theorem stateAt_succ (s : Vec F S16x64x64 .f32) (k : Trip) : stateAt v32 v33 xw xk xq xa xv s (k.val + 1)
    = stepO v32 v33 k xw xk xq xa xv (stepE v32 v33 k xw xk xq xa xv (stateAt v32 v33 xw xk xq xa xv s k.val)) := by
  rw [stateAt, dif_pos k.isLt]

/-- The block of `y` before trip `n`, from what the buffer held before the loop. -/
def outAt (s : Vec F S16x64x64 .f32) (D : Vec F S16x64x128 .f32) : ℕ → Vec F S16x64x128 .f32
  | 0 => D
  | n + 1 => if h : n < k0_t1_loop.trips then
      fun x => if laneO v3 ⟨n, h⟩ x = 1 then outO v32 v33 ⟨n, h⟩ xv B G (stepE v32 v33 ⟨n, h⟩ xw xk xq xa xv (stateAt v32 v33 xw xk xq xa xv s n)) x
          else if laneE v3 ⟨n, h⟩ x = 1 then outE v32 v33 ⟨n, h⟩ xv B G (stateAt v32 v33 xw xk xq xa xv s n) x else outAt s D n x
    else outAt s D n

theorem outAt_succ (s : Vec F S16x64x64 .f32) (D : Vec F S16x64x128 .f32) (k : Trip) : outAt v3 v32 v33 xw xk xq xa xv B G s D (k.val + 1)
    = fun x => if laneO v3 k x = 1 then outO v32 v33 k xv B G (stepE v32 v33 k xw xk xq xa xv (stateAt v32 v33 xw xk xq xa xv s k.val)) x
          else if laneE v3 k x = 1 then outE v32 v33 k xv B G (stateAt v32 v33 xw xk xq xa xv s k.val) x else outAt v3 v32 v33 xw xk xq xa xv B G s D k.val x := by
  rw [outAt, dif_pos k.isLt]

end Values

/-! ## The loop's invariant -/

section Loop

variable (v3 : IVec S1x64x128 32) (v32 v33 : IVec S128x256 32)
  (xw xk xq xa : Vec F S16x128x64 .f32) (xv : Vec F S16x64x128 .bf16)

/-- A whole memref's contents before trip `n`: those it was found at before the first, later the stated values. -/
def heldAt {κ : Kind} {sp : Space} {s : Shape} {e : EltTy} {M : Memref sig κ sp s e} (h : M.IsWhole) (f : M.view.ty.Contents (Elt F))
    (X : ℕ → s.Idx → Elt F e) : ℕ → M.view.ty.Contents (Elt F)
  | 0 => f
  | n + 1 => h.unread (X (n + 1))

omit [FloatOps F] in
theorem read_heldAt {κ : Kind} {sp : Space} {s : Shape} {e : EltTy} {M : Memref sig κ sp s e} (h : M.IsWhole) (f : M.view.ty.Contents (Elt F))
    (X : ℕ → s.Idx → Elt F e) (h0 : X 0 = M.view.read (Elt F) f) (n : ℕ) : M.view.read (Elt F) (heldAt h f X n) = X n := by
  cases n with
  | zero => exact h0.symm
  | succ n => exact h.read_unread _

/-- The resources the loop touches before trip `n`. -/
abbrev loopRes (c : Dev nD) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole)
    (f9 : arg9.view.ty.Contents (Elt F)) (f10 : arg10.view.ty.Contents (Elt F)) (f11 : arg11.view.ty.Contents (Elt F)) (f12 : arg12.view.ty.Contents (Elt F)) (n : ℕ) : sProp 𝕄 :=
  iprop((arg2.view.loc (c : Thread nD τ) ↦[arg2.view.set]{fullShare} harg2.unread xw) ∗ (arg3.view.loc (c : Thread nD τ) ↦[arg3.view.set]{fullShare} harg3.unread xk) ∗ (arg4.view.loc (c : Thread nD τ) ↦[arg4.view.set]{fullShare} harg4.unread xq) ∗ (arg5.view.loc (c : Thread nD τ) ↦[arg5.view.set]{fullShare} harg5.unread xa) ∗ (arg6.view.loc (c : Thread nD τ) ↦[arg6.view.set]{fullShare} harg6.unread xv) ∗ (arg9.view.loc (c : Thread nD τ) ↦[arg9.view.set]{fullShare} heldAt harg9 f9 (stateAt v32 v33 xw xk xq xa xv (arg9.view.read (Elt F) f9)) n) ∗ (arg10.view.loc (c : Thread nD τ) ↦[arg10.view.set]{fullShare} heldAt harg10 f10 (outAt v3 v32 v33 xw xk xq xa xv (arg11.view.read (Elt F) f11) (arg12.view.read (Elt F) f12) (arg9.view.read (Elt F) f9) (arg10.view.read (Elt F) f10)) n) ∗ (arg11.view.loc (c : Thread nD τ) ↦[arg11.view.set]{fullShare} f11) ∗ (arg12.view.loc (c : Thread nD τ) ↦[arg12.view.set]{fullShare} f12))

omit [FloatOps F] in
theorem raw_owns {κ : Kind} {sp : Space} {s : Shape} {e : EltTy} (c : Dev nD) (M : Memref sig .tc sp s e) (f : M.view.ty.Contents (Elt F)) (x : s.Idx → Elt F e) (hx : M.view.read (Elt F) f = x) :
    ((M.view.loc (c : Thread nD τ) ↦[M.view.set]{fullShare} f) : sProp 𝕄) ⊢ owns (c : Thread nD τ) M fullShare x := by
  unfold owns
  iintro H
  iexists f
  isplitr
  · ipureintro; exact hx
  iexact H
omit [FloatOps F] in
theorem owns_raw {κ : Kind} {sp : Space} {s : Shape} {e : EltTy} (c : Dev nD) (M : Memref sig .tc sp s e) (h : M.IsWhole) (f : M.view.ty.Contents (Elt F)) (x : s.Idx → Elt F e) (hx : M.view.read (Elt F) f = x) :
    (owns (c : Thread nD τ) M fullShare x : sProp 𝕄) ⊢ (M.view.loc (c : Thread nD τ) ↦[M.view.set]{fullShare} f) := by
  unfold owns
  iintro ⟨%g, %hg, H⟩
  obtain rfl : g = f := h.read_bijective.1 (hg.trans hx.symm)
  iexact H

set_option warn.classDefReducibility false in
set_option maxHeartbeats 1000000 in
/-- THE LOOP'S INVARIANT: the arrays it reads as they are, the state and `y` as the trips before leave them. -/
@[sl_loop] def loopInv (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole)
    (f9 : arg9.view.ty.Contents (Elt F)) (f10 : arg10.view.ty.Contents (Elt F)) (f11 : arg11.view.ty.Contents (Elt F)) (f12 : arg12.view.ty.Contents (Elt F)) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 v3 v32 v33 where
  inv n _ := loopRes v3 v32 v33 xw xk xq xa xv c arg1 harg1 arg2 harg2 arg3 harg3 arg4 harg4 arg5 harg5 arg6 harg6 arg7 harg7 arg8 harg8 arg9 harg9 arg10 harg10 arg11 harg11 arg12 harg12 f9 f10 f11 f12 n
  step k _ := by
    have e9 := read_heldAt harg9 f9 (stateAt v32 v33 xw xk xq xa xv (arg9.view.read (Elt F) f9)) rfl
    have e10 := read_heldAt harg10 f10 (outAt v3 v32 v33 xw xk xq xa xv (arg11.view.read (Elt F) f11) (arg12.view.read (Elt F) f12) (arg9.view.read (Elt F) f9) (arg10.view.read (Elt F) f10)) rfl
    have T := trip (F := F) c i arg1 harg1 arg2 harg2 arg3 harg3 arg4 harg4 arg5 harg5 arg6 harg6 arg7 harg7 arg8 harg8 arg9 harg9 arg10 harg10 arg11 harg11 arg12 harg12 v3 v32 v33 k xw xk xq xa xv (stateAt v32 v33 xw xk xq xa xv (arg9.view.read (Elt F) f9) k.val)
      (arg11.view.read (Elt F) f11) (arg12.view.read (Elt F) f12) (outAt v3 v32 v33 xw xk xq xa xv (arg11.view.read (Elt F) f11) (arg12.view.read (Elt F) f12) (arg9.view.read (Elt F) f9) (arg10.view.read (Elt F) f10) k.val)
    rw [← stateAt_succ, ← outAt_succ] at T
    dsimp only [loopRes]
    iintro ⟨H2, H3, H4, H5, H6, H9, H10, H11, H12⟩
    iapply (wp_wand_r Idealize.ShloMosaic.frame (wpE (defs₀ (F := F)) Variants.none (c : Thread nD τ) none) Set.univ)
    isplitl [H2 H3 H4 H5 H6 H9 H10 H11 H12]
    · iapply T
      isplitl [H2]
      · iapply (raw_owns (F := F) (κ := .tc) c arg2 _ _ (harg2.read_unread _)); iexact H2
      isplitl [H3]
      · iapply (raw_owns (F := F) (κ := .tc) c arg3 _ _ (harg3.read_unread _)); iexact H3
      isplitl [H4]
      · iapply (raw_owns (F := F) (κ := .tc) c arg4 _ _ (harg4.read_unread _)); iexact H4
      isplitl [H5]
      · iapply (raw_owns (F := F) (κ := .tc) c arg5 _ _ (harg5.read_unread _)); iexact H5
      isplitl [H6]
      · iapply (raw_owns (F := F) (κ := .tc) c arg6 _ _ (harg6.read_unread _)); iexact H6
      isplitl [H9]
      · iapply (raw_owns (F := F) (κ := .tc) c arg9 _ _ (e9 _)); iexact H9
      isplitl [H10]
      · iapply (raw_owns (F := F) (κ := .tc) c arg10 _ _ (e10 _)); iexact H10
      isplitl [H11]
      · iapply (raw_owns (F := F) (κ := .tc) c arg11 _ _ rfl); iexact H11
      iapply (raw_owns (F := F) (κ := .tc) c arg12 _ _ rfl); iexact H12
    · iintro %_ ⟨H2, H3, H4, H5, H6, H9, H10, H11, H12⟩
      isplitl [H2]
      · iapply (owns_raw (F := F) (κ := .tc) c arg2 harg2 _ _ (harg2.read_unread _)); iexact H2
      isplitl [H3]
      · iapply (owns_raw (F := F) (κ := .tc) c arg3 harg3 _ _ (harg3.read_unread _)); iexact H3
      isplitl [H4]
      · iapply (owns_raw (F := F) (κ := .tc) c arg4 harg4 _ _ (harg4.read_unread _)); iexact H4
      isplitl [H5]
      · iapply (owns_raw (F := F) (κ := .tc) c arg5 harg5 _ _ (harg5.read_unread _)); iexact H5
      isplitl [H6]
      · iapply (owns_raw (F := F) (κ := .tc) c arg6 harg6 _ _ (harg6.read_unread _)); iexact H6
      isplitl [H9]
      · iapply (owns_raw (F := F) (κ := .tc) c arg9 harg9 _ _ (e9 _)); iexact H9
      isplitl [H10]
      · iapply (owns_raw (F := F) (κ := .tc) c arg10 harg10 _ _ (e10 _)); iexact H10
      isplitl [H11]
      · iapply (owns_raw (F := F) (κ := .tc) c arg11 harg11 _ _ rfl); iexact H11
      iapply (owns_raw (F := F) (κ := .tc) c arg12 harg12 _ _ rfl); iexact H12

end Loop

end Cert.KernelIdeal.Scan
end
-- ==== Proof.Body.lean ====
/- The body of the scan at one block, run in its three forms: the first block, which zeroes the state; a block between; the
   last, which also writes the state out. Each leaves the block of `y` and the state after the block's 128 steps. -/
module

public import proofs.«01_k».proof.Proof.Loop
public import Idealize.ShloMosaic.Lib.Pointwise

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The lanes and the block -/

/-- The lane numbers along the steps of the block, and the two index planes of the one-hot matrix. -/
abbrev lanes : IVec S1x64x128 32 := iota .tc S1x64x128 32 [2] iota_S1x64x128_d2_w32
abbrev planeT : IVec S128x256 32 := iota .tc S128x256 32 [0] iota_S128x256_d0_w32
abbrev planeC : IVec S128x256 32 := iota .tc S128x256 32 [1] iota_S128x256_d1_w32

theorem trips_eq : k0_t1_loop.trips = 64 := by decide

/-- The induction variable's doubled word is the even step. -/
theorem even_word (k : Trip) : (Scalar.muli 2#32 (Scf.iv 0#32 1#32 k) : BitVec 32) = BitVec.ofNat 32 (2 * k.val) := by
  have h : k.val < 64 := Nat.lt_of_lt_of_eq k.isLt trips_eq
  obtain ⟨n, hn⟩ := k
  simp only [Scalar.muli, IntOp.muli, Scf.iv]
  apply BitVec.eq_of_toNat_eq
  simp
theorem odd_word (k : Trip) : (Scalar.addi (Scalar.muli 2#32 (Scf.iv 0#32 1#32 k)) 1#32 : BitVec 32) = BitVec.ofNat 32 (2 * k.val + 1) := by
  rw [even_word]
  apply BitVec.eq_of_toNat_eq
  simp [Scalar.addi, IntOp.addi]

theorem lane_word {a b : ℕ} (ha : a < 2 ^ 32) (hb : b < 2 ^ 32) : IntOp.cmpi CmpIPredicate.eq (BitVec.ofNat 32 a) (BitVec.ofNat 32 b) = 1 ↔ a = b := by
  have h : ∀ u v : BitVec 32, IntOp.cmpi CmpIPredicate.eq u v = 1 ↔ u = v := by
    intro u v; simp only [IntOp.cmpi]
    by_cases h : u = v
    · simp [h]
    · rw [beq_false_of_ne h]; simp [h]
  rw [h]
  constructor
  · intro e
    have := congrArg BitVec.toNat e
    rwa [BitVec.toNat_ofNat, BitVec.toNat_ofNat, Nat.mod_eq_of_lt ha, Nat.mod_eq_of_lt hb] at this
  · rintro rfl; rfl

theorem laneE_iff (k : Trip) (x : S16x64x128.Idx) : laneE lanes k x = 1 ↔ (x 2).val = 2 * k.val := by
  have h : k.val < 64 := Nat.lt_of_lt_of_eq k.isLt trips_eq
  have hx : (x 2).val < 128 := (x 2).isLt
  rw [laneE, even_word]
  pointwise [k0_pay10]
  exact lane_word (by omega) (by omega)
theorem laneO_iff (k : Trip) (x : S16x64x128.Idx) : laneO lanes k x = 1 ↔ (x 2).val = 2 * k.val + 1 := by
  have h : k.val < 64 := Nat.lt_of_lt_of_eq k.isLt trips_eq
  have hx : (x 2).val < 128 := (x 2).isLt
  rw [laneO, odd_word]
  pointwise [k0_pay2, k0_pay15]
  exact lane_word (by omega) (by omega)

section Values

variable (xr xw xk xq xa : Vec F S16x128x64 .f32) (xv : Vec F S16x64x128 .bf16)

/-- The block's table of rows `w·r − β·kk`, and its table of `γ`. -/
abbrev tabB : Vec F S16x128x64 .f32 := k0_pay18 xr xa xw xq
abbrev tabG : Vec F S16x128x128 .f32 := k0_pay19 xr xk

/-- The state before trip `n` of the block. -/
abbrev st (s : Vec F S16x64x64 .f32) (n : ℕ) : Vec F S16x64x64 .f32 := stateAt planeT planeC xw xk xq xa xv s n

/-- The state after the block. -/
def blockS (s : Vec F S16x64x64 .f32) : Vec F S16x64x64 .f32 := st xw xk xq xa xv s 64

/-- The block of `y`: step `t`'s lane holds what step `t` stores. -/
def blockY (s : Vec F S16x64x64 .f32) : Vec F S16x64x128 .f32 := fun x =>
  have hk : (x 2).val / 2 < k0_t1_loop.trips := by rw [trips_eq]; have : (x 2).val < 128 := (x 2).isLt; omega
  if (x 2).val % 2 = 0 then outE planeT planeC ⟨(x 2).val / 2, hk⟩ xv (tabB xr xw xq xa) (tabG xr xk) (st xw xk xq xa xv s ((x 2).val / 2)) x
  else outO planeT planeC ⟨(x 2).val / 2, hk⟩ xv (tabB xr xw xq xa) (tabG xr xk)
    (stepE planeT planeC ⟨(x 2).val / 2, hk⟩ xw xk xq xa xv (st xw xk xq xa xv s ((x 2).val / 2))) x

theorem outAt_lt (s : Vec F S16x64x64 .f32) (D : Vec F S16x64x128 .f32) (x : S16x64x128.Idx) : ∀ n, n ≤ 64 → (x 2).val < 2 * n →
    outAt lanes planeT planeC xw xk xq xa xv (tabB xr xw xq xa) (tabG xr xk) s D n x = blockY xr xw xk xq xa xv s x := by
  intro n
  induction n with
  | zero => intro _ h; omega
  | succ n ih =>
    intro hn h
    have hk : n < k0_t1_loop.trips := by rw [trips_eq]; omega
    rw [outAt_succ lanes planeT planeC xw xk xq xa xv _ _ s D ⟨n, hk⟩]
    simp only [laneE_iff, laneO_iff]
    by_cases ho : (x 2).val = 2 * n + 1
    · have e : (x 2).val / 2 = n := by omega
      rw [if_pos ho]; unfold blockY
      rw [if_neg (by omega)]
      simp only [e]
    · rw [if_neg ho]
      by_cases he : (x 2).val = 2 * n
      · have e : (x 2).val / 2 = n := by omega
        rw [if_pos he]; unfold blockY
        rw [if_pos (by omega)]
        simp only [e]
      · rw [if_neg he]; exact ih (by omega) (by omega)

theorem outAt_trips (s : Vec F S16x64x64 .f32) (D : Vec F S16x64x128 .f32) :
    outAt lanes planeT planeC xw xk xq xa xv (tabB xr xw xq xa) (tabG xr xk) s D 64 = blockY xr xw xk xq xa xv s :=
  funext fun x => outAt_lt xr xw xk xq xa xv s D x 64 le_rfl (by have : (x 2).val < 128 := (x 2).isLt; omega)

end Values

/-! ## The body's run -/

section Body

theorem trips_eq' : Scf.trips k0_t1_loop.lb k0_t1_loop.ub k0_t1_loop.st = 64 := trips_eq

/-- What the buffer of `y` reads after the loop, the two tables and the state it started from being the block's. -/
theorem read_out {M : Memref sig .tc .vmem S16x64x128 .f32} (h : M.IsWhole) (f : M.view.ty.Contents (Elt F)) (xr xw xk xq xa : Vec F S16x128x64 .f32) (xv : Vec F S16x64x128 .bf16)
    {B : Vec F S16x128x64 .f32} {G : Vec F S16x128x128 .f32} {s s' : Vec F S16x64x64 .f32} (hB : B = tabB xr xw xq xa) (hG : G = tabG xr xk) (hs : s = s') :
    M.view.read (Elt F) (heldAt h f (outAt lanes planeT planeC xw xk xq xa xv B G s (M.view.read (Elt F) f)) (Scf.trips k0_t1_loop.lb k0_t1_loop.ub k0_t1_loop.st))
      = blockY xr xw xk xq xa xv s' := by
  subst hB hG hs
  rw [trips_eq', read_heldAt h f _ rfl, outAt_trips]

/-- What the state's buffer reads after the loop. -/
theorem read_state {M : Memref sig .tc .vmem S16x64x64 .f32} (h : M.IsWhole) (f : M.view.ty.Contents (Elt F)) (xw xk xq xa : Vec F S16x128x64 .f32) (xv : Vec F S16x64x128 .bf16)
    {s' : Vec F S16x64x64 .f32} (hs : M.view.read (Elt F) f = s') :
    M.view.read (Elt F) (heldAt h f (stateAt planeT planeC xw xk xq xa xv (M.view.read (Elt F) f)) (Scf.trips k0_t1_loop.lb k0_t1_loop.ub k0_t1_loop.st))
      = blockS xw xk xq xa xv s' := by
  subst hs
  rw [trips_eq', read_heldAt h f _ rfl]; rfl

omit [FloatOps F] in
/-- A buffer stored over whole reads the payload. -/
theorem read_whole {κ : Kind} {sp : Space} {s : Shape} {e : EltTy} (v : View sig κ sp s e) (f : v.ty.Contents (Elt F)) {off : Fin s.rank → ℕ}
    (inb : ∀ a, off a + s.size a ≤ s.size a) (w x : s.Idx → Elt F e) (L : List (View.Piece (Elt F) s e)) (hw : w = x) :
    v.read (Elt F) (v.writes (Elt F) f (⟨Rect.unit off s.size inb, w⟩ :: L)) = x := by
  subst hw
  exact View.read_writes_full v f inb w L
omit [FloatOps F] in
/-- A whole buffer loaded whole gives its contents. -/
theorem load_whole {κ : Kind} {sp : Space} {s : Shape} {e : EltTy} (v : View sig κ sp s e) (f : v.ty.Contents (Elt F)) {off : Fin s.rank → ℕ}
    (inb : ∀ a, off a + s.size a ≤ s.size a) (x : s.Idx → Elt F e) (hx : v.read (Elt F) f = x) :
    v.readAt (Elt F) (Rect.unit off s.size inb).toLoadRect f = x := by
  subst hx
  exact View.readAt_full v f inb

/-- The first block's test, and the last's. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

set_option maxHeartbeats 4000000 in
theorem bodyA (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole)
    (hc0 : cond0_0 i) (hc1 : ¬cond0_1 i)
    (xr xw xk xq xa : Vec F S16x128x64 .f32) (xv : Vec F S16x64x128 .bf16) (xi : Vec F S16x64x64 .f32) (K : PUnit → sProp 𝕄) :
    (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ (∃ d, owns (c : Thread nD τ) arg7 fullShare d) ∗ owns (c : Thread nD τ) arg8 fullShare xi ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ owns (c : Thread nD τ) arg7 fullShare (blockY xr xw xk xq xa xv k0_pay16) ∗ owns (c : Thread nD τ) arg8 fullShare xi ∗ owns (c : Thread nD τ) arg9 fullShare (blockS xw xk xq xa xv k0_pay16) ∗ (∃ d, owns (c : Thread nD τ) arg10 fullShare d) ∗ (∃ d, owns (c : Thread nD τ) arg11 fullShare d) ∗ (∃ d, owns (c : Thread nD τ) arg12 fullShare d)) -∗ K ⟨⟩)) : sProp 𝕄)
    ⊢ wp frame (wpE (defs₀ (F := F)) Variants.none (c : Thread nD τ) none) Set.univ (cc0_rwkv_scan i arg1 harg1 arg2 harg2 arg3 harg3 arg4 harg4 arg5 harg5 arg6 harg6 arg7 harg7 arg8 harg8 arg9 harg9 arg10 harg10 arg11 harg11 arg12 harg12) K := by
  simp only [cc0_rwkv_scan_eq_skeleton]; unfold cc0_rwkv_scan_skel
  simp only [k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc0 | sl_exact hc1)
  sl_step
  iapply Hk
  isplitl [H1]
  · iexists _
    isplitr
    swap
    · iexact H1
    ipureintro
    exact harg1.read_unread _
  isplitl [H2]
  · iexists _
    isplitr
    swap
    · iexact H2
    ipureintro
    exact harg2.read_unread _
  isplitl [H3]
  · iexists _
    isplitr
    swap
    · iexact H3
    ipureintro
    exact harg3.read_unread _
  isplitl [H4]
  · iexists _
    isplitr
    swap
    · iexact H4
    ipureintro
    exact harg4.read_unread _
  isplitl [H5]
  · iexists _
    isplitr
    swap
    · iexact H5
    ipureintro
    exact harg5.read_unread _
  isplitl [H6]
  · iexists _
    isplitr
    swap
    · iexact H6
    ipureintro
    exact harg6.read_unread _
  isplitl [H7]
  · iexists _
    isplitr
    swap
    · iexact H7
    ipureintro
    sl_unfold_words
    refine read_whole (F := F) _ _ _ _ _ _ ?_
    refine load_whole (F := F) arg10.view _ _ _ ?_
    refine read_out (F := F) harg10 _ xr xw xk xq xa xv ?_ ?_ ?_
    · refine read_whole (F := F) _ _ _ _ _ _ ?_
      simp (disch := decide) only [View.readAt_eq_ld, Memref.IsWhole.read_unread, View.ld_unit_lit']
    · refine read_whole (F := F) _ _ _ _ _ _ ?_
      simp (disch := decide) only [View.readAt_eq_ld, Memref.IsWhole.read_unread, View.ld_unit_lit']
    · exact read_whole (F := F) _ _ _ _ _ _ rfl
  isplitl [H8]
  · iexists _
    isplitr
    swap
    · iexact H8
    ipureintro
    exact harg8.read_unread _
  isplitl [H9]
  · iexists _
    isplitr
    swap
    · iexact H9
    ipureintro
    sl_unfold_words
    refine read_state (F := F) harg9 _ xw xk xq xa xv ?_
    exact read_whole (F := F) _ _ _ _ _ _ rfl
  isplitl [H10]
  · iexists _
    iexists _
    isplitr
    swap
    · iexact H10
    ipureintro
    rfl
  isplitl [H11]
  · iexists _
    iexists _
    isplitr
    swap
    · iexact H11
    ipureintro
    rfl
  iexists _
  iexists _
  isplitr
  swap
  · iexact H12
  ipureintro
  rfl

set_option maxHeartbeats 4000000 in
theorem bodyB (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole)
    (hc0 : ¬cond0_0 i) (hc1 : ¬cond0_1 i)
    (xr xw xk xq xa : Vec F S16x128x64 .f32) (xv : Vec F S16x64x128 .bf16) (s : Vec F S16x64x64 .f32) (xi : Vec F S16x64x64 .f32) (K : PUnit → sProp 𝕄) :
    (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ (∃ d, owns (c : Thread nD τ) arg7 fullShare d) ∗ owns (c : Thread nD τ) arg8 fullShare xi ∗ owns (c : Thread nD τ) arg9 fullShare s ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ owns (c : Thread nD τ) arg7 fullShare (blockY xr xw xk xq xa xv s) ∗ owns (c : Thread nD τ) arg8 fullShare xi ∗ owns (c : Thread nD τ) arg9 fullShare (blockS xw xk xq xa xv s) ∗ (∃ d, owns (c : Thread nD τ) arg10 fullShare d) ∗ (∃ d, owns (c : Thread nD τ) arg11 fullShare d) ∗ (∃ d, owns (c : Thread nD τ) arg12 fullShare d)) -∗ K ⟨⟩)) : sProp 𝕄)
    ⊢ wp frame (wpE (defs₀ (F := F)) Variants.none (c : Thread nD τ) none) Set.univ (cc0_rwkv_scan i arg1 harg1 arg2 harg2 arg3 harg3 arg4 harg4 arg5 harg5 arg6 harg6 arg7 harg7 arg8 harg8 arg9 harg9 arg10 harg10 arg11 harg11 arg12 harg12) K := by
  simp only [cc0_rwkv_scan_eq_skeleton]; unfold cc0_rwkv_scan_skel
  simp only [k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc0 | sl_exact hc1)
  sl_step
  iapply Hk
  isplitl [H1]
  · iexists _
    isplitr
    swap
    · iexact H1
    ipureintro
    exact harg1.read_unread _
  isplitl [H2]
  · iexists _
    isplitr
    swap
    · iexact H2
    ipureintro
    exact harg2.read_unread _
  isplitl [H3]
  · iexists _
    isplitr
    swap
    · iexact H3
    ipureintro
    exact harg3.read_unread _
  isplitl [H4]
  · iexists _
    isplitr
    swap
    · iexact H4
    ipureintro
    exact harg4.read_unread _
  isplitl [H5]
  · iexists _
    isplitr
    swap
    · iexact H5
    ipureintro
    exact harg5.read_unread _
  isplitl [H6]
  · iexists _
    isplitr
    swap
    · iexact H6
    ipureintro
    exact harg6.read_unread _
  isplitl [H7]
  · iexists _
    isplitr
    swap
    · iexact H7
    ipureintro
    sl_unfold_words
    refine read_whole (F := F) _ _ _ _ _ _ ?_
    refine load_whole (F := F) arg10.view _ _ _ ?_
    refine read_out (F := F) harg10 _ xr xw xk xq xa xv ?_ ?_ ?_
    · refine read_whole (F := F) _ _ _ _ _ _ ?_
      simp (disch := decide) only [View.readAt_eq_ld, Memref.IsWhole.read_unread, View.ld_unit_lit']
    · refine read_whole (F := F) _ _ _ _ _ _ ?_
      simp (disch := decide) only [View.readAt_eq_ld, Memref.IsWhole.read_unread, View.ld_unit_lit']
    · exact hf9
  isplitl [H8]
  · iexists _
    isplitr
    swap
    · iexact H8
    ipureintro
    exact harg8.read_unread _
  isplitl [H9]
  · iexists _
    isplitr
    swap
    · iexact H9
    ipureintro
    sl_unfold_words
    refine read_state (F := F) harg9 _ xw xk xq xa xv ?_
    exact hf9
  isplitl [H10]
  · iexists _
    iexists _
    isplitr
    swap
    · iexact H10
    ipureintro
    rfl
  isplitl [H11]
  · iexists _
    iexists _
    isplitr
    swap
    · iexact H11
    ipureintro
    rfl
  iexists _
  iexists _
  isplitr
  swap
  · iexact H12
  ipureintro
  rfl

set_option maxHeartbeats 4000000 in
theorem bodyC (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S16x128x64 .f32) (harg3 : arg3.IsWhole) (arg4 : Memref sig .tc .vmem S16x128x64 .f32) (harg4 : arg4.IsWhole) (arg5 : Memref sig .tc .vmem S16x128x64 .f32) (harg5 : arg5.IsWhole) (arg6 : Memref sig .tc .vmem S16x64x128 .bf16) (harg6 : arg6.IsWhole) (arg7 : Memref sig .tc .vmem S16x64x128 .f32) (harg7 : arg7.IsWhole) (arg8 : Memref sig .tc .vmem S16x64x64 .f32) (harg8 : arg8.IsWhole) (arg9 : Memref sig .tc .vmem S16x64x64 .f32) (harg9 : arg9.IsWhole) (arg10 : Memref sig .tc .vmem S16x64x128 .f32) (harg10 : arg10.IsWhole) (arg11 : Memref sig .tc .vmem S16x128x64 .f32) (harg11 : arg11.IsWhole) (arg12 : Memref sig .tc .vmem S16x128x128 .f32) (harg12 : arg12.IsWhole)
    (hc0 : ¬cond0_0 i) (hc1 : cond0_1 i)
    (xr xw xk xq xa : Vec F S16x128x64 .f32) (xv : Vec F S16x64x128 .bf16) (s : Vec F S16x64x64 .f32) (K : PUnit → sProp 𝕄) :
    (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ (∃ d, owns (c : Thread nD τ) arg7 fullShare d) ∗ (∃ d, owns (c : Thread nD τ) arg8 fullShare d) ∗ owns (c : Thread nD τ) arg9 fullShare s ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare xr ∗ owns (c : Thread nD τ) arg2 fullShare xw ∗ owns (c : Thread nD τ) arg3 fullShare xk ∗ owns (c : Thread nD τ) arg4 fullShare xq ∗ owns (c : Thread nD τ) arg5 fullShare xa ∗ owns (c : Thread nD τ) arg6 fullShare xv ∗ owns (c : Thread nD τ) arg7 fullShare (blockY xr xw xk xq xa xv s) ∗ owns (c : Thread nD τ) arg8 fullShare (blockS xw xk xq xa xv s) ∗ owns (c : Thread nD τ) arg9 fullShare (blockS xw xk xq xa xv s) ∗ (∃ d, owns (c : Thread nD τ) arg10 fullShare d) ∗ (∃ d, owns (c : Thread nD τ) arg11 fullShare d) ∗ (∃ d, owns (c : Thread nD τ) arg12 fullShare d)) -∗ K ⟨⟩)) : sProp 𝕄)
    ⊢ wp frame (wpE (defs₀ (F := F)) Variants.none (c : Thread nD τ) none) Set.univ (cc0_rwkv_scan i arg1 harg1 arg2 harg2 arg3 harg3 arg4 harg4 arg5 harg5 arg6 harg6 arg7 harg7 arg8 harg8 arg9 harg9 arg10 harg10 arg11 harg11 arg12 harg12) K := by
  simp only [cc0_rwkv_scan_eq_skeleton]; unfold cc0_rwkv_scan_skel
  simp only [k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1)
  sl_step
  iapply Hk
  isplitl [H1]
  · iexists _
    isplitr
    swap
    · iexact H1
    ipureintro
    exact harg1.read_unread _
  isplitl [H2]
  · iexists _
    isplitr
    swap
    · iexact H2
    ipureintro
    exact harg2.read_unread _
  isplitl [H3]
  · iexists _
    isplitr
    swap
    · iexact H3
    ipureintro
    exact harg3.read_unread _
  isplitl [H4]
  · iexists _
    isplitr
    swap
    · iexact H4
    ipureintro
    exact harg4.read_unread _
  isplitl [H5]
  · iexists _
    isplitr
    swap
    · iexact H5
    ipureintro
    exact harg5.read_unread _
  isplitl [H6]
  · iexists _
    isplitr
    swap
    · iexact H6
    ipureintro
    exact harg6.read_unread _
  isplitl [H7]
  · iexists _
    isplitr
    swap
    · iexact H7
    ipureintro
    sl_unfold_words
    refine read_whole (F := F) _ _ _ _ _ _ ?_
    refine load_whole (F := F) arg10.view _ _ _ ?_
    refine read_out (F := F) harg10 _ xr xw xk xq xa xv ?_ ?_ ?_
    · refine read_whole (F := F) _ _ _ _ _ _ ?_
      simp (disch := decide) only [View.readAt_eq_ld, Memref.IsWhole.read_unread, View.ld_unit_lit']
    · refine read_whole (F := F) _ _ _ _ _ _ ?_
      simp (disch := decide) only [View.readAt_eq_ld, Memref.IsWhole.read_unread, View.ld_unit_lit']
    · exact hf9
  isplitl [H8]
  · iexists _
    isplitr
    swap
    · iexact H8
    ipureintro
    sl_unfold_words
    refine read_whole (F := F) _ _ _ _ _ _ ?_
    refine load_whole (F := F) arg9.view _ _ _ ?_
    refine read_state (F := F) harg9 _ xw xk xq xa xv ?_
    exact hf9
  isplitl [H9]
  · iexists _
    isplitr
    swap
    · iexact H9
    ipureintro
    sl_unfold_words
    refine read_state (F := F) harg9 _ xw xk xq xa xv ?_
    exact hf9
  isplitl [H10]
  · iexists _
    iexists _
    isplitr
    swap
    · iexact H10
    ipureintro
    rfl
  isplitl [H11]
  · iexists _
    iexists _
    isplitr
    swap
    · iexact H11
    ipureintro
    rfl
  iexists _
  iexists _
  isplitr
  swap
  · iexact H12
  ipureintro
  rfl

end Body

end Cert.KernelIdeal.Scan
end
-- ==== Proof.Launch.lean ====
/- The launch of the scan: what each point of the grid leaves in its windows, the state carried from block to block in
   the scratch, and the run of the whole program with the argument arrays kept. -/
module

public import proofs.«01_k».proof.Proof.Body
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: first, last, and which windows they leave alone -/

theorem hcond0_0 : ∀ t : Fin cfg0.N, cond0_0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val = 0)
theorem hcond0_1 : ∀ t : Fin cfg0.N, cond0_1 (grid0.coords t) ↔ t.val = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val = 63)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- The state's window is written at the last point only. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

abbrev ms0_0 (t : Fin cfg0.N) : Memref sig .tc .vmem S16x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x64x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x64x64 .f32 := win0_7.stage (cfg0.slots t 7)
abbrev hs0_7 (t : Fin cfg0.N) : (ms0_7 t).IsWhole := hstage0_7 ((cfg0.slots t 7).cast nbuf0_7)
abbrev scM0_0 : Memref sig .tc .vmem S16x64x64 .f32 := Memref.whole cc0_scratch0
abbrev scM0_1 : Memref sig .tc .vmem S16x64x128 .f32 := Memref.whole cc0_scratch1
abbrev scM0_2 : Memref sig .tc .vmem S16x128x64 .f32 := Memref.whole cc0_scratch2
abbrev scM0_3 : Memref sig .tc .vmem S16x128x128 .f32 := Memref.whole cc0_scratch3

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the points leave -/

/-- The state before block `n`: zeros before the first, then what the block before left. -/
def carry (c : Dev nD) : ℕ → Vec F S16x64x64 .f32
  | 0 => k0_pay16
  | n + 1 => if h : n < cfg0.N then blockS (iblk m c 1 ⟨n, h⟩) (iblk m c 2 ⟨n, h⟩) (iblk m c 3 ⟨n, h⟩) (iblk m c 4 ⟨n, h⟩) (iblk m c 5 ⟨n, h⟩) (carry c n) else carry c n

theorem carry_zero (c : Dev nD) : carry m c 0 = k0_pay16 := rfl
theorem carry_succ (c : Dev nD) (t : Fin cfg0.N) : carry m c (t.val + 1)
    = blockS (iblk m c 1 t) (iblk m c 2 t) (iblk m c 3 t) (iblk m c 4 t) (iblk m c 5 t) (carry m c t.val) := by
  rw [carry, dif_pos t.isLt]

/-- Point `t`'s block of `y`. -/
def yBlock (c : Dev nD) (t : Fin cfg0.N) : Vec F S16x64x128 .f32 :=
  blockY (iblk m c 0 t) (iblk m c 1 t) (iblk m c 2 t) (iblk m c 3 t) (iblk m c 4 t) (iblk m c 5 t) (carry m c t.val)

/-- The invariant before point `n`: before the first the scratch at anything, afterwards the state's scratch at the carried state. -/
def PhiS (c : Dev nD) : (n : ℕ) → n ≤ cfg0.N → sProp 𝕄
  | 0, _ => Pipeline.ΦA spec0 c
  | n + 1, _ => iprop(iprop(owns (c : Thread nD τ) scM0_0 fullShare (carry m c (n + 1)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (carry m c (n + 1)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare (carry m c n) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yBlock m c t
    | ⟨7, _⟩ => carry m c (t.val + 1)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yBlock m c t := by dsimp only [dats]
theorem after0_7 (c : Dev nD) (t : Fin cfg0.N) : (dats m 0 c).after 7 t = carry m c (t.val + 1) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) (h : cond0_1 (grid0.coords t)) : (dats m 0 c).leavesExact 7 t = owns (c : Thread nD τ) (ms0_7 t) fullShare ((dats m 0 c).after 7 t) := by
  unfold Dat.leavesExact; rw [liveAt0_7 t h]

set_option maxHeartbeats 14400000 in
/-- The body at any point, the three forms of its run by the point's place on the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  rw [after0_0, after0_1, after0_2, after0_3, after0_4, after0_5, after0_6, yBlock, carry_succ]
  by_cases h0 : t.val = 0
  · have h1 : ¬t.val = 63 := by omega
    rw [Dat.leavesExact_idle (dats m 0 c) 7 t (idleAt0_7 t (fun h => h1 ((hcond0_1 t).mp h))) (noFlush0_7 t (fun h => h1 ((hcond0_1 t).mp h)))]
    rw [PhiS_castSucc m c t, PhiS_zero m c _ _ h0, PhiA0_eq]
    simp only [h0, carry_zero]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA (F := F) c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 63
    · rw [leaves0_7 m c t ((hcond0_1 t).mpr h1), after0_7, carry_succ]
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyC (F := F) c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idleAt0_7 t (fun h => h1 ((hcond0_1 t).mp h))) (noFlush0_7 t (fun h => h1 ((hcond0_1 t).mp h)))]
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB (F := F) c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  have hz : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every fair execution ends, with the argument arrays as launched and every semaphore's counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Scan
end
-- ==== Proof.Model.lean ====
/- The recurrence of one chain over the real numbers: the state a step leaves, the output it gives, the state after any
   number of steps, and the two forms of the output, the reference's and the kernel's, made equal. Then what the
   extended reals need of it: sums and products of real numbers are real. -/
module

public import Idealize.ShloMosaic.Lib.Pointwise
public import Mathlib.Tactic.Ring

@[expose] public section

noncomputable section

namespace Cert.Wkv

/-- The state after a step: decayed along its columns, moved along `kk`, and fed `v` times `k`. -/
def next (w q a v k : Fin 64 → ℝ) (s : Fin 64 → Fin 64 → ℝ) (i j : Fin 64) : ℝ :=
  s i j * w j + -(∑ l, s i l * q l) * (q j * a j) + v i * k j

/-- The output read from a state. -/
def read (r : Fin 64 → ℝ) (s : Fin 64 → Fin 64 → ℝ) (i : Fin 64) : ℝ := ∑ j, s i j * r j

/-- The state before step `t`, from zeros. -/
def state (w q a v k : ℕ → Fin 64 → ℝ) : ℕ → Fin 64 → Fin 64 → ℝ
  | 0 => fun _ _ => 0
  | t + 1 => next (w t) (q t) (a t) (v t) (k t) (state w q a v k t)

/-- The output of a step from the state BEFORE it: the row `w·r − β·q`, and the scalar `γ` on the value. -/
theorem read_next (r w q a v k : Fin 64 → ℝ) (s : Fin 64 → Fin 64 → ℝ) (i : Fin 64) :
    ∑ j, s i j * (w j * r j - (∑ l, q l * a l * r l) * q j) + v i * (∑ l, k l * r l) = read r (next w q a v k s) i := by
  simp only [read, next, mul_sub, add_mul, Finset.sum_add_distrib, Finset.sum_sub_distrib]
  have e1 : ∑ j, s i j * ((∑ l, q l * a l * r l) * q j) = (∑ l, s i l * q l) * (∑ l, q l * a l * r l) := by
    rw [Finset.sum_mul]; exact Finset.sum_congr rfl fun _ _ => by ring
  have e2 : ∑ j, -(∑ l, s i l * q l) * (q j * a j) * r j = -((∑ l, s i l * q l) * (∑ l, q l * a l * r l)) := by
    rw [← neg_mul, Finset.mul_sum]; exact Finset.sum_congr rfl fun _ _ => by ring
  have e3 : ∑ j, v i * k j * r j = v i * ∑ l, k l * r l := by
    rw [Finset.mul_sum]; exact Finset.sum_congr rfl fun _ _ => by ring
  have e4 : ∑ j, s i j * (w j * r j) = ∑ j, s i j * w j * r j := Finset.sum_congr rfl fun _ _ => by ring
  rw [e1, e2, e3, e4]; ring

/-- A finite sum of real numbers is the same sum among the extended reals. -/
theorem coe_sum {ι : Type} (t : Finset ι) (f : ι → ℝ) : ∑ x ∈ t, ((f x : ℝ) : EReal) = ((∑ x ∈ t, f x : ℝ) : EReal) := by
  classical
  induction t using Finset.induction_on with
  | empty => simp
  | insert x t hx ih => rw [Finset.sum_insert hx, Finset.sum_insert hx, ih, EReal.coe_add]

end Cert.Wkv

end
-- ==== Proof.Steps.lean ====
/- The steps of a trip at an element, over the ideal values: what the one-hot product picks, the state each step leaves,
   what each stores; then the trips of a block, and the blocks, on real arrays. -/
module

public import proofs.«01_k».proof.Proof.Body
public import proofs.«01_k».proof.Proof.Model
public import Idealize.ShloMosaic.Lib.Pointwise

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! ## One trip's steps at an element -/

section Steps

variable (k : Trip) (xr xw xk xq xa : Vec Ideal S16x128x64 .f32) (xv : Vec Ideal S16x64x128 .bf16) (S : Vec Ideal S16x64x64 .f32)
  (B : Vec Ideal S16x128x64 .f32) (G : Vec Ideal S16x128x128 .f32) (c : Fin 16) (i j : Fin 64) (l : Fin 128)

theorem trip_lt : k.val < 64 := Nat.lt_of_lt_of_eq k.isLt trips_eq

/-- The two steps of trip `k` among the block's 128. -/
def tE : Fin 128 := ⟨2 * k.val, by have := trip_lt k; omega⟩
def tO : Fin 128 := ⟨2 * k.val + 1, by have := trip_lt k; omega⟩

theorem even_nat : (Scalar.indexCast (Scalar.muli 2#32 (Scf.iv 0#32 1#32 k.val)) : BitVec 32).toNat = 2 * k.val := by
  have h := trip_lt k
  have e := even_word k
  rw [show (Scalar.muli 2#32 (Scf.iv 0#32 1#32 k.val) : BitVec 32) = BitVec.ofNat 32 (2 * k.val) from e]
  simp only [Scalar.indexCast]
  rw [BitVec.toNat_ofNat]
  exact Nat.mod_eq_of_lt (by omega)
theorem odd_nat : (Scalar.indexCast (Scalar.addi (Scalar.muli 2#32 (Scf.iv 0#32 1#32 k.val)) 1#32) : BitVec 32).toNat = 2 * k.val + 1 := by
  have h := trip_lt k
  have e := odd_word k
  rw [show (Scalar.addi (Scalar.muli 2#32 (Scf.iv 0#32 1#32 k.val)) 1#32 : BitVec 32) = BitVec.ofNat 32 (2 * k.val + 1) from e]
  simp only [Scalar.indexCast]
  rw [BitVec.toNat_ofNat]
  exact Nat.mod_eq_of_lt (by omega)

theorem half_lo : ∀ l : Fin 128, IntOp.cmpi CmpIPredicate.sge (BitVec.ofNat 32 l.val) 128#32 = 0#1 := by decide +kernel
theorem half_hi : ∀ l : Fin 128, IntOp.cmpi CmpIPredicate.sge (BitVec.ofNat 32 (128 + l.val)) 128#32 = 1#1 := by decide +kernel

/-- The lower half of the one-hot product is the column of the trip's first step, at every lane; -/
theorem pick_lo (hl : l.val < 256) : k0_pay3 (F := Ideal) planeT planeC 0#32 1#32 k xv (ix3 c i ⟨l.val, hl⟩) = xv (ix3 c i (tE k)) := by
  have h := trip_lt k
  pointwise [k0_pay3]
  rw [half_lo, Finset.sum_eq_single (tE k)]
  · rw [show (Scalar.muli 2#32 (Scf.iv 0#32 1#32 k.val) : BitVec 32) = BitVec.ofNat 32 (2 * k.val) from even_word k]
    simp [Scalar.select, IntOp.addi, tE, IntOp.cmpi]
  · intro x _ hx
    rw [show (Scalar.muli 2#32 (Scf.iv 0#32 1#32 k.val) : BitVec 32) = BitVec.ofNat 32 (2 * k.val) from even_word k]
    have hne : ¬ IntOp.cmpi CmpIPredicate.eq (BitVec.ofNat 32 x.val) (BitVec.ofNat 32 (2 * k.val)) = 1 := by
      rw [lane_word (by have := x.isLt; omega) (by omega)]
      exact fun e => hx (Fin.ext e)
    rw [show IntOp.addi (BitVec.ofNat 32 (2 * k.val)) (BitVec.setWidth 32 0#1) = BitVec.ofNat 32 (2 * k.val) by simp [IntOp.addi]]
    simp only [Scalar.select, if_neg hne]
  · intro hx; exact absurd (Finset.mem_univ _) hx

/-- the upper half that of its second. -/
theorem pick_hi (hl : 128 + l.val < 256) : k0_pay3 (F := Ideal) planeT planeC 0#32 1#32 k xv (ix3 c i ⟨128 + l.val, hl⟩) = xv (ix3 c i (tO k)) := by
  have h := trip_lt k
  have e1 : IntOp.addi (Scalar.muli 2#32 (Scf.iv 0#32 1#32 k.val)) (BitVec.setWidth 32 1#1) = BitVec.ofNat 32 (2 * k.val + 1) := odd_word k
  pointwise [k0_pay3]
  rw [half_hi, Finset.sum_eq_single (tO k)]
  · rw [e1]
    simp [Scalar.select, tO, IntOp.cmpi]
  · intro x _ hx
    have hne : ¬ IntOp.cmpi CmpIPredicate.eq (BitVec.ofNat 32 x.val) (BitVec.ofNat 32 (2 * k.val + 1)) = 1 := by
      rw [lane_word (by have := x.isLt; omega) (by omega)]
      exact fun e => hx (Fin.ext e)
    rw [e1]
    simp only [Scalar.select, if_neg hne]
  · intro hx; exact absurd (Finset.mem_univ _) hx

theorem stepE_at : stepE (F := Ideal) planeT planeC k xw xk xq xa xv S (ix3 c i j)
    = S (ix3 c i j) * xw (ix3 c (tE k) j) + (0 - ∑ x, S (ix3 c i x) * xq (ix3 c (tE k) x)) * xa (ix3 c (tE k) j) + xv (ix3 c i (tE k)) * xk (ix3 c (tE k) j) := by
  pointwise [stepE, k0_pay8, k0_pay5, k0_pay7, colE, k0_pay4, rowE, k0_off1]
  simp only [even_nat]
  rw [pick_lo k xv c i ⟨j.val, by omega⟩]; rfl
theorem outE_at : outE (F := Ideal) planeT planeC k xv B G S (ix3 c i l)
    = ∑ x, S (ix3 c i x) * B (ix3 c (tE k) x) + xv (ix3 c i (tE k)) * G (ix3 c (tE k) l) := by
  pointwise [outE, k0_pay9, k0_pay6, colE, k0_pay4, rowE, rowE', k0_off1, k0_off2]
  simp only [even_nat]
  rw [pick_lo]; rfl
theorem stepO_at : stepO (F := Ideal) planeT planeC k xw xk xq xa xv S (ix3 c i j)
    = S (ix3 c i j) * xw (ix3 c (tO k) j) + (0 - ∑ x, S (ix3 c i x) * xq (ix3 c (tO k) x)) * xa (ix3 c (tO k) j) + xv (ix3 c i (tO k)) * xk (ix3 c (tO k) j) := by
  pointwise [stepO, k0_pay13, k0_pay12, colO, k0_pay11, rowO, k0_off3]
  simp only [odd_nat]
  rw [pick_hi k xv c i ⟨j.val, by omega⟩]; rfl
theorem outO_at : outO (F := Ideal) planeT planeC k xv B G S (ix3 c i l)
    = ∑ x, S (ix3 c i x) * B (ix3 c (tO k) x) + xv (ix3 c i (tO k)) * G (ix3 c (tO k) l) := by
  pointwise [outO, k0_pay1, k0_pay14, colO, k0_pay11, rowO, rowO', k0_off3, k0_off4]
  simp only [odd_nat]
  rw [pick_hi]; rfl
theorem tabB_at : tabB (F := Ideal) xr xw xq xa (ix3 c l j) = xw (ix3 c l j) * xr (ix3 c l j) - (∑ x, xa (ix3 c l x) * xr (ix3 c l x)) * xq (ix3 c l j) := by
  pointwise [tabB, k0_pay18, k0_pay17]
theorem tabG_at (l2 : Fin 128) : tabG (F := Ideal) xr xk (ix3 c l l2) = ∑ x, xk (ix3 c l x) * xr (ix3 c l x) := by
  pointwise [tabG, k0_pay19, k0_pay17]

end Steps

/-! ## A block of steps on real arrays -/

section Blocks

open Cert.Wkv

variable (xr xw xk xq xa : Vec Ideal S16x128x64 .f32) (xv : Vec Ideal S16x64x128 .bf16) (s0 : Vec Ideal S16x64x64 .f32)
  (r w q a v k : Fin 16 → ℕ → Fin 64 → ℝ) (b : ℕ)

/-- A state after one step, from real arrays. -/
theorem step_real (S : Fin 64 → Fin 64 → ℝ) (W Q A K : Fin 64 → ℝ) (v' : Fin 64 → ℝ) (i j : Fin 64) :
    ((S i j : ℝ) : EReal) * (W j : ℝ) + (0 - ∑ x, ((S i x : ℝ) : EReal) * (Q x : ℝ)) * ((Q j * A j : ℝ) : EReal) + (v' i : ℝ) * (K j : ℝ)
      = ((next W Q A v' K S i j : ℝ) : EReal) := by
  simp only [next, ← EReal.coe_mul, coe_sum, zero_sub, ← EReal.coe_neg, ← EReal.coe_add]

/-- What a step stores, from real arrays: the output read from the state AFTER it. -/
theorem out_real (S : Fin 64 → Fin 64 → ℝ) (R W Q A K : Fin 64 → ℝ) (v' : Fin 64 → ℝ) (i : Fin 64) :
    ∑ x, ((S i x : ℝ) : EReal) * (((W x : ℝ) : EReal) * (R x : ℝ) - (∑ y, ((Q y * A y : ℝ) : EReal) * (R y : ℝ)) * (Q x : ℝ)) + (v' i : ℝ) * ∑ x, ((K x : ℝ) : EReal) * (R x : ℝ)
      = ((read R (next W Q A v' K S) i : ℝ) : EReal) := by
  simp only [← read_next, ← EReal.coe_mul, coe_sum, ← EReal.coe_sub, ← EReal.coe_add]

variable (hr : ∀ c l j, xr (ix3 c l j) = ((r c (b + l.val) j : ℝ) : EReal)) (hw : ∀ c l j, xw (ix3 c l j) = ((w c (b + l.val) j : ℝ) : EReal))
  (hk : ∀ c l j, xk (ix3 c l j) = ((k c (b + l.val) j : ℝ) : EReal)) (hq : ∀ c l j, xq (ix3 c l j) = ((q c (b + l.val) j : ℝ) : EReal))
  (ha : ∀ c l j, xa (ix3 c l j) = ((q c (b + l.val) j * a c (b + l.val) j : ℝ) : EReal))
  (hv : ∀ c i l, xv (ix3 c i l) = ((v c (b + l.val) i : ℝ) : EReal))
  (hs : ∀ c i j, s0 (ix3 c i j) = ((state (w c) (q c) (a c) (v c) (k c) b i j : ℝ) : EReal))

include hw hk hq ha hv

theorem stepE_real (t : Trip) (S : Vec Ideal S16x64x64 .f32)
    (hS : ∀ c i j, S (ix3 c i j) = ((state (w c) (q c) (a c) (v c) (k c) (b + 2 * t.val) i j : ℝ) : EReal)) (c : Fin 16) (i j : Fin 64) :
    stepE (F := Ideal) planeT planeC t xw xk xq xa xv S (ix3 c i j) = ((state (w c) (q c) (a c) (v c) (k c) (b + 2 * t.val + 1) i j : ℝ) : EReal) := by
  rw [stepE_at]
  simp only [hw, hk, hq, ha, hv, hS]
  exact step_real ..
theorem stepO_real (t : Trip) (S : Vec Ideal S16x64x64 .f32)
    (hS : ∀ c i j, S (ix3 c i j) = ((state (w c) (q c) (a c) (v c) (k c) (b + 2 * t.val + 1) i j : ℝ) : EReal)) (c : Fin 16) (i j : Fin 64) :
    stepO (F := Ideal) planeT planeC t xw xk xq xa xv S (ix3 c i j) = ((state (w c) (q c) (a c) (v c) (k c) (b + 2 * (t.val + 1)) i j : ℝ) : EReal) := by
  rw [stepO_at]
  simp only [hw, hk, hq, ha, hv, hS]
  exact step_real ..

include hr in
theorem outE_real (t : Trip) (S : Vec Ideal S16x64x64 .f32)
    (hS : ∀ c i j, S (ix3 c i j) = ((state (w c) (q c) (a c) (v c) (k c) (b + 2 * t.val) i j : ℝ) : EReal)) (c : Fin 16) (i : Fin 64) (l : Fin 128) :
    outE (F := Ideal) planeT planeC t xv (tabB xr xw xq xa) (tabG xr xk) S (ix3 c i l)
      = ((read (r c (b + 2 * t.val)) (state (w c) (q c) (a c) (v c) (k c) (b + 2 * t.val + 1)) i : ℝ) : EReal) := by
  rw [outE_at]
  simp only [tabB_at, tabG_at, hr, hw, hk, hq, ha, hv, hS]
  exact out_real (state (w c) (q c) (a c) (v c) (k c) (b + 2 * t.val)) (r c (b + 2 * t.val)) (w c (b + 2 * t.val)) (q c (b + 2 * t.val)) (a c (b + 2 * t.val)) (k c (b + 2 * t.val)) (v c (b + 2 * t.val)) i
include hr in
theorem outO_real (t : Trip) (S : Vec Ideal S16x64x64 .f32)
    (hS : ∀ c i j, S (ix3 c i j) = ((state (w c) (q c) (a c) (v c) (k c) (b + 2 * t.val + 1) i j : ℝ) : EReal)) (c : Fin 16) (i : Fin 64) (l : Fin 128) :
    outO (F := Ideal) planeT planeC t xv (tabB xr xw xq xa) (tabG xr xk) S (ix3 c i l)
      = ((read (r c (b + 2 * t.val + 1)) (state (w c) (q c) (a c) (v c) (k c) (b + 2 * t.val + 1 + 1)) i : ℝ) : EReal) := by
  rw [outO_at]
  simp only [tabB_at, tabG_at, hr, hw, hk, hq, ha, hv, hS]
  exact out_real (state (w c) (q c) (a c) (v c) (k c) (b + 2 * t.val + 1)) (r c (b + 2 * t.val + 1)) (w c (b + 2 * t.val + 1)) (q c (b + 2 * t.val + 1)) (a c (b + 2 * t.val + 1)) (k c (b + 2 * t.val + 1)) (v c (b + 2 * t.val + 1)) i

include hs

/-- The state after any number of trips of the block. -/
theorem st_real (n : ℕ) (hn : n ≤ 64) (c : Fin 16) (i j : Fin 64) :
    st (F := Ideal) xw xk xq xa xv s0 n (ix3 c i j) = ((state (w c) (q c) (a c) (v c) (k c) (b + 2 * n) i j : ℝ) : EReal) := by
  induction n generalizing c i j with
  | zero => exact hs c i j
  | succ n ih =>
    have e : st (F := Ideal) xw xk xq xa xv s0 (n + 1) = stepO planeT planeC ⟨n, Nat.lt_of_lt_of_eq hn trips_eq.symm⟩ xw xk xq xa xv (stepE planeT planeC ⟨n, Nat.lt_of_lt_of_eq hn trips_eq.symm⟩ xw xk xq xa xv (st xw xk xq xa xv s0 n)) :=
      stateAt_succ planeT planeC xw xk xq xa xv s0 ⟨n, Nat.lt_of_lt_of_eq hn trips_eq.symm⟩
    rw [e]
    exact stepO_real xw xk xq xa xv w q a v k b hw hk hq ha hv ⟨n, _⟩ _
      (fun c i j => stepE_real xw xk xq xa xv w q a v k b hw hk hq ha hv ⟨n, _⟩ _ (fun c i j => ih (by omega) c i j) c i j) c i j

/-- The state the block leaves. -/
theorem blockS_real (c : Fin 16) (i j : Fin 64) :
    blockS (F := Ideal) xw xk xq xa xv s0 (ix3 c i j) = ((state (w c) (q c) (a c) (v c) (k c) (b + 128) i j : ℝ) : EReal) :=
  st_real xw xk xq xa xv s0 w q a v k b hw hk hq ha hv hs 64 le_rfl c i j

include hr

/-- What the block stores as `y`. -/
theorem blockY_real (c : Fin 16) (i : Fin 64) (l : Fin 128) :
    blockY (F := Ideal) xr xw xk xq xa xv s0 (ix3 c i l) = ((read (r c (b + l.val)) (state (w c) (q c) (a c) (v c) (k c) (b + l.val + 1)) i : ℝ) : EReal) := by
  have hl := l.isLt
  have ht : l.val / 2 < k0_t1_loop.trips := Nat.lt_of_lt_of_eq (show l.val / 2 < 64 by omega) trips_eq.symm
  have hst := st_real xw xk xq xa xv s0 w q a v k b hw hk hq ha hv hs (l.val / 2) (by omega)
  by_cases h0 : l.val % 2 = 0
  · have e : b + 2 * (l.val / 2) = b + l.val := by omega
    have h := outE_real xr xw xk xq xa xv r w q a v k b hr hw hk hq ha hv ⟨l.val / 2, ht⟩ _ hst c i l
    refine (if_pos h0).trans (h.trans ?_)
    show ((read (r c (b + 2 * (l.val / 2))) (state (w c) (q c) (a c) (v c) (k c) (b + 2 * (l.val / 2) + 1)) i : ℝ) : EReal) = _
    rw [e]
  · have e : b + (2 * (l.val / 2) + 1) = b + l.val := by omega
    have hE := stepE_real xw xk xq xa xv w q a v k b hw hk hq ha hv ⟨l.val / 2, ht⟩ (st xw xk xq xa xv s0 (l.val / 2)) hst
    have h := outO_real xr xw xk xq xa xv r w q a v k b hr hw hk hq ha hv ⟨l.val / 2, ht⟩ _ hE c i l
    refine (if_neg h0).trans (h.trans ?_)
    show ((read (r c (b + (2 * (l.val / 2) + 1))) (state (w c) (q c) (a c) (v c) (k c) (b + (2 * (l.val / 2) + 1) + 1)) i : ℝ) : EReal) = _
    rw [e]

end Blocks

end Cert.KernelIdeal.Scan
end
-- ==== Proof.Arrays.lean ====
/- The arrays: each chain's sequences read from the arguments, the blocks the launch stages, the state carried from block
   to block, and the arrays the program leaves, at every element. -/
module

public import proofs.«01_k».proof.Proof.Launch
public import proofs.«01_k».proof.Proof.Steps
public import Idealize.ShloMosaic.Lib.Pipeline.ValueKit

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Wkv

variable (m : (ℓ : Loc nD τ sig) → Buf (Elt Ideal) ℓ) (c : Dev nD)

/-- One argument laid out by chains: chain `8 b + h` holds head `h` of sequence `b`. -/
abbrev lay (X : Vec Ideal S16384x512 .f32) : Vec Ideal S16x8192x64 .f32 :=
  shapeCast S16x8192x64 (transpose S2x8x8192x64 [0, 2, 1, 3] (shapeCast S2x8192x8x64 X shapeCasts_S16384x512_S2x8192x8x64) transposes_S2x8192x8x64_S2x8x8192x64_0_2_1_3) shapeCasts_S2x8x8192x64_S16x8192x64

abbrev rowOf (p : Fin 16) (n : Fin 8192) : Fin 16384 := ⟨p.val / 8 * 8192 + n.val, by omega⟩
abbrev colOf (p : Fin 16) (j : Fin 64) : Fin 512 := ⟨p.val % 8 * 64 + j.val, by omega⟩

theorem lay_at (X : Vec Ideal S16384x512 .f32) (p : Fin 16) (n : Fin 8192) (j : Fin 64) : lay X (ix3 p n j) = X (ix2 (rowOf p n) (colOf p j)) := by
  pointwise

/-- The argument arrays. -/
abbrev A0 : FVec Ideal S16384x512 .f32 := m ((c : Thread nD τ).loc main_arg0)
abbrev A1 : FVec Ideal S16384x512 .f32 := m ((c : Thread nD τ).loc main_arg1)
abbrev A2 : FVec Ideal S16384x512 .f32 := m ((c : Thread nD τ).loc main_arg2)
abbrev A3 : FVec Ideal S16384x512 .f32 := m ((c : Thread nD τ).loc main_arg3)
abbrev A4 : FVec Ideal S16384x512 .f32 := m ((c : Thread nD τ).loc main_arg4)
abbrev A5 : FVec Ideal S16384x512 .f32 := m ((c : Thread nD τ).loc main_arg5)

theorem V_v8 : V m c main_v8 = lay (A0 m c) := by
  show StableHlo.after (List.flatten [hostOps0]) _ _ = _
  simp only [List.flatten_cons, List.flatten_nil, List.append_nil]
  unfold_abbrev_sides
  after_results
  rfl
theorem V_v11 : V m c main_v11 = lay (A1 m c) := by
  show StableHlo.after (List.flatten [hostOps0]) _ _ = _
  simp only [List.flatten_cons, List.flatten_nil, List.append_nil]
  unfold_abbrev_sides
  after_results
  rfl
theorem V_v14 : V m c main_v14 = lay (A2 m c) := by
  show StableHlo.after (List.flatten [hostOps0]) _ _ = _
  simp only [List.flatten_cons, List.flatten_nil, List.append_nil]
  unfold_abbrev_sides
  after_results
  rfl
theorem V_v17 : V m c main_v17 = lay (A4 m c) := by
  show StableHlo.after (List.flatten [hostOps0]) _ _ = _
  simp only [List.flatten_cons, List.flatten_nil, List.append_nil]
  unfold_abbrev_sides
  after_results
  rfl
theorem V_v20 : V m c main_v20 = lay (mulf (A4 m c) (A5 m c)) := by
  show StableHlo.after (List.flatten [hostOps0]) _ _ = _
  simp only [List.flatten_cons, List.flatten_nil, List.append_nil]
  unfold_abbrev_sides
  after_results
  rfl
theorem V_v5 : V m c main_v5 = (truncf .bf16 (transpose S16x64x8192 [0, 2, 1] (lay (A3 m c)) transposes_S16x8192x64_S16x64x8192_0_2_1 : FVec Ideal S16x64x8192 .f32) bitsLt_bf16_f32 : FVec Ideal S16x64x8192 .bf16) := by
  show StableHlo.after (List.flatten [hostOps0]) _ _ = _
  simp only [List.flatten_cons, List.flatten_nil, List.append_nil]
  unfold_abbrev_sides
  after_results
  rfl

/-- Step `l` of block `t`, among the 8192. -/
abbrev pos (t : Fin cfg0.N) (l : Fin 128) : Fin 8192 := ⟨128 * t.val + l.val, by have : t.val < 64 := Nat.lt_of_lt_of_eq t.isLt N_0; omega⟩

theorem idx0 : ∀ t : Fin cfg0.N, win0_0.index t 0 = 0 ∧ win0_0.index t 1 = t.val ∧ win0_0.index t 2 = 0 := by decide +kernel
theorem idx1 : ∀ t : Fin cfg0.N, win0_1.index t 0 = 0 ∧ win0_1.index t 1 = t.val ∧ win0_1.index t 2 = 0 := by decide +kernel
theorem idx2 : ∀ t : Fin cfg0.N, win0_2.index t 0 = 0 ∧ win0_2.index t 1 = t.val ∧ win0_2.index t 2 = 0 := by decide +kernel
theorem idx3 : ∀ t : Fin cfg0.N, win0_3.index t 0 = 0 ∧ win0_3.index t 1 = t.val ∧ win0_3.index t 2 = 0 := by decide +kernel
theorem idx4 : ∀ t : Fin cfg0.N, win0_4.index t 0 = 0 ∧ win0_4.index t 1 = t.val ∧ win0_4.index t 2 = 0 := by decide +kernel
theorem idx5 : ∀ t : Fin cfg0.N, win0_5.index t 0 = 0 ∧ win0_5.index t 1 = 0 ∧ win0_5.index t 2 = t.val := by decide +kernel
theorem idx6 : ∀ t : Fin cfg0.N, win0_6.index t 0 = 0 ∧ win0_6.index t 1 = 0 ∧ win0_6.index t 2 = t.val := by decide +kernel
theorem iblk0_at (t : Fin cfg0.N) (p : Fin 16) (l : Fin 128) (j : Fin 64) : iblk m c 0 t (ix3 p l j) = A0 m c (ix2 (rowOf p (pos t l)) (colOf p j)) := by
  have hi := idx0 t
  have e : (win0_0.blk t).view.emb (ix3 p l j) = ix3 p (pos t l) j := by blk_ext <;> simp [hi]
  refine (congrArg (V m c main_v8) e).trans ?_
  rw [V_v8]
  exact lay_at _ _ _ _
theorem iblk1_at (t : Fin cfg0.N) (p : Fin 16) (l : Fin 128) (j : Fin 64) : iblk m c 1 t (ix3 p l j) = A1 m c (ix2 (rowOf p (pos t l)) (colOf p j)) := by
  have hi := idx1 t
  have e : (win0_1.blk t).view.emb (ix3 p l j) = ix3 p (pos t l) j := by blk_ext <;> simp [hi]
  refine (congrArg (V m c main_v11) e).trans ?_
  rw [V_v11]
  exact lay_at _ _ _ _
theorem iblk2_at (t : Fin cfg0.N) (p : Fin 16) (l : Fin 128) (j : Fin 64) : iblk m c 2 t (ix3 p l j) = A2 m c (ix2 (rowOf p (pos t l)) (colOf p j)) := by
  have hi := idx2 t
  have e : (win0_2.blk t).view.emb (ix3 p l j) = ix3 p (pos t l) j := by blk_ext <;> simp [hi]
  refine (congrArg (V m c main_v14) e).trans ?_
  rw [V_v14]
  exact lay_at _ _ _ _
theorem iblk3_at (t : Fin cfg0.N) (p : Fin 16) (l : Fin 128) (j : Fin 64) : iblk m c 3 t (ix3 p l j) = A4 m c (ix2 (rowOf p (pos t l)) (colOf p j)) := by
  have hi := idx3 t
  have e : (win0_3.blk t).view.emb (ix3 p l j) = ix3 p (pos t l) j := by blk_ext <;> simp [hi]
  refine (congrArg (V m c main_v17) e).trans ?_
  rw [V_v17]
  exact lay_at _ _ _ _
theorem iblk4_at (t : Fin cfg0.N) (p : Fin 16) (l : Fin 128) (j : Fin 64) : iblk m c 4 t (ix3 p l j) = A4 m c (ix2 (rowOf p (pos t l)) (colOf p j)) * A5 m c (ix2 (rowOf p (pos t l)) (colOf p j)) := by
  have hi := idx4 t
  have e : (win0_4.blk t).view.emb (ix3 p l j) = ix3 p (pos t l) j := by blk_ext <;> simp [hi]
  refine (congrArg (V m c main_v20) e).trans ?_
  rw [V_v20]
  exact (lay_at _ _ _ _).trans rfl
theorem iblk5_at (t : Fin cfg0.N) (p : Fin 16) (l : Fin 128) (j : Fin 64) : iblk m c 5 t (ix3 p j l) = A3 m c (ix2 (rowOf p (pos t l)) (colOf p j)) := by
  have hi := idx5 t
  have e : (win0_5.blk t).view.emb (ix3 p j l) = ix3 p j (pos t l) := by blk_ext <;> simp [hi]
  refine (congrArg (V m c main_v5) e).trans ?_
  rw [V_v5]
  refine Eq.trans ?_ (lay_at _ _ _ _)
  pointwise

/-! ## The chains' sequences -/

/-- One argument's rows as real numbers: element `j` of chain `p`'s row at step `t` (past the last step, of no account). -/
def seqOf (X : FVec Ideal S16384x512 .f32) (p : Fin 16) (t : ℕ) (j : Fin 64) : ℝ :=
  EReal.toReal (X (ix2 (rowOf p ⟨t % 8192, Nat.mod_lt _ (by decide)⟩) (colOf p j)))

/-- Every element of an argument is a real number. -/
def Real (X : FVec Ideal S16384x512 .f32) : Prop := ∀ i, ∃ x : ℝ, X i = ((x : ℝ) : EReal)

theorem seqOf_eq {X : FVec Ideal S16384x512 .f32} (h : Real X) (p : Fin 16) (n : Fin 8192) (t : ℕ) (e : n.val = t) (j : Fin 64) :
    X (ix2 (rowOf p n) (colOf p j)) = ((seqOf X p t j : ℝ) : EReal) := by
  subst e
  obtain ⟨x, hx⟩ := h (ix2 (rowOf p n) (colOf p j))
  have e : (⟨n.val % 8192, Nat.mod_lt _ (by decide)⟩ : Fin 8192) = n := Fin.ext (Nat.mod_eq_of_lt n.isLt)
  rw [seqOf, e, hx]; rfl

/-- The state of chain `p` before step `n`. -/
abbrev chain (w q a v k : FVec Ideal S16384x512 .f32) (p : Fin 16) (n : ℕ) : Fin 64 → Fin 64 → ℝ :=
  state (seqOf w p) (seqOf q p) (seqOf a p) (seqOf v p) (seqOf k p) n

variable (h0 : Real (A0 m c)) (h1 : Real (A1 m c)) (h2 : Real (A2 m c)) (h3 : Real (A3 m c)) (h4 : Real (A4 m c)) (h5 : Real (A5 m c))

include h1 h2 h3 h4 h5

/-- The state carried into block `n`. -/
theorem carry_real : ∀ n ≤ 64, ∀ (p : Fin 16) (i j : Fin 64),
    carry m c n (ix3 p i j) = ((chain (A1 m c) (A4 m c) (A5 m c) (A3 m c) (A2 m c) p (128 * n) i j : ℝ) : EReal) := by
  intro n
  induction n with
  | zero =>
    intro _ p i j
    rw [carry_zero]
    pointwise [k0_pay16]
    rfl
  | succ n ih =>
    intro hn p i j
    have ht : n < cfg0.N := Nat.lt_of_lt_of_eq (show n < 64 by omega) N_0.symm
    rw [carry_succ m c ⟨n, ht⟩]
    refine blockS_real _ _ _ _ _ _ (seqOf (A1 m c)) (seqOf (A4 m c)) (seqOf (A5 m c)) (seqOf (A3 m c)) (seqOf (A2 m c)) (128 * n) ?_ ?_ ?_ ?_ ?_ ?_ p i j
    · intro p l j; rw [iblk1_at]; exact seqOf_eq h1 p _ _ rfl j
    · intro p l j; rw [iblk2_at]; exact seqOf_eq h2 p _ _ rfl j
    · intro p l j; rw [iblk3_at]; exact seqOf_eq h4 p _ _ rfl j
    · intro p l j; rw [iblk4_at, seqOf_eq h4 p _ _ rfl j, seqOf_eq h5 p _ _ rfl j, ← EReal.coe_mul]
    · intro p i l; rw [iblk5_at]; exact seqOf_eq h3 p _ _ rfl i
    · intro p i j; exact ih (by omega) p i j

include h0

/-- Block `t` of `y`. -/
theorem yBlock_real (t : Fin cfg0.N) (p : Fin 16) (i : Fin 64) (l : Fin 128) : yBlock m c t (ix3 p i l)
    = ((read (seqOf (A0 m c) p (128 * t.val + l.val)) (chain (A1 m c) (A4 m c) (A5 m c) (A3 m c) (A2 m c) p (128 * t.val + l.val + 1)) i : ℝ) : EReal) := by
  have ht : t.val < 64 := Nat.lt_of_lt_of_eq t.isLt N_0
  refine blockY_real _ _ _ _ _ _ _ (seqOf (A0 m c)) (seqOf (A1 m c)) (seqOf (A4 m c)) (seqOf (A5 m c)) (seqOf (A3 m c)) (seqOf (A2 m c)) (128 * t.val) ?_ ?_ ?_ ?_ ?_ ?_ ?_ p i l
  · intro p l j; rw [iblk0_at]; exact seqOf_eq h0 p _ _ rfl j
  · intro p l j; rw [iblk1_at]; exact seqOf_eq h1 p _ _ rfl j
  · intro p l j; rw [iblk2_at]; exact seqOf_eq h2 p _ _ rfl j
  · intro p l j; rw [iblk3_at]; exact seqOf_eq h4 p _ _ rfl j
  · intro p l j; rw [iblk4_at, seqOf_eq h4 p _ _ rfl j, seqOf_eq h5 p _ _ rfl j, ← EReal.coe_mul]
  · intro p i l; rw [iblk5_at]; exact seqOf_eq h3 p _ _ rfl i
  · intro p i j; exact carry_real m c h1 h2 h3 h4 h5 t.val (by omega) p i j

/-! ## The arrays the launch leaves -/

/-- The last point. -/
abbrev tLast : Fin cfg0.N := ⟨63, by rw [show cfg0.N = 64 from N_0]; decide⟩

/-- `y` laid out by chains. -/
def yArr : FVec Ideal S16x64x8192 .f32 := fun x =>
  ((read (seqOf (A0 m c) (x 0) (x 2).val) (chain (A1 m c) (A4 m c) (A5 m c) (A3 m c) (A2 m c) (x 0) ((x 2).val + 1)) (x 1) : ℝ) : EReal)
/-- The last state. -/
def sArr : FVec Ideal S16x64x64 .f32 := fun x => ((chain (A1 m c) (A4 m c) (A5 m c) (A3 m c) (A2 m c) (x 0) 8192 (x 1) (x 2) : ℝ) : EReal)

theorem y_final : (dats m 0 c).arrAt 6 cfg0.N = yArr m c := by
  refine (dats m 0 c).arrAt_eq_of_covers 6 _ (by decide +kernel) fun t hf y => ?_
  blk_simp
  rw [after0_6]
  idx_vars y
  have hi := idx6 t
  have e : ((View.whole main_v21_0).slice (win0_6.rect t)).emb (ix3 y0 y1 y2) = ix3 y0 y1 (pos t y2) := by blk_ext <;> simp [hi]
  rw [e, yBlock_real m c h0 h1 h2 h3 h4 h5]
  rfl

omit h0 in
theorem s_final : (dats m 0 c).arrAt 7 cfg0.N = sArr m c := by
  refine (dats m 0 c).arrAt_eq_of_after_last 7 tLast (by decide +kernel) _ fun j => ?_
  blk_simp
  rw [after0_7]
  idx_vars j
  exact carry_real m c h1 h2 h3 h4 h5 64 le_rfl j0 j1 j2

end Cert.KernelIdeal.Scan
end
-- ==== Proof.Finite.lean ====
/- The precondition read at an element: where `finite_arrays` is all ones, every element of every argument is a real
   number. -/
module

public import proofs.«01_k».proof.Proof.Arrays
public import proofs.«01_k».proof.Pre_finite_arrays
public import Idealize.ShloMosaic.Lib.Pointwise

@[expose] public section

set_option maxRecDepth 16384

noncomputable section

namespace Cert.Pre_finite_arrays

open Idealize.ShloMosaic
open Cert.KernelIdeal.Scan (Real)

/-- The shape relation the precondition's operations take. -/
theorem facts : Facts where
  bcast_S_S16384x512 := by decide

/-- A value whose absolute value is below the infinity is a real number. -/
theorem real_of_olt (x : Ideal .f32) (h : FloatOps.cmpf .olt (FloatOps.hostAbsf x) (FloatOps.ofBits (F := Ideal) .f32 0x7F800000#32) = 1#1) :
    ∃ y : ℝ, x = ((y : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  by_cases hx : (x : EReal) = ⊤ ∨ (x : EReal) = ⊥
  · have hn : ¬ (max (x : EReal) (-x) < ⊤) := by
      rcases hx with e | e <;> rw [e] <;> simp
    simp [Ideal.cmp, hn] at h'
  · push Not at hx
    exact ⟨EReal.toReal x, (EReal.coe_toReal hx.1 hx.2).symm⟩

theorem andi_one {a b : BitVec 1} (h : IntOp.andi a b = 1#1) : a = 1#1 ∧ b = 1#1 := by
  revert h; revert a b; decide

theorem reals [hF : Facts] (a0 a1 a2 a3 a4 a5 : FVec Ideal S16384x512 .f32) (h : fn (F := Ideal) a0 a1 a2 a3 a4 a5 = fun _ => 1#1) :
    Real a0 ∧ Real a1 ∧ Real a2 ∧ Real a3 ∧ Real a4 ∧ Real a5 := by
  have hh : ∀ i, _ := fun i => congrFun h i
  have h1 : ∀ i, (∃ y : ℝ, a0 i = ((y : ℝ) : EReal)) ∧ (∃ y : ℝ, a1 i = ((y : ℝ) : EReal)) ∧ (∃ y : ℝ, a2 i = ((y : ℝ) : EReal))
      ∧ (∃ y : ℝ, a3 i = ((y : ℝ) : EReal)) ∧ (∃ y : ℝ, a4 i = ((y : ℝ) : EReal)) ∧ (∃ y : ℝ, a5 i = ((y : ℝ) : EReal)) := by
    intro i
    obtain ⟨g, g5⟩ := andi_one (hh i)
    obtain ⟨g, g4⟩ := andi_one g
    obtain ⟨g, g3⟩ := andi_one g
    obtain ⟨g, g2⟩ := andi_one g
    obtain ⟨g0, g1⟩ := andi_one g
    exact ⟨real_of_olt _ g0, real_of_olt _ g1, real_of_olt _ g2, real_of_olt _ g3, real_of_olt _ g4, real_of_olt _ g5⟩
  exact ⟨fun i => (h1 i).1, fun i => (h1 i).2.1, fun i => (h1 i).2.2.1, fun i => (h1 i).2.2.2.1, fun i => (h1 i).2.2.2.2.1, fun i => (h1 i).2.2.2.2.2⟩

end Cert.Pre_finite_arrays

end
-- ==== Proof.RefValue.lean ====
/- The reference's run: what its loop carries before each trip, and the arrays it leaves, at every element. -/
module

public import proofs.«01_k».proof.Proof.Arrays
public import proofs.«01_k».proof.Proof.Gen.ReferenceIdeal.Run
public import Idealize.ShloMosaic.Lib.Pointwise
public import Idealize.ShloMosaic.Lib.Claim
public import Idealize.ShloMosaic.Lib.DynamicIndex

@[expose] public section

set_option maxRecDepth 16384

noncomputable section

namespace Cert.ReferenceIdeal.Scan

open Idealize.ShloMosaic Idealize.ShloMosaic.TcCoe Idealize.ShloMosaic.Tactic
open Idealize.SL.Sem
open Idealize.ShloMosaic.StableHlo
open Cert.ReferenceIdeal Cert.ReferenceIdeal.Gen Cert.ReferenceIdeal.Value
open Cert.Wkv

open Cert.KernelIdeal.Scan (seqOf Real seqOf_eq chain rowOf colOf)

/-! ## A row taken at the counter, and one put there -/

/-- Where the loop's body takes and puts a row: at the counter. -/
abbrev startAt (n : IVec S_ 32) : Fin 4 → Int :=
  fun k => (((![n, constantI S_ 32 0#32, constantI S_ 32 0#32, constantI S_ 32 0#32] : Fin 4 → (⟨S_, .i32⟩ : BufTy).Contents (Elt Ideal))) k (Shape.Idx.first h_S_)).toInt

theorem startAt_eq (t : Fin 8192) : startAt (fun _ => BitVec.ofNat 32 t.val) = ![(t.val : Int), 0, 0, 0] := by
  have ht := t.isLt
  funext k
  fin_cases k
  · exact toInt_ofNat_of_lt (by omega)
  all_goals rfl

theorem clamp_at (t : Fin 8192) (hr : S1x2x8x64.rank = S8192x2x8x64.rank) (k : Fin 4) :
    Host.clampedStart S8192x2x8x64 S1x2x8x64 hr ![(t.val : Int), 0, 0, 0] k = (![t.val, 0, 0, 0] : Fin 4 → ℕ) k := by
  have ht := t.isLt
  refine Host.clampedStart_of_le hr _ k _ ?_ ?_
  · fin_cases k <;> rfl
  · fin_cases k
    · show t.val + 1 ≤ 8192; omega
    · show 0 + 2 ≤ 2; omega
    · show 0 + 8 ≤ 8; omega
    · show 0 + 64 ≤ 64; omega

/-- Row `n` of a sequence of rows, as the loop's body takes it. -/
def rowAt (X : FVec Ideal S8192x2x8x64 .f32) (n : IVec S_ 32) : FVec Ideal S2x8x64 .f32 :=
  shapeCast S2x8x64 (Host.dynamicSlice S1x2x8x64 X (startAt n) sliceFits_S8192x2x8x64_S1x2x8x64) shapeCasts_S1x2x8x64_S2x8x64

theorem rowAt_at (X : FVec Ideal S8192x2x8x64 .f32) (t : Fin 8192) (b : Fin 2) (h : Fin 8) (j : Fin 64) :
    rowAt X (fun _ => BitVec.ofNat 32 t.val) (ix3 b h j) = X (ix4 t b h j) := by
  unfold rowAt
  rw [startAt_eq]
  pointwise
  refine congrArg X ?_
  have c0 := clamp_at t sliceFits_S8192x2x8x64_S1x2x8x64.1 0
  have c1 := clamp_at t sliceFits_S8192x2x8x64_S1x2x8x64.1 1
  have c2 := clamp_at t sliceFits_S8192x2x8x64_S1x2x8x64.1 2
  have c3 := clamp_at t sliceFits_S8192x2x8x64_S1x2x8x64.1 3
  simp only [c0, c1, c2, c3]
  rw [eq_ix4 (ix4 t b h j)]
  congr 1 <;> exact Fin.ext (by simp)

/-- A row put at the counter: that row there, the others as they were. -/
theorem putRow_at (X : FVec Ideal S8192x2x8x64 .f32) (R : FVec Ideal S2x8x64 .f32) (t s : Fin 8192) (b : Fin 2) (h : Fin 8) (j : Fin 64) :
    Host.dynamicUpdateSlice X (broadcastInDim S1x2x8x64 ![1, 2, 3] bcast_S2x8x64_S1x2x8x64_1_2_3 R) (startAt (fun _ => BitVec.ofNat 32 t.val)) updateFits_S8192x2x8x64_S1x2x8x64 (ix4 s b h j)
      = if s = t then R (ix3 b h j) else X (ix4 s b h j) := by
  rw [startAt_eq]
  have c0 := clamp_at t updateFits_S8192x2x8x64_S1x2x8x64.1 0
  have c1 := clamp_at t updateFits_S8192x2x8x64_S1x2x8x64.1 1
  have c2 := clamp_at t updateFits_S8192x2x8x64_S1x2x8x64.1 2
  have c3 := clamp_at t updateFits_S8192x2x8x64_S1x2x8x64.1 3
  have e0 : (![t.val, 0, 0, 0] : Fin 4 → ℕ) 0 = t.val := rfl
  have e1 : (![t.val, 0, 0, 0] : Fin 4 → ℕ) 1 = 0 := rfl
  have e2 : (![t.val, 0, 0, 0] : Fin 4 → ℕ) 2 = 0 := rfl
  have e3 : (![t.val, 0, 0, 0] : Fin 4 → ℕ) 3 = 0 := rfl
  rw [e0] at c0; rw [e1] at c1; rw [e2] at c2; rw [e3] at c3
  pointwise
  by_cases hst : s = t
  · subst hst
    rw [if_pos rfl, dif_pos (by rw [c0, c1, c2, c3]; omega)]
    simp only [c1, c2, c3, Nat.sub_zero]
  · rw [if_neg hst, dif_neg]
    rw [c0]
    intro hh
    exact hst (Fin.ext (by omega))

/-! ## One trip -/

/-- The state a trip leaves, from the rows it takes. -/
abbrev tripS (S : FVec Ideal S2x8x64x64 .f32) (w q a v k : FVec Ideal S2x8x64 .f32) : FVec Ideal S2x8x64x64 .f32 :=
  addf (addf (mulf S (broadcastInDim S2x8x64x64 ![0, 1, 2, 3] bcast_S2x8x1x64_S2x8x64x64_0_1_2_3 (broadcastInDim S2x8x1x64 ![0, 1, 3] bcast_S2x8x64_S2x8x1x64_0_1_3 w)))
    (mulf (broadcastInDim S2x8x64x64 ![0, 1, 2, 3] bcast_S2x8x64x1_S2x8x64x64_0_1_2_3 (broadcastInDim S2x8x64x1 ![0, 1, 2] bcast_S2x8x64_S2x8x64x1_0_1_2
        (Host.dotGeneral dot_S2x8x64x64_S2x8x64_S2x8x64_3_2_2_n_01_01 none S (Host.negf q))))
      (broadcastInDim S2x8x64x64 ![0, 1, 2, 3] bcast_S2x8x1x64_S2x8x64x64_0_1_2_3 (broadcastInDim S2x8x1x64 ![0, 1, 3] bcast_S2x8x64_S2x8x1x64_0_1_3 (mulf q a)))))
    (mulf (broadcastInDim S2x8x64x64 ![0, 1, 2, 3] bcast_S2x8x64x1_S2x8x64x64_0_1_2_3 (broadcastInDim S2x8x64x1 ![0, 1, 2] bcast_S2x8x64_S2x8x64x1_0_1_2 v))
      (broadcastInDim S2x8x64x64 ![0, 1, 2, 3] bcast_S2x8x1x64_S2x8x64x64_0_1_2_3 (broadcastInDim S2x8x1x64 ![0, 1, 3] bcast_S2x8x64_S2x8x1x64_0_1_3 k)))
/-- The output read from it. -/
abbrev tripY (S : FVec Ideal S2x8x64x64 .f32) (r : FVec Ideal S2x8x64 .f32) : FVec Ideal S2x8x64 .f32 :=
  Host.dotGeneral dot_S2x8x64x64_S2x8x64_S2x8x64_3_2_2_n_01_01 none S r

theorem tripS_at (S : FVec Ideal S2x8x64x64 .f32) (w q a v k : FVec Ideal S2x8x64 .f32) (b : Fin 2) (h : Fin 8) (i j : Fin 64) :
    tripS S w q a v k (ix4 b h i j) = S (ix4 b h i j) * w (ix3 b h j) + (∑ x, S (ix4 b h i x) * -q (ix3 b h x)) * (q (ix3 b h j) * a (ix3 b h j)) + v (ix3 b h i) * k (ix3 b h j) := by
  pointwise
theorem tripY_at (S : FVec Ideal S2x8x64x64 .f32) (r : FVec Ideal S2x8x64 .f32) (b : Fin 2) (h : Fin 8) (i : Fin 64) :
    tripY S r (ix3 b h i) = ∑ x, S (ix4 b h i x) * r (ix3 b h x) := by
  pointwise

theorem tripS_real (S : FVec Ideal S2x8x64x64 .f32) (w q a v k : FVec Ideal S2x8x64 .f32) (b : Fin 2) (h : Fin 8) (s : Fin 64 → Fin 64 → ℝ) (w' q' a' v' k' : Fin 64 → ℝ)
    (hS : ∀ i j, S (ix4 b h i j) = ((s i j : ℝ) : EReal)) (hw : ∀ j, w (ix3 b h j) = ((w' j : ℝ) : EReal)) (hq : ∀ j, q (ix3 b h j) = ((q' j : ℝ) : EReal))
    (ha : ∀ j, a (ix3 b h j) = ((a' j : ℝ) : EReal)) (hv : ∀ j, v (ix3 b h j) = ((v' j : ℝ) : EReal)) (hk : ∀ j, k (ix3 b h j) = ((k' j : ℝ) : EReal)) (i j : Fin 64) :
    tripS S w q a v k (ix4 b h i j) = ((next w' q' a' v' k' s i j : ℝ) : EReal) := by
  rw [tripS_at]
  simp only [hS, hw, hq, ha, hv, hk]
  simp only [next, ← EReal.coe_mul, ← EReal.coe_neg, coe_sum, ← EReal.coe_add, mul_neg, Finset.sum_neg_distrib]
theorem tripY_real (S : FVec Ideal S2x8x64x64 .f32) (r : FVec Ideal S2x8x64 .f32) (b : Fin 2) (h : Fin 8) (s : Fin 64 → Fin 64 → ℝ) (r' : Fin 64 → ℝ)
    (hS : ∀ i j, S (ix4 b h i j) = ((s i j : ℝ) : EReal)) (hr : ∀ j, r (ix3 b h j) = ((r' j : ℝ) : EReal)) (i : Fin 64) :
    tripY S r (ix3 b h i) = ((Wkv.read r' s i : ℝ) : EReal) := by
  rw [tripY_at]
  simp only [hS, hr]
  simp only [Wkv.read, ← EReal.coe_mul, coe_sum]

section Carried
variable (V0 : Valuation τ sig (Elt Ideal)) (n : IVec S_ 32) (hctr : V0 (Proc.devRef .tc main_v14_6) = n)
include hctr
theorem step_s : STEP V0 (Proc.devRef .tc main_v14_7) = tripS (V0 (Proc.devRef .tc main_v14_7)) (rowAt (V0 (Proc.devRef .tc main_v14_1)) n) (rowAt (V0 (Proc.devRef .tc main_v14_4)) n)
    (rowAt (V0 (Proc.devRef .tc main_v14_5)) n) (rowAt (V0 (Proc.devRef .tc main_v14_3)) n) (rowAt (V0 (Proc.devRef .tc main_v14_2)) n) := by
  subst hctr
  rw [STEP_main_v14_7]
  rfl
theorem step_y : STEP V0 (Proc.devRef .tc main_v14_8) = Host.dynamicUpdateSlice (V0 (Proc.devRef .tc main_v14_8)) (broadcastInDim S1x2x8x64 ![1, 2, 3] bcast_S2x8x64_S1x2x8x64_1_2_3
    (tripY (STEP V0 (Proc.devRef .tc main_v14_7)) (rowAt (V0 (Proc.devRef .tc main_v14_0)) n))) (startAt n) updateFits_S8192x2x8x64_S1x2x8x64 := by
  subst hctr
  rw [STEP_main_v14_8, STEP_main_v14_7]
  rfl
end Carried

/-! ## The carried buffers before trip `k` -/

section Fold
variable (m : (ℓ : Loc nD τ sig) → Buf (Elt Ideal) ℓ) (c : Dev nD)

/-- The argument arrays. -/
abbrev B0 : FVec Ideal S16384x512 .f32 := m ((c.tc : Thread nD τ).loc main_arg0)
abbrev B1 : FVec Ideal S16384x512 .f32 := m ((c.tc : Thread nD τ).loc main_arg1)
abbrev B2 : FVec Ideal S16384x512 .f32 := m ((c.tc : Thread nD τ).loc main_arg2)
abbrev B3 : FVec Ideal S16384x512 .f32 := m ((c.tc : Thread nD τ).loc main_arg3)
abbrev B4 : FVec Ideal S16384x512 .f32 := m ((c.tc : Thread nD τ).loc main_arg4)
abbrev B5 : FVec Ideal S16384x512 .f32 := m ((c.tc : Thread nD τ).loc main_arg5)

/-- One argument as a sequence of rows, a step's rows together. -/
def rows (X : FVec Ideal S16384x512 .f32) : FVec Ideal S8192x2x8x64 .f32 :=
  transpose S8192x2x8x64 [1, 0, 2, 3] (shapeCast S2x8192x8x64 X shapeCasts_S16384x512_S2x8192x8x64) transposes_S2x8192x8x64_S8192x2x8x64_1_0_2_3

/-- Head `h` of sequence `b` is chain `8 b + h`. -/
abbrev cix (b : Fin 2) (h : Fin 8) : Fin 16 := ⟨8 * b.val + h.val, by omega⟩

theorem rows_at (X : FVec Ideal S16384x512 .f32) (t : Fin 8192) (b : Fin 2) (h : Fin 8) (j : Fin 64) :
    rows X (ix4 t b h j) = X (ix2 (rowOf (cix b h) t) (colOf (cix b h) j)) := by
  have e1 : (8 * b.val + h.val) / 8 = b.val := by omega
  have e2 : (8 * b.val + h.val) % 8 = h.val := by omega
  unfold rows
  pointwise
  simp only [rowOf, colOf, cix, e1, e2]

theorem rows_real {X : FVec Ideal S16384x512 .f32} (hX : Real X) (t : Fin 8192) (b : Fin 2) (h : Fin 8) (j : Fin 64) :
    rowAt (rows X) (fun _ => BitVec.ofNat 32 t.val) (ix3 b h j) = ((seqOf X (cix b h) t.val j : ℝ) : EReal) := by
  rw [rowAt_at, rows_at]; exact seqOf_eq hX _ _ _ rfl _

abbrev E : Valuation τ sig (Elt Ideal) := entryContents preI m c

theorem E_0 : E m c (Proc.devRef .tc main_v14_0) = rows (B0 m c) := by
  simp only [E, entryContents, afterL_cons, afterL_nil]
  after_reads_simp
  rfl
theorem E_1 : E m c (Proc.devRef .tc main_v14_1) = rows (B1 m c) := by
  simp only [E, entryContents, afterL_cons, afterL_nil]
  after_reads_simp
  rfl
theorem E_2 : E m c (Proc.devRef .tc main_v14_2) = rows (B2 m c) := by
  simp only [E, entryContents, afterL_cons, afterL_nil]
  after_reads_simp
  rfl
theorem E_3 : E m c (Proc.devRef .tc main_v14_3) = rows (B3 m c) := by
  simp only [E, entryContents, afterL_cons, afterL_nil]
  after_reads_simp
  rfl
theorem E_4 : E m c (Proc.devRef .tc main_v14_4) = rows (B4 m c) := by
  simp only [E, entryContents, afterL_cons, afterL_nil]
  after_reads_simp
  rfl
theorem E_5 : E m c (Proc.devRef .tc main_v14_5) = rows (B5 m c) := by
  simp only [E, entryContents, afterL_cons, afterL_nil]
  after_reads_simp
  rfl
theorem E_7 : E m c (Proc.devRef .tc main_v14_7) = broadcastInDim S2x8x64x64 ![] bcast_S_S2x8x64x64 (constant (F := Ideal) S_ .f32 0x00000000#32) := by
  simp only [E, entryContents, afterL_cons, afterL_nil]
  after_reads_simp
  rfl

/-- What the loop carries before trip `k`. -/
abbrev at_ (k : ℕ) : Valuation τ sig (Elt Ideal) := STEP^[k] (E m c)

theorem at_succ (k : ℕ) : at_ m c (k + 1) = STEP (at_ m c k) := Function.iterate_succ_apply' ..
theorem at_0 (k : ℕ) : at_ m c k (Proc.devRef .tc main_v14_0) = rows (B0 m c) := by
  induction k with
  | zero => exact E_0 m c
  | succ k ih => rw [at_succ, STEP_main_v14_0, ih]
theorem at_1 (k : ℕ) : at_ m c k (Proc.devRef .tc main_v14_1) = rows (B1 m c) := by
  induction k with
  | zero => exact E_1 m c
  | succ k ih => rw [at_succ, STEP_main_v14_1, ih]
theorem at_2 (k : ℕ) : at_ m c k (Proc.devRef .tc main_v14_2) = rows (B2 m c) := by
  induction k with
  | zero => exact E_2 m c
  | succ k ih => rw [at_succ, STEP_main_v14_2, ih]
theorem at_3 (k : ℕ) : at_ m c k (Proc.devRef .tc main_v14_3) = rows (B3 m c) := by
  induction k with
  | zero => exact E_3 m c
  | succ k ih => rw [at_succ, STEP_main_v14_3, ih]
theorem at_4 (k : ℕ) : at_ m c k (Proc.devRef .tc main_v14_4) = rows (B4 m c) := by
  induction k with
  | zero => exact E_4 m c
  | succ k ih => rw [at_succ, STEP_main_v14_4, ih]
theorem at_5 (k : ℕ) : at_ m c k (Proc.devRef .tc main_v14_5) = rows (B5 m c) := by
  induction k with
  | zero => exact E_5 m c
  | succ k ih => rw [at_succ, STEP_main_v14_5, ih]
theorem at_6 (k : ℕ) : at_ m c k (Proc.devRef .tc main_v14_6) = fun _ => BitVec.ofNat 32 k := by
  induction k with
  | zero => exact ctr_entry m c
  | succ k ih =>
    rw [at_succ, STEP_main_v14_6, step_main_v14_6, ih]
    funext x
    show BitVec.ofNat 32 k + 1#32 = _
    rw [BitVec.ofNat_add]

variable (h0 : Real (B0 m c)) (h1 : Real (B1 m c)) (h2 : Real (B2 m c)) (h3 : Real (B3 m c)) (h4 : Real (B4 m c)) (h5 : Real (B5 m c))

include h1 h2 h3 h4 h5

/-- The state before trip `k`. -/
theorem at_7 : ∀ k ≤ 8192, ∀ (b : Fin 2) (h : Fin 8) (i j : Fin 64), at_ m c k (Proc.devRef .tc main_v14_7) (ix4 b h i j)
    = ((chain (B1 m c) (B4 m c) (B5 m c) (B3 m c) (B2 m c) (cix b h) k i j : ℝ) : EReal) := by
  intro k
  induction k with
  | zero =>
    intro _ b h i j
    rw [show at_ m c 0 = E m c from rfl, E_7]
    pointwise
    rfl
  | succ k ih =>
    intro hk b h i j
    have ih := ih (by omega)
    have hr {X : FVec Ideal S16384x512 .f32} (hX : Real X) (b : Fin 2) (h : Fin 8) (j : Fin 64) :
        rowAt (rows X) (fun _ => BitVec.ofNat 32 k) (ix3 b h j) = ((seqOf X (cix b h) k j : ℝ) : EReal) := rows_real hX ⟨k, by omega⟩ b h j
    rw [at_succ, step_s _ _ (at_6 m c k), at_1, at_2, at_3, at_4, at_5]
    exact tripS_real _ _ _ _ _ _ b h _ _ _ _ _ _ (ih b h) (hr h1 b h) (hr h4 b h) (hr h5 b h) (hr h3 b h) (hr h2 b h) i j

include h0

/-- The outputs put by the trips before `k`. -/
theorem at_8 : ∀ k ≤ 8192, ∀ (t : Fin 8192) (b : Fin 2) (h : Fin 8) (i : Fin 64), t.val < k → at_ m c k (Proc.devRef .tc main_v14_8) (ix4 t b h i)
    = ((Wkv.read (seqOf (B0 m c) (cix b h) t.val) (chain (B1 m c) (B4 m c) (B5 m c) (B3 m c) (B2 m c) (cix b h) (t.val + 1)) i : ℝ) : EReal) := by
  intro k
  induction k with
  | zero => intro _ t b h i ht; exact absurd ht (Nat.not_lt_zero _)
  | succ k ih =>
    intro hk t b h i ht
    rw [at_succ, step_y _ _ (at_6 m c k)]
    refine (putRow_at _ _ ⟨k, by omega⟩ t b h i).trans ?_
    by_cases hst : t = ⟨k, by omega⟩
    · have ek : t.val = k := congrArg Fin.val hst
      rw [if_pos hst, ek]
      rw [← at_succ, at_0]
      have hr (b : Fin 2) (h : Fin 8) (j : Fin 64) :
        rowAt (rows (B0 m c)) (fun _ => BitVec.ofNat 32 k) (ix3 b h j) = ((seqOf (B0 m c) (cix b h) k j : ℝ) : EReal) := rows_real h0 ⟨k, by omega⟩ b h j
      exact tripY_real _ _ b h _ _ (at_7 m c h1 h2 h3 h4 h5 (k + 1) hk b h) (hr b h) i
    · rw [if_neg hst]
      exact ih (by omega) t b h i (by have : t.val ≠ k := fun e => hst (Fin.ext e); omega)

/-! ## The arrays the reference leaves -/

/-- The outputs, in the arguments' layout. -/
theorem out_y (n : Fin 8192) (p : Fin 16) (i : Fin 64) : out_main_v16 (at_ m c 8192) (ix2 (rowOf p n) (colOf p i))
    = ((Wkv.read (seqOf (B0 m c) p n.val) (chain (B1 m c) (B4 m c) (B5 m c) (B3 m c) (B2 m c) p (n.val + 1)) i : ℝ) : EReal) := by
  have hp := p.isLt
  have e : cix ⟨p.val / 8, by omega⟩ ⟨p.val % 8, by omega⟩ = p := Fin.ext (show 8 * (p.val / 8) + p.val % 8 = p.val by omega)
  have h := at_8 m c h0 h1 h2 h3 h4 h5 8192 le_rfl n ⟨p.val / 8, by omega⟩ ⟨p.val % 8, by omega⟩ i n.isLt
  rw [e] at h
  refine Eq.trans ?_ h
  unfold out_main_v16
  pointwise
  have e0 : (p.val / 8 * 8192 + n.val) % 8192 = n.val := by omega
  have e1 : (p.val / 8 * 8192 + n.val) / 8192 = p.val / 8 := by omega
  have e2 : (p.val % 8 * 64 + i.val) / 64 = p.val % 8 := by omega
  have e3 : (p.val % 8 * 64 + i.val) % 64 = i.val := by omega
  simp only [e0, e1, e2, e3]

omit h0 in
/-- The last state. -/
theorem out_s (b : Fin 2) (h : Fin 8) (i j : Fin 64) : at_ m c 8192 (Proc.devRef .tc main_v14_7) (ix4 b h i j)
    = ((chain (B1 m c) (B4 m c) (B5 m c) (B3 m c) (B2 m c) (cix b h) 8192 i j : ℝ) : EReal) :=
  at_7 m c h1 h2 h3 h4 h5 8192 le_rfl b h i j

end Fold

end Cert.ReferenceIdeal.Scan
end
-- ==== Proof.Equation.lean ====
/- The two programs' results are equal: both are read, at every element, as the same chain's output or last state. -/
module

public import proofs.«01_k».proof.Defs
public import proofs.«01_k».proof.Proof.Finite
public import proofs.«01_k».proof.Proof.RefValue
public import Idealize.ShloMosaic.Lib.Claim

@[expose] public section

set_option maxRecDepth 16384

noncomputable section

open Idealize.ShloMosaic Idealize.ShloMosaic.TcCoe Idealize.SL.Sem

namespace Cert.KernelIdeal.Scan

open Cert.KernelIdeal Cert.KernelIdeal.Gen Cert.Wkv

variable (m : (ℓ : Loc nD τ sig) → Buf (Elt Ideal) ℓ) (c : Dev nD)

/-- `y` in the arguments' layout. -/
abbrev outY (Y : FVec Ideal S16x64x8192 .f32) : FVec Ideal S16384x512 .f32 :=
  shapeCast S16384x512 (transpose S2x8192x8x64 [0, 3, 1, 2] (shapeCast S2x8x64x8192 Y shapeCasts_S16x64x8192_S2x8x64x8192) transposes_S2x8x64x8192_S2x8192x8x64_0_3_1_2) shapeCasts_S2x8192x8x64_S16384x512
/-- The last state, by sequence and head. -/
abbrev outS (S : FVec Ideal S16x64x64 .f32) : FVec Ideal S2x8x64x64 .f32 := shapeCast S2x8x64x64 S shapeCasts_S16x64x64_S2x8x64x64

theorem outY_at (Y : FVec Ideal S16x64x8192 .f32) (p : Fin 16) (n : Fin 8192) (i : Fin 64) : outY Y (ix2 (rowOf p n) (colOf p i)) = Y (ix3 p i n) := by
  have hp := p.isLt
  pointwise
  have e1 : (p.val % 8 * 64 + i.val) % 64 = i.val := by omega
  have e0 : (p.val / 8 * 8192 + n.val) % 8192 = n.val := by omega
  simp only [e0, e1]
theorem outS_at (S : FVec Ideal S16x64x64 .f32) (b : Fin 2) (h : Fin 8) (i j : Fin 64) : outS S (ix4 b h i j) = S (ix3 (Cert.ReferenceIdeal.Scan.cix b h) i j) := by
  pointwise
  simp only [Cert.ReferenceIdeal.Scan.cix, Nat.mul_comm]

/-- Every element of the output is some chain's, at some step. -/
theorem place (x : S16384x512.Idx) : ∃ (p : Fin 16) (n : Fin 8192) (i : Fin 64), x = ix2 (rowOf p n) (colOf p i) := by
  idx_vars x
  have h0 := x0.isLt
  have h1 := x1.isLt
  refine ⟨⟨x0.val / 8192 * 8 + x1.val / 64, by omega⟩, ⟨x0.val % 8192, by omega⟩, ⟨x1.val % 64, by omega⟩, ?_⟩
  have e0 : x0 = rowOf ⟨x0.val / 8192 * 8 + x1.val / 64, by omega⟩ ⟨x0.val % 8192, by omega⟩ := Fin.ext (by
    show x0.val = (x0.val / 8192 * 8 + x1.val / 64) / 8 * 8192 + x0.val % 8192; omega)
  have e1 : x1 = colOf ⟨x0.val / 8192 * 8 + x1.val / 64, by omega⟩ ⟨x1.val % 64, by omega⟩ := Fin.ext (by
    show x1.val = (x0.val / 8192 * 8 + x1.val / 64) % 8 * 64 + x1.val % 64; omega)
  exact congrArg₂ ix2 e0 e1

end Cert.KernelIdeal.Scan

namespace Cert.Proof

open Cert.KernelIdeal.Scan (Real outY outS)

theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v24) = outY ((Cert.KernelIdeal.Scan.dats m 0 c).arrAt 6 Cert.KernelIdeal.cfg0.N)
      ∧ r.2.mem ((c.tc : Thread Cert.KernelIdeal.nD Cert.KernelIdeal.τ).loc Cert.KernelIdeal.main_v25) = outS ((Cert.KernelIdeal.Scan.dats m 0 c).arrAt 7 Cert.KernelIdeal.cfg0.N)) := by
  run_from (Cert.KernelIdeal.Scan.run_main m g)
  · show StableHlo.after (List.flatten [Cert.KernelIdeal.Gen.hostOps1]) _ _ = _
    simp only [List.flatten_cons, List.flatten_nil, List.append_nil]
    unfold_abbrev_sides
    after_results
    have e := Pipeline.withArrays_arr Cert.KernelIdeal.spec0 (by decide) c (Cert.KernelIdeal.Gen.V0 m c) (fun w => (Cert.KernelIdeal.Scan.dats m 0 c).arrAt w Cert.KernelIdeal.cfg0.N) 6
    exact congrArg outY e
  · show StableHlo.after (List.flatten [Cert.KernelIdeal.Gen.hostOps1]) _ _ = _
    simp only [List.flatten_cons, List.flatten_nil, List.append_nil]
    unfold_abbrev_sides
    after_results
    have e := Pipeline.withArrays_arr Cert.KernelIdeal.spec0 (by decide) c (Cert.KernelIdeal.Gen.V0 m c) (fun w => (Cert.KernelIdeal.Scan.dats m 0 c).arrAt w Cert.KernelIdeal.cfg0.N) 7
    exact congrArg outS e

/-- The two arrays the reference leaves. -/
def refY (m : (ℓ : Loc Cert.ReferenceIdeal.nD Cert.ReferenceIdeal.τ Cert.ReferenceIdeal.sig) → Buf (Elt Ideal) ℓ) (c : Dev Cert.ReferenceIdeal.nD) :
    Buf (Elt Ideal) ((c.tc : Thread Cert.ReferenceIdeal.nD Cert.ReferenceIdeal.τ).loc Cert.ReferenceIdeal.main_v16) :=
  Cert.ReferenceIdeal.Value.out_main_v16 (Cert.ReferenceIdeal.Scan.at_ m c 8192)
def refS (m : (ℓ : Loc Cert.ReferenceIdeal.nD Cert.ReferenceIdeal.τ Cert.ReferenceIdeal.sig) → Buf (Elt Ideal) ℓ) (c : Dev Cert.ReferenceIdeal.nD) :
    Buf (Elt Ideal) ((c.tc : Thread Cert.ReferenceIdeal.nD Cert.ReferenceIdeal.τ).loc Cert.ReferenceIdeal.main_v14_7) :=
  Cert.ReferenceIdeal.Scan.at_ m c 8192 (Proc.devRef .tc Cert.ReferenceIdeal.main_v14_7)

theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v16) = refY m c
      ∧ r.2.mem ((c.tc : Thread Cert.ReferenceIdeal.nD Cert.ReferenceIdeal.τ).loc Cert.ReferenceIdeal.main_v14_7) = refS m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  Cert.ReferenceIdeal.Value.run m g

/-- The outputs agree: each element is one chain's output at one step. -/
theorem y_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : Cert.ReferenceIdeal.Scan.B0 m' c = Cert.KernelIdeal.Scan.A0 m c)
    (e1 : Cert.ReferenceIdeal.Scan.B1 m' c = Cert.KernelIdeal.Scan.A1 m c)
    (e2 : Cert.ReferenceIdeal.Scan.B2 m' c = Cert.KernelIdeal.Scan.A2 m c)
    (e3 : Cert.ReferenceIdeal.Scan.B3 m' c = Cert.KernelIdeal.Scan.A3 m c)
    (e4 : Cert.ReferenceIdeal.Scan.B4 m' c = Cert.KernelIdeal.Scan.A4 m c)
    (e5 : Cert.ReferenceIdeal.Scan.B5 m' c = Cert.KernelIdeal.Scan.A5 m c)
    (hr : Real (Cert.KernelIdeal.Scan.A0 m c) ∧ Real (Cert.KernelIdeal.Scan.A1 m c) ∧ Real (Cert.KernelIdeal.Scan.A2 m c) ∧ Real (Cert.KernelIdeal.Scan.A3 m c)
      ∧ Real (Cert.KernelIdeal.Scan.A4 m c) ∧ Real (Cert.KernelIdeal.Scan.A5 m c)) :
    refY m' c = outY ((Cert.KernelIdeal.Scan.dats m 0 c).arrAt 6 Cert.KernelIdeal.cfg0.N)
    ∧ refS m' c = outS ((Cert.KernelIdeal.Scan.dats m 0 c).arrAt 7 Cert.KernelIdeal.cfg0.N) := by
  obtain ⟨h0, h1, h2, h3, h4, h5⟩ := hr
  rw [Cert.KernelIdeal.Scan.y_final m c h0 h1 h2 h3 h4 h5, Cert.KernelIdeal.Scan.s_final m c h1 h2 h3 h4 h5]
  constructor
  · funext x
    obtain ⟨p, n, i, rfl⟩ := Cert.KernelIdeal.Scan.place x
    rw [Cert.KernelIdeal.Scan.outY_at]
    refine (Cert.ReferenceIdeal.Scan.out_y m' c (e0 ▸ h0) (e1 ▸ h1) (e2 ▸ h2) (e3 ▸ h3) (e4 ▸ h4) (e5 ▸ h5) n p i).trans ?_
    rw [e0, e1, e2, e3, e4, e5]
    rfl
  · funext x
    obtain ⟨b, h, i, j, rfl⟩ : ∃ (b : Fin 2) (h : Fin 8) (i j : Fin 64), x = ix4 b h i j := ⟨x 0, x 1, x 2, x 3, eq_ix4 x⟩
    rw [Cert.KernelIdeal.Scan.outS_at]
    refine (Cert.ReferenceIdeal.Scan.out_s m' c (e1 ▸ h1) (e2 ▸ h2) (e3 ▸ h3) (e4 ▸ h4) (e5 ▸ h5) b h i j).trans ?_
    rw [e1, e2, e3, e4, e5]
    rfl

theorem algebraic [hP : Cert.Pre_finite_arrays.Facts] : Cert.algebraic_KernelIdeal_ReferenceIdeal_pre_finite_arrays := by
  intro m g m' g' hpre hagree
  refine ⟨fun c => outY ((Cert.KernelIdeal.Scan.dats m 0 c).arrAt 6 Cert.KernelIdeal.cfg0.N), fun c => outS ((Cert.KernelIdeal.Scan.dats m 0 c).arrAt 7 Cert.KernelIdeal.cfg0.N), ?_, ?_⟩
  · exact (θ_run _ _ _).mono (fun r h c => ⟨(h.1 c).1, (h.1 c).2, h.2.1 c⟩) (θ_run_and (kernel_run m g) (Cert.KernelIdeal.Scan.frame_run m g))
  · refine (θ_run _ _ _).mono (fun r h c => ?_) (ref_run m' g')
    obtain ⟨e0, e1, e2, e3, e4, e5⟩ := hagree c
    have hq := y_eq m m' c e0 e1 e2 e3 e4 e5 (Cert.Pre_finite_arrays.reals _ _ _ _ _ _ (hpre c))
    exact ⟨(h c).1.trans hq.1, (h c).2.1.trans hq.2, (h c).2.2⟩

end Cert.Proof

end
-- ==== Proof.MoeMath.lean ====
/- The routing of one row: the first greatest of some numbers, the second after it, and the weight each expert gets. Beside
   them, how a maximum taken lane by lane, the least lane that attains it, and a stable sort's first entries are read. -/
module

public import Idealize.ShloMosaic.PureOps.Ideal.Laws
public import Idealize.ShloMosaic.Lib.SortPrefix
public import Idealize.ShloMosaic.Lib.SortNet.Extract
public import Idealize.ShloMosaic.Lib.Pointwise
public import Mathlib.Data.Finset.Fold
public import Mathlib.Analysis.SpecialFunctions.Exp

@[expose] public section

set_option maxRecDepth 16384

noncomputable section

namespace Cert.Moe

open Idealize.ShloMosaic

/-! ## The first greatest, and the next -/

/-- `i` is the first position, of those in `S`, that holds the greatest value. -/
def Leads {n : ℕ} (S : Finset (Fin n)) (f : Fin n → ℝ) (i : Fin n) : Prop := i ∈ S ∧ ∀ j ∈ S, f j ≤ f i ∧ (j < i → f j < f i)

theorem exists_leads {n : ℕ} (S : Finset (Fin n)) (hS : S.Nonempty) (f : Fin n → ℝ) : ∃ i, Leads S f i := by
  obtain ⟨k, hk, hmax⟩ := S.exists_max_image f hS
  have hT : (S.filter fun i => ∀ j ∈ S, f j ≤ f i).Nonempty := ⟨k, Finset.mem_filter.2 ⟨hk, hmax⟩⟩
  have h := Finset.mem_filter.1 (Finset.min'_mem _ hT)
  refine ⟨_, h.1, fun j hj => ⟨h.2 j hj, fun hlt => ?_⟩⟩
  by_contra hn
  have hj' : j ∈ S.filter fun i => ∀ j ∈ S, f j ≤ f i := Finset.mem_filter.2 ⟨hj, fun l hl => (h.2 l hl).trans (not_lt.1 hn)⟩
  exact absurd (Finset.min'_le _ j hj') (not_le.2 hlt)

/-- The chosen group: the first with the greatest logit. -/
def grp (gl : Fin 4 → ℝ) : Fin 4 := Classical.choose (exists_leads Finset.univ ⟨0, Finset.mem_univ _⟩ gl)
/-- The first expert of a group, -/
def one (el : Fin 8 → ℝ) : Fin 8 := Classical.choose (exists_leads Finset.univ ⟨0, Finset.mem_univ _⟩ el)
theorem rest_nonempty (i : Fin 8) : (Finset.univ.erase i).Nonempty := by
  revert i; decide
/-- and the next. -/
def two (el : Fin 8 → ℝ) : Fin 8 := Classical.choose (exists_leads (Finset.univ.erase (one el)) (rest_nonempty _) el)

theorem grp_leads (gl : Fin 4 → ℝ) : Leads Finset.univ gl (grp gl) := Classical.choose_spec (exists_leads Finset.univ ⟨0, Finset.mem_univ _⟩ gl)
theorem one_leads (el : Fin 8 → ℝ) : Leads Finset.univ el (one el) := Classical.choose_spec (exists_leads Finset.univ ⟨0, Finset.mem_univ _⟩ el)
theorem two_leads (el : Fin 8 → ℝ) : Leads (Finset.univ.erase (one el)) el (two el) :=
  Classical.choose_spec (exists_leads (Finset.univ.erase (one el)) (rest_nonempty _) el)
theorem two_ne (el : Fin 8 → ℝ) : two el ≠ one el := (Finset.mem_erase.1 (two_leads el).1).1

/-- The chosen group's softmax weight. -/
def gate (gl : Fin 4 → ℝ) : ℝ := 1 / ∑ g, Real.exp (gl g - gl (grp gl))
/-- The second expert's weight, before normalization, the first's being 1. -/
def ratio (el : Fin 8 → ℝ) : ℝ := Real.exp (el (two el) - el (one el))
/-- The weight of expert `e`. -/
def weight (gl : Fin 4 → ℝ) (el : Fin 4 → Fin 8 → ℝ) (e : ℕ) : ℝ :=
  (if e = (grp gl).val * 8 + (one (el (grp gl))).val then gate gl / (1 + ratio (el (grp gl))) else 0)
    + (if e = (grp gl).val * 8 + (two (el (grp gl))).val then gate gl / (1 + ratio (el (grp gl))) * ratio (el (grp gl)) else 0)

theorem ratio_pos (el : Fin 8 → ℝ) : 0 < ratio el := Real.exp_pos _
theorem sum_exp_pos {n : ℕ} (hn : 0 < n) (f : Fin n → ℝ) : 0 < ∑ g, Real.exp (f g) :=
  Finset.sum_pos (fun _ _ => Real.exp_pos _) ⟨⟨0, hn⟩, Finset.mem_univ _⟩

/-! ## Folds over lanes -/

theorem fold_max_eq {n : ℕ} (f : Fin n → EReal) (k : Fin n) (h : ∀ j, f j ≤ f k) : Finset.fold max ⊥ f Finset.univ = f k :=
  le_antisymm (Finset.fold_max_le _ |>.2 ⟨bot_le, fun j _ => h j⟩) ((Finset.le_fold_max _).2 (Or.inr ⟨k, Finset.mem_univ _, le_rfl⟩))

theorem toInt_fold_minsi {ι : Type} [DecidableEq ι] (f : ι → BitVec 32) (b : BitVec 32) (s : Finset ι) :
    (Finset.fold IntOp.minsi b f s).toInt = Finset.fold min b.toInt (fun x => (f x).toInt) s := by
  induction s using Finset.induction_on with
  | empty => rfl
  | insert a s ha ih => rw [Finset.fold_insert ha, Finset.fold_insert ha, SortNet.toInt_minsi, ih]

theorem toInt_lane (n : ℕ) (h : n < 1024) : (BitVec.ofNat 32 n).toInt = n := by
  rw [BitVec.toInt_eq_toNat_cond, BitVec.toNat_ofNat, Nat.mod_eq_of_lt (by omega), if_pos (by omega)]

/-- The least lane at which `p` holds, taken as the least word. -/
theorem fold_minsi_eq (p : Fin 128 → Prop) [DecidablePred p] (k : Fin 128) (hp : p k) (hlt : ∀ j, j < k → ¬ p j) :
    Finset.fold IntOp.minsi 2147483647#32 (fun x : Fin 128 => if p x then BitVec.ofNat 32 x.val else 128#32) Finset.univ = BitVec.ofNat 32 k.val := by
  apply BitVec.eq_of_toInt_eq
  have hk := k.isLt
  rw [toInt_fold_minsi, toInt_lane k.val (by omega)]
  have e : ∀ x : Fin 128, (if p x then BitVec.ofNat 32 x.val else 128#32).toInt = if p x then (x.val : ℤ) else 128 := fun x => by
    split
    · exact toInt_lane x.val (by have := x.isLt; omega)
    · rfl
  simp only [e]
  refine le_antisymm ((Finset.fold_min_le _).2 (Or.inr ⟨k, Finset.mem_univ _, by rw [if_pos hp]⟩)) ((Finset.le_fold_min _).2 ⟨?_, fun x _ => ?_⟩)
  · rw [show (2147483647#32).toInt = 2147483647 from rfl]; omega
  · split
    · next hx =>
      have : ¬ x < k := fun h => hlt x h hx
      have : k.val ≤ x.val := not_lt.1 this
      omega
    · omega

/-! ## A stable sort's first entries -/

theorem stableSort_stable {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.1 hb))

/-- A sort by a key alone is the sort by the key and then the position. -/
theorem sortedFrom_key {n : ℕ} (f : Fin n → ℝ) :
    sortedFrom (fun k k' : Fin n => decide (f k' < f k)) = sortedFrom (fun k k' : Fin n => decide (f k' < f k) || (decide (f k = f k') && decide (k < k'))) := by
  have e : sortPositions n (fun k k' : Fin n => decide (f k' < f k)) = sortPositions n (fun k k' : Fin n => decide (f k' < f k) || (decide (f k = f k') && decide (k < k'))) :=
    stableSort_stable _ _ (fun a b hab => by simp [not_lt.2 hab.le]) _ (List.pairwise_lt_finRange n)
  funext k
  unfold sortedFrom
  simp only [List.get_eq_getElem, e]
  rfl

theorem key_total {n : ℕ} (f : Fin n → ℝ) : StrictTotalBefore fun k k' : Fin n => decide (f k' < f k) || (decide (f k = f k') && decide (k < k')) :=
  StrictTotalBefore.of_key_then_position (fun a b : ℝ => decide (b < a)) f (fun a => by simp) (fun a b c h1 h2 => by
    simp only [decide_eq_true_eq] at *; exact lt_trans h2 h1) (fun a b => by
    simp only [decide_eq_true_eq]; rcases lt_trichotomy a b with h | h | h
    · exact Or.inr (Or.inr h)
    · exact Or.inr (Or.inl h)
    · exact Or.inl h)

theorem before_false {n : ℕ} (f : Fin n → ℝ) (p i : Fin n) (h : f p ≤ f i) (h' : p < i → f p < f i) :
    (decide (f i < f p) || (decide (f p = f i) && decide (p < i))) = false := by
  simp only [Bool.or_eq_false_iff, Bool.and_eq_false_iff, decide_eq_false_iff_not, not_lt]
  refine ⟨h, ?_⟩
  by_cases hp : p < i
  · exact Or.inl (h' hp).ne
  · exact Or.inr (not_lt.1 hp)

theorem sorted_one {n : ℕ} (f : Fin n → ℝ) (hn : 1 ≤ n) (i : Fin n) (h : Leads Finset.univ f i) :
    sortedFrom (fun k k' : Fin n => decide (f k' < f k)) ((0 : Fin 1).castLE hn) = i := by
  rw [sortedFrom_key]
  exact (key_total f).sortedFrom_eq_of_prefix hn (fun _ => i) (fun a b _ => Subsingleton.elim a b)
    (fun a b hab => absurd hab (by omega)) (fun _ p _ => before_false f p i (h.2 p (Finset.mem_univ _)).1 (h.2 p (Finset.mem_univ _)).2) 0

theorem sorted_two (f : Fin 8 → ℝ) (q : Fin 2) :
    sortedFrom (fun k k' : Fin 8 => decide (f k' < f k)) (q.castLE (by omega)) = if q = 0 then one f else two f := by
  rw [sortedFrom_key]
  have h1 := one_leads f
  have h2 := two_leads f
  have hne := two_ne f
  refine (key_total f).sortedFrom_eq_of_prefix (by omega) (fun q => if q = 0 then one f else two f) ?_ ?_ ?_ q
  · intro a b hab
    fin_cases a <;> fin_cases b <;> simp_all
  · intro a b hab
    have ha : a = 0 := by omega
    have hb : b = 1 := by omega
    subst ha hb
    exact before_false f _ _ (h1.2 _ (Finset.mem_univ _)).1 (h1.2 _ (Finset.mem_univ _)).2
  · intro a p hp
    have hp1 : p ≠ one f := fun e => hp 0 e.symm
    have hm : p ∈ Finset.univ.erase (one f) := Finset.mem_erase.2 ⟨hp1, Finset.mem_univ _⟩
    fin_cases a
    · exact before_false f _ _ (h1.2 _ (Finset.mem_univ _)).1 (h1.2 _ (Finset.mem_univ _)).2
    · exact before_false f _ _ (h2.2 _ hm).1 (h2.2 _ hm).2

theorem gt_real (a b : ℝ) : (FloatOps.cmpfTotal (F := Ideal) (φ := .f32) .gt ((a : ℝ) : EReal) ((b : ℝ) : EReal) == 1#1) = decide (b < a) := by
  rw [Ideal.cmpfTotal_def]
  by_cases h : b < a <;> simp [Ideal.cmp, CmpDirection.ordered, h]

theorem along_two {N C : ℕ} (n : Fin N) (j k : Fin C) (h : 1 < (⟨2, ![N, C]⟩ : Shape).rank) : Shape.Idx.along (s := ⟨2, ![N, C]⟩) (ix2 n j) ⟨1, h⟩ k = ix2 n k := by
  funext a
  match a with
  | ⟨0, _⟩ => rfl
  | ⟨1, _⟩ => rfl

/-- The greatest entries of a row of real numbers, and their places. -/
theorem topK_at {N C K : ℕ} (hK : K ≤ C) (x : FVec Ideal ⟨2, ![N, C]⟩ .f32) (h : (⟨2, ![N, C]⟩ : Shape).Slices (fun _ => 0) ⟨2, ![N, K]⟩) (n : Fin N) (f : Fin C → ℝ)
    (hf : ∀ k, x (ix2 n k) = ((f k : ℝ) : EReal)) (j : Fin K) :
    (Host.topK ⟨2, ![N, K]⟩ 1 (FloatOps.cmpfTotal .gt) x h).1 (ix2 n j) = ((f (sortedFrom (fun k k' => decide (f k' < f k)) (j.castLE hK)) : ℝ) : EReal)
    ∧ (Host.topK ⟨2, ![N, K]⟩ 1 (FloatOps.cmpfTotal .gt) x h).2 (ix2 n j) = BitVec.ofNat 32 (sortedFrom (fun k k' => decide (f k' < f k)) (j.castLE hK)).val := by
  have hs : ∀ (α : Type) (y : (⟨2, ![N, C]⟩ : Shape).Idx → α), extractStridedSlice ⟨2, ![N, K]⟩ (fun _ => 0) y h (ix2 n j) = y (ix2 n (j.castLE hK)) := by
    intro α y
    unfold extractStridedSlice
    refine congrArg y (funext fun a => ?_)
    match a with
    | ⟨0, _⟩ => exact Fin.ext (by simp [ix2])
    | ⟨1, _⟩ => exact Fin.ext (by simp [ix2])
  have hb : (fun k k' : Fin C => (FloatOps.cmpfTotal (F := Ideal) (φ := .f32) .gt (x (ix2 n k)) (x (ix2 n k')) == 1#1)) = fun k k' => decide (f k' < f k) := by
    funext k k'
    rw [hf, hf, gt_real]
  unfold Host.topK
  dsimp only
  rw [hs, hs]
  unfold Host.sort2
  rw [dif_pos (show 1 < (⟨2, ![N, C]⟩ : Shape).rank from Nat.one_lt_two)]
  have hp : (fun k k' : Fin C => (FloatOps.cmpfTotal (F := Ideal) (φ := .f32) .gt (x (Shape.Idx.along (s := ⟨2, ![N, C]⟩) (ix2 n (j.castLE hK)) ⟨1, Nat.one_lt_two⟩ k)) (x (Shape.Idx.along (s := ⟨2, ![N, C]⟩) (ix2 n (j.castLE hK)) ⟨1, Nat.one_lt_two⟩ k')) == 1#1)) = fun k k' => decide (f k' < f k) := by
    funext k k'
    rw [along_two, along_two]
    exact congrFun (congrFun hb k) k'
  constructor
  · show x (Shape.Idx.along (s := ⟨2, ![N, C]⟩) (ix2 n (j.castLE hK)) ⟨1, Nat.one_lt_two⟩ (sortedFrom (fun k k' : Fin C => (FloatOps.cmpfTotal (F := Ideal) (φ := .f32) .gt (x (Shape.Idx.along (s := ⟨2, ![N, C]⟩) (ix2 n (j.castLE hK)) ⟨1, Nat.one_lt_two⟩ k)) (x (Shape.Idx.along (s := ⟨2, ![N, C]⟩) (ix2 n (j.castLE hK)) ⟨1, Nat.one_lt_two⟩ k')) == 1#1)) (j.castLE hK))) = _
    exact (congrArg x (along_two n _ _ _)).trans ((congrArg (fun R => x (ix2 n (sortedFrom R (j.castLE hK)))) hp).trans (hf _))
  · simp only [dif_pos Nat.one_lt_two]
    show BitVec.ofNat 32 (Shape.Idx.along (s := ⟨2, ![N, C]⟩) (ix2 n (j.castLE hK)) ⟨1, Nat.one_lt_two⟩ (sortedFrom (fun k k' : Fin C => (FloatOps.cmpfTotal (F := Ideal) (φ := .f32) .gt (x (Shape.Idx.along (s := ⟨2, ![N, C]⟩) (ix2 n (j.castLE hK)) ⟨1, Nat.one_lt_two⟩ k)) (x (Shape.Idx.along (s := ⟨2, ![N, C]⟩) (ix2 n (j.castLE hK)) ⟨1, Nat.one_lt_two⟩ k')) == 1#1)) (j.castLE hK)) ⟨1, Nat.one_lt_two⟩).val = _
    exact (congrArg (fun i => BitVec.ofNat 32 ((i : (⟨2, ![N, C]⟩ : Shape).Idx) ⟨1, Nat.one_lt_two⟩).val) (along_two n _ _ _)).trans (congrArg (fun R => BitVec.ofNat 32 (sortedFrom R (j.castLE hK)).val) hp)

end Cert.Moe

end
-- ==== Proof.MoeRoute.lean ====
/- The kernel's routing, read along one row's lanes: what its masked maxima, first lanes and weights are. -/
module

public import proofs.«01_k».proof.Proof.MoeMath
public import proofs.«01_k».proof.Proof.Gen.Kernel2Ideal.Value

@[expose] public section

set_option maxRecDepth 16384

noncomputable section

namespace Cert.Moe

open Idealize.ShloMosaic Idealize.ShloMosaic.TcCoe Idealize.ShloMosaic.Tactic
open Cert.Kernel2Ideal Cert.Kernel2Ideal.Gen

theorem coe_sum {ι : Type} (s : Finset ι) (f : ι → ℝ) : ((∑ i ∈ s, f i : ℝ) : EReal) = ∑ i ∈ s, ((f i : ℝ) : EReal) := by
  induction s using Finset.cons_induction with
  | empty => rfl
  | cons a s ha ih => rw [Finset.sum_cons, Finset.sum_cons, EReal.coe_add, ih]

/-! ## Lanes that hold some numbers and nothing else -/

/-- `A` holds `f` on the lanes of `S`, and minus infinity elsewhere. -/
structure Held {n : ℕ} (A : Fin 128 → EReal) (S : Finset (Fin n)) (lane : Fin n → Fin 128) (f : Fin n → ℝ) : Prop where
  inside : ∀ g ∈ S, A (lane g) = ((f g : ℝ) : EReal)
  outside : ∀ x, (∀ g ∈ S, lane g ≠ x) → A x = ⊥

variable {n : ℕ} {A : Fin 128 → EReal} {S : Finset (Fin n)} {lane : Fin n → Fin 128} {f : Fin n → ℝ}

theorem Held.cases (h : Held A S lane f) (x : Fin 128) : (∃ g ∈ S, lane g = x) ∨ A x = ⊥ := by
  by_cases hx : ∃ g ∈ S, lane g = x
  · exact Or.inl hx
  · exact Or.inr (h.outside x fun g hg e => hx ⟨g, hg, e⟩)

theorem Held.max (h : Held A S lane f) (k : Fin n) (hk : Leads S f k) : Finset.fold Max.max ⊥ A Finset.univ = ((f k : ℝ) : EReal) := by
  rw [fold_max_eq A (lane k) fun x => ?_, h.inside k hk.1]
  rcases h.cases x with ⟨g, hg, rfl⟩ | hx
  · rw [h.inside g hg, h.inside k hk.1]
    exact EReal.coe_le_coe_iff.2 (hk.2 g hg).1
  · rw [hx]; exact bot_le

theorem Held.first (h : Held A S lane f) (hl : StrictMono lane) (k : Fin n) (hk : Leads S f k) (w : Fin 128 → BitVec 32) (hw : ∀ x, w x = BitVec.ofNat 32 x.val)
    (p : Fin 128 → Prop) [DecidablePred p] (hp : ∀ x, p x ↔ A x = ((f k : ℝ) : EReal)) :
    Finset.fold IntOp.minsi 2147483647#32 (fun x : Fin 128 => if p x then w x else 128#32) Finset.univ = BitVec.ofNat 32 (lane k).val := by
  simp only [hw]
  refine fold_minsi_eq p (lane k) ((hp _).2 (h.inside k hk.1)) fun x hx hpx => ?_
  have hx' := (hp x).1 hpx
  rcases h.cases x with ⟨g, hg, rfl⟩ | hb
  · rw [h.inside g hg, EReal.coe_eq_coe_iff] at hx'
    exact absurd hx' ((hk.2 g hg).2 (hl.lt_iff_lt.1 hx)).ne
  · rw [hb] at hx'
    exact absurd hx' (EReal.bot_ne_coe _)

theorem Held.sum_exp (h : Held A Finset.univ lane f) (hl : StrictMono lane) (M : ℝ) :
    ∑ x, Ideal.exp (A x - ((M : ℝ) : EReal)) = ((∑ g, Real.exp (f g - M) : ℝ) : EReal) := by
  have e : ∑ g, Ideal.exp (A (lane g) - ((M : ℝ) : EReal)) = ∑ x, Ideal.exp (A x - ((M : ℝ) : EReal)) :=
    Finset.sum_of_injOn lane (fun a _ b _ e => hl.injective e) (fun _ _ => Finset.mem_coe.2 (Finset.mem_univ _)) (fun x _ hx => by
      rw [h.outside x fun g _ e => hx ⟨g, Finset.mem_coe.2 (Finset.mem_univ _), e⟩]
      rfl) fun _ _ => rfl
  rw [← e, coe_sum]
  refine Finset.sum_congr rfl fun g _ => ?_
  rw [h.inside g (Finset.mem_univ _), ← EReal.coe_sub, Ideal.exp_coe]

/-! ## The kernel's masks -/

/-- The lane numbers. -/
abbrev lanes : IVec S1024x128 32 := iota .tc S1024x128 32 [1] iota_S1024x128_d1_w32
/-- The lane of a group's logit, -/
def glane (g : Fin 4) : Fin 128 := ⟨32 + g.val, by omega⟩
/-- and of an expert's. -/
def elane (g : Fin 4) (j : Fin 8) : Fin 128 := ⟨g.val * 8 + j.val, by omega⟩

theorem glane_mono : StrictMono glane := fun a b h => by
  show 32 + a.val < 32 + b.val
  have : a.val < b.val := h
  omega
theorem elane_mono (g : Fin 4) : StrictMono (elane g) := fun a b h => by
  show g.val * 8 + a.val < g.val * 8 + b.val
  have : a.val < b.val := h
  omega

theorem lanes_at (r : Fin 1024) (x : Fin 128) : lanes (ix2 r x) = BitVec.ofNat 32 x.val := by
  pointwise [lanes]

theorem gmask_in : ∀ g : Fin 4, IntOp.andi (IntOp.cmpi .sge (BitVec.ofNat 32 (glane g).val) 32#32) (IntOp.cmpi .slt (BitVec.ofNat 32 (glane g).val) 36#32) = 1#1 := by decide +kernel
theorem gmask_out : ∀ x : Fin 128, (∀ g : Fin 4, glane g ≠ x) → IntOp.andi (IntOp.cmpi .sge (BitVec.ofNat 32 x.val) 32#32) (IntOp.cmpi .slt (BitVec.ofNat 32 x.val) 36#32) = 0#1 := by decide +kernel
theorem emask_in : ∀ (g : Fin 4) (j : Fin 8), IntOp.andi (IntOp.cmpi .slt (BitVec.ofNat 32 (elane g j).val) 32#32)
    (IntOp.cmpi .eq (IntOp.shrsi ArithUnit.vector (BitVec.ofNat 32 (elane g j).val) 3#32) (IntOp.subi (BitVec.ofNat 32 (glane g).val) 32#32)) = 1#1 := by decide +kernel
theorem emask_out : ∀ (g : Fin 4) (x : Fin 128), (∀ j : Fin 8, elane g j ≠ x) → IntOp.andi (IntOp.cmpi .slt (BitVec.ofNat 32 x.val) 32#32)
    (IntOp.cmpi .eq (IntOp.shrsi ArithUnit.vector (BitVec.ofNat 32 x.val) 3#32) (IntOp.subi (BitVec.ofNat 32 (glane g).val) 32#32)) = 0#1 := by decide +kernel
theorem lane_eq : ∀ x y : Fin 128, IntOp.cmpi .eq (BitVec.ofNat 32 x.val) (BitVec.ofNat 32 y.val) = if x = y then 1#1 else 0#1 := by decide +kernel

theorem ninf : (Ideal.ofBits .f32 4286578688#32 : EReal) = ⊥ := by simp [Ideal.ofBits, Ideal.ieee]

/-! ## The readings -/

section
variable (LG : FVec Ideal S1024x128 .f32) (r : Fin 1024) (gl : Fin 4 → ℝ) (el : Fin 4 → Fin 8 → ℝ)
  (hg : ∀ g, LG (ix2 r (glane g)) = ((gl g : ℝ) : EReal)) (he : ∀ g j, LG (ix2 r (elane g j)) = ((el g j : ℝ) : EReal))

theorem p9_at (x : Fin 128) : k0_pay9 LG (k0_pay7 lanes) (k0_pay8 lanes) (ix2 r x) = Scalar.select (IntOp.andi (IntOp.cmpi .sge (BitVec.ofNat 32 x.val) 32#32) (IntOp.cmpi .slt (BitVec.ofNat 32 x.val) 36#32)) (LG (ix2 r x)) ⊥ := by
  rw [← ninf]
  pointwise [k0_pay9, k0_pay7, k0_pay8]

include hg in
theorem p9_held : Held (fun x => k0_pay9 LG (k0_pay7 lanes) (k0_pay8 lanes) (ix2 r x)) Finset.univ glane gl :=
  ⟨fun g _ => by rw [p9_at, gmask_in, ← hg]; rfl, fun x hx => by
    rw [p9_at, gmask_out x fun g => hx g (Finset.mem_univ _)]; rfl⟩

include hg in
theorem p10_eq : k0_pay10 LG (k0_pay7 lanes) (k0_pay8 lanes) (ix2 r (0 : Fin 1)) = ((gl (grp gl) : ℝ) : EReal) := by
  rw [← (p9_held LG r gl hg).max _ (grp_leads gl), ← ninf]
  pointwise [k0_pay10]

include hg in
theorem p11_eq : k0_pay11 LG (k0_pay7 lanes) (k0_pay8 lanes) (ix2 r (0 : Fin 1)) = ((gate gl : ℝ) : EReal) := by
  have e : k0_pay11 LG (k0_pay7 lanes) (k0_pay8 lanes) (ix2 r (0 : Fin 1)) = Ideal.div 1 (∑ x, Ideal.exp (k0_pay9 LG (k0_pay7 lanes) (k0_pay8 lanes) (ix2 r x) - k0_pay10 LG (k0_pay7 lanes) (k0_pay8 lanes) (ix2 r (0 : Fin 1)))) := by
    pointwise [k0_pay11]
  rw [e, p10_eq LG r gl hg, (p9_held LG r gl hg).sum_exp glane_mono, Ideal.div_coe (sum_exp_pos (by omega) _).ne', one_mul]
  rfl

/-- The chosen group's first lane among its experts' lanes is read from the first greatest group lane. -/
theorem p12_at (G : Fin 4) (hG : Finset.fold IntOp.minsi 2147483647#32 (fun x : Fin 128 => if k0_pay9 LG (k0_pay7 lanes) (k0_pay8 lanes) (ix2 r x) = k0_pay10 LG (k0_pay7 lanes) (k0_pay8 lanes) (ix2 r (0 : Fin 1)) then lanes (ix2 r x) else 128#32) Finset.univ = BitVec.ofNat 32 (glane G).val) (x : Fin 128) :
    k0_pay12 lanes LG (k0_pay7 lanes) (k0_pay8 lanes) (ix2 r x) = Scalar.select (IntOp.andi (IntOp.cmpi .slt (BitVec.ofNat 32 x.val) 32#32)
    (IntOp.cmpi .eq (IntOp.shrsi ArithUnit.vector (BitVec.ofNat 32 x.val) 3#32) (IntOp.subi (BitVec.ofNat 32 (glane G).val) 32#32))) (LG (ix2 r x)) ⊥ := by
  rw [← ninf, ← lanes_at r x, ← hG]
  generalize lanes = v0
  pointwise [k0_pay12]

include hg in
theorem first_group : Finset.fold IntOp.minsi 2147483647#32 (fun x : Fin 128 => if k0_pay9 LG (k0_pay7 lanes) (k0_pay8 lanes) (ix2 r x) = k0_pay10 LG (k0_pay7 lanes) (k0_pay8 lanes) (ix2 r (0 : Fin 1)) then lanes (ix2 r x) else 128#32) Finset.univ = BitVec.ofNat 32 (glane (grp gl)).val :=
  (p9_held LG r gl hg).first glane_mono _ (grp_leads gl) _ (lanes_at r) _ fun x => by rw [p10_eq LG r gl hg]

include hg he in
theorem p12_held : Held (fun x => k0_pay12 lanes LG (k0_pay7 lanes) (k0_pay8 lanes) (ix2 r x)) Finset.univ (elane (grp gl)) (el (grp gl)) :=
  ⟨fun j _ => by rw [p12_at LG r (grp gl) (first_group LG r gl hg), emask_in, ← he]; rfl, fun x hx => by
    rw [p12_at LG r (grp gl) (first_group LG r gl hg), emask_out (grp gl) x fun j => hx j (Finset.mem_univ _)]; rfl⟩

include hg he in
theorem p13_eq : k0_pay13 lanes LG (k0_pay7 lanes) (k0_pay8 lanes) (ix2 r (0 : Fin 1)) = ((el (grp gl) (one (el (grp gl))) : ℝ) : EReal) := by
  rw [← (p12_held LG r gl el hg he).max _ (one_leads _), ← ninf]
  generalize lanes = v0
  pointwise [k0_pay13]

include hg he in
theorem p14_eq : k0_pay14 lanes LG (k0_pay7 lanes) (k0_pay8 lanes) (ix2 r (0 : Fin 1)) = BitVec.ofNat 32 (elane (grp gl) (one (el (grp gl)))).val := by
  have e : k0_pay14 lanes LG (k0_pay7 lanes) (k0_pay8 lanes) (ix2 r (0 : Fin 1)) = Finset.fold IntOp.minsi 2147483647#32 (fun x : Fin 128 => if k0_pay12 lanes LG (k0_pay7 lanes) (k0_pay8 lanes) (ix2 r x) = k0_pay13 lanes LG (k0_pay7 lanes) (k0_pay8 lanes) (ix2 r (0 : Fin 1)) then lanes (ix2 r x) else 128#32) Finset.univ := by
    generalize lanes = v0
    pointwise [k0_pay14]
  rw [e]
  exact (p12_held LG r gl el hg he).first (elane_mono _) _ (one_leads _) _ (lanes_at r) _ fun x => by rw [p13_eq LG r gl el hg he]

include hg he in
theorem p15_at (x : Fin 128) : k0_pay15 lanes LG (k0_pay7 lanes) (k0_pay8 lanes) (ix2 r x)
    = if x = elane (grp gl) (one (el (grp gl))) then ⊥ else k0_pay12 lanes LG (k0_pay7 lanes) (k0_pay8 lanes) (ix2 r x) := by
  have e : k0_pay15 lanes LG (k0_pay7 lanes) (k0_pay8 lanes) (ix2 r x) = Scalar.select (IntOp.cmpi .eq (lanes (ix2 r x)) (k0_pay14 lanes LG (k0_pay7 lanes) (k0_pay8 lanes) (ix2 r (0 : Fin 1)))) (Ideal.ofBits .f32 4286578688#32) (k0_pay12 lanes LG (k0_pay7 lanes) (k0_pay8 lanes) (ix2 r x)) := by
    generalize lanes = v0
    pointwise [k0_pay15]
  rw [e, p14_eq LG r gl el hg he, lanes_at, lane_eq, ninf]
  split <;> rfl

include hg he in
theorem p15_held : Held (fun x => k0_pay15 lanes LG (k0_pay7 lanes) (k0_pay8 lanes) (ix2 r x)) (Finset.univ.erase (one (el (grp gl)))) (elane (grp gl)) (el (grp gl)) :=
  ⟨fun j hj => by
    rw [p15_at LG r gl el hg he, if_neg fun e => (Finset.mem_erase.1 hj).1 ((elane_mono _).injective e)]
    exact (p12_held LG r gl el hg he).inside j (Finset.mem_univ _), fun x hx => by
    rw [p15_at LG r gl el hg he]
    split
    · rfl
    · next hn =>
      refine (p12_held LG r gl el hg he).outside x fun j _ e => ?_
      by_cases hj : j = one (el (grp gl))
      · exact hn (by rw [← e, hj])
      · exact hx j (Finset.mem_erase.2 ⟨hj, Finset.mem_univ _⟩) e⟩

include hg he in
theorem p16_eq : k0_pay16 lanes LG (k0_pay7 lanes) (k0_pay8 lanes) (ix2 r (0 : Fin 1)) = ((el (grp gl) (two (el (grp gl))) : ℝ) : EReal) := by
  rw [← (p15_held LG r gl el hg he).max _ (two_leads _), ← ninf]
  generalize lanes = v0
  pointwise [k0_pay16]

include hg he in
theorem p17_first : Finset.fold IntOp.minsi 2147483647#32 (fun x : Fin 128 => Scalar.select (k0_pay17 lanes LG (k0_pay7 lanes) (k0_pay8 lanes) (ix2 r x)) (BitVec.ofNat 32 x.val) 128#32) Finset.univ
    = BitVec.ofNat 32 (elane (grp gl) (two (el (grp gl)))).val := by
  have e : ∀ x, Scalar.select (k0_pay17 lanes LG (k0_pay7 lanes) (k0_pay8 lanes) (ix2 r x)) (BitVec.ofNat 32 x.val) 128#32
      = if k0_pay15 lanes LG (k0_pay7 lanes) (k0_pay8 lanes) (ix2 r x) = k0_pay16 lanes LG (k0_pay7 lanes) (k0_pay8 lanes) (ix2 r (0 : Fin 1)) then BitVec.ofNat 32 x.val else 128#32 := fun x => by
    generalize lanes = v0
    pointwise [k0_pay17]
  simp only [e]
  exact (p15_held LG r gl el hg he).first (elane_mono _) _ (two_leads _) _ (fun _ => rfl) _ fun x => by rw [p16_eq LG r gl el hg he]

/-- The weights the kernel stores, from the logits `LG`. -/
def combOf : FVec Ideal S1024x128 .f32 :=
  k0_pay18 (k0_pay11 LG (k0_pay7 lanes) (k0_pay8 lanes)) (k0_pay13 lanes LG (k0_pay7 lanes) (k0_pay8 lanes)) (k0_pay14 lanes LG (k0_pay7 lanes) (k0_pay8 lanes))
    (k0_pay16 lanes LG (k0_pay7 lanes) (k0_pay8 lanes)) (k0_pay17 lanes LG (k0_pay7 lanes) (k0_pay8 lanes))

theorem p18_at (a b e : FVec Ideal S1024x1 .f32) (d : IVec S1024x1 32) (f : IVec S1024x128 1) (l : Fin 128) : k0_pay18 a b d e f (ix2 r l)
    = Scalar.select (IntOp.cmpi .eq (BitVec.ofNat 32 l.val) (d (ix2 r (0 : Fin 1)))) (Ideal.div (a (ix2 r (0 : Fin 1))) (1 + Ideal.exp (e (ix2 r (0 : Fin 1)) - b (ix2 r (0 : Fin 1))))) 0
      + Scalar.select (IntOp.cmpi .eq (BitVec.ofNat 32 l.val) (Finset.fold IntOp.minsi 2147483647#32 (fun x : Fin 128 => Scalar.select (f (ix2 r x)) (BitVec.ofNat 32 x.val) 128#32) Finset.univ))
        (Ideal.div (a (ix2 r (0 : Fin 1))) (1 + Ideal.exp (e (ix2 r (0 : Fin 1)) - b (ix2 r (0 : Fin 1)))) * Ideal.exp (e (ix2 r (0 : Fin 1)) - b (ix2 r (0 : Fin 1)))) 0 := by
  pointwise [k0_pay18]

include hg he in
theorem combOf_at (l : Fin 128) : combOf LG (ix2 r l) = ((weight gl el l.val : ℝ) : EReal) := by
  have hne : (1 : ℝ) + ratio (el (grp gl)) ≠ 0 := by have := ratio_pos (el (grp gl)); positivity
  rw [combOf, p18_at, p11_eq LG r gl hg, p13_eq LG r gl el hg he, p14_eq LG r gl el hg he, p16_eq LG r gl el hg he, p17_first LG r gl el hg he, lane_eq, lane_eq,
    ← EReal.coe_sub, Ideal.exp_coe, show Real.exp (el (grp gl) (two (el (grp gl))) - el (grp gl) (one (el (grp gl)))) = ratio (el (grp gl)) from rfl, ← EReal.coe_one, ← EReal.coe_add, Ideal.div_coe hne, ← EReal.coe_mul, ← EReal.coe_mul, mul_one_div]
  have h1 : (l = elane (grp gl) (one (el (grp gl)))) ↔ l.val = (grp gl).val * 8 + (one (el (grp gl))).val := Fin.ext_iff
  have h2 : (l = elane (grp gl) (two (el (grp gl)))) ↔ l.val = (grp gl).val * 8 + (two (el (grp gl))).val := Fin.ext_iff
  unfold weight
  simp only [← h1, ← h2]
  rw [EReal.coe_add]
  congr 1
  · split <;> rfl
  · split <;> rfl

end

end Cert.Moe

end
-- ==== Proof.MoeBody.lean ====
/- What one grid point adds: four experts' contributions to each row, each an expert's two projections of the normed row, the
   gated product, and the projection back. -/
module

public import proofs.«01_k».proof.Proof.MoeRoute

@[expose] public section

set_option maxRecDepth 16384

noncomputable section

namespace Cert.Moe

open Idealize.ShloMosaic Idealize.ShloMosaic.TcCoe Idealize.ShloMosaic.Tactic
open Cert.Kernel2Ideal Cert.Kernel2Ideal.Gen

/-- The gated product: `h` by its logistic, by `u`, by the expert's weight. -/
def act (h u ce : EReal) : EReal := h * Ideal.div 1 (1 + Ideal.exp (0 - h)) * u * ce
/-- One expert's contribution to column `d` of a row. -/
def down (xn : Fin 1024 → EReal) (wg wu : Fin 1024 → Fin 256 → EReal) (wd : Fin 256 → Fin 1024 → EReal) (ce : EReal) (d : Fin 1024) : EReal :=
  ∑ f, act (∑ x, xn x * wg x f) (∑ x, xn x * wu x f) ce * wd f d

/-- The word of the expert numbered `j` at step `s`, among a step's four. -/
def eword (s : BitVec 32) (j : BitVec 32) : BitVec 32 := Scalar.addi (Scalar.muli s 4#32) j
/-- The weight a row's lanes hold at the lane `w` names. -/
def pick (cb : Fin 128 → EReal) (w : BitVec 32) : EReal := ∑ x : Fin 128, Scalar.select (IntOp.cmpi .eq (BitVec.ofNat 32 x.val) w) (cb x) 0

theorem eword_at : ∀ (s : Fin 8) (j : Fin 4) (x : Fin 128), IntOp.cmpi .eq (BitVec.ofNat 32 x.val) (eword (BitVec.ofNat 32 s.val) (BitVec.ofNat 32 j.val)) = if x.val = 4 * s.val + j.val then 1#1 else 0#1 := by decide +kernel

theorem pick_at (cb : Fin 128 → EReal) (s : Fin 8) (j : Fin 4) : pick cb (eword (BitVec.ofNat 32 s.val) (BitVec.ofNat 32 j.val)) = cb ⟨4 * s.val + j.val, by omega⟩ := by
  unfold pick
  rw [Finset.sum_eq_single (⟨4 * s.val + j.val, by omega⟩ : Fin 128)]
  · rw [eword_at, if_pos rfl]; rfl
  · intro x _ hx
    rw [eword_at, if_neg fun e => hx (Fin.ext e)]; rfl
  · intro h; exact absurd (Finset.mem_univ _) h

section
variable (i : grid0.Coords) (s : BitVec 32) (XN : FVec Ideal S1024x1024 .bf16) (CB : FVec Ideal S1024x128 .f32) (A : FVec Ideal S1024x1024 .f32) (r : Fin 1024)
  (wg wu : FVec Ideal S1x1024x256 .bf16) (wd wd' : FVec Ideal S1x256x1024 .bf16)

/-- An expert's contribution, its weights read from the blocks. -/
abbrev downB (ce : EReal) (d : Fin 1024) : EReal :=
  down (fun x => XN (ix2 r x)) (fun x f => wg (ix3 (0 : Fin 1) x f)) (fun x f => wu (ix3 (0 : Fin 1) x f)) (fun f d => wd (ix3 (0 : Fin 1) f d)) ce d

theorem pay20_at (f : Fin 256) : k0_pay20 (F := Ideal) i XN wg wu CB (ix2 r f)
    = act (∑ x, XN (ix2 r x) * wg (ix3 (0 : Fin 1) x f)) (∑ x, XN (ix2 r x) * wu (ix3 (0 : Fin 1) x f)) (pick (fun x => CB (ix2 r x)) (eword (BitVec.ofNat 32 (i 1).val) 0#32)) := by
  unfold act pick eword
  pointwise [k0_pay20]

theorem pay21_at (P : FVec Ideal S1024x256 .bf16) (d : Fin 1024) : k0_pay21 (F := Ideal) s lanes XN P wd' wg wu CB wd (ix2 r d)
    = (∑ f, P (ix2 r f) * wd' (ix3 (0 : Fin 1) f d)) + downB XN r wg wu wd (pick (fun x => CB (ix2 r x)) (eword s 1#32)) d := by
  unfold downB down act pick eword
  simp only [← lanes_at r]
  generalize lanes = v0
  pointwise [k0_pay21]

theorem pay23_at (d : Fin 1024) : k0_pay23 (F := Ideal) s lanes XN A (k0_pay22 wg) wu CB wd (ix2 r d)
    = A (ix2 r d) + downB XN r wg wu wd (pick (fun x => CB (ix2 r x)) (eword s 2#32)) d := by
  unfold downB down act pick eword
  simp only [← lanes_at r]
  generalize lanes = v0
  pointwise [k0_pay23, k0_pay22]

theorem pay1_at (B : FVec Ideal S1024x1024 .f32) (d : Fin 1024) : k0_pay1 (F := Ideal) s lanes XN A (k0_pay24 XN wg) (k0_pay25 wu) (constant S1024x256 .f32 0#32) CB wd B (ix2 r d)
    = B (ix2 r d) + (A (ix2 r d) + downB XN r wg wu wd (pick (fun x => CB (ix2 r x)) (eword s 3#32)) d) := by
  unfold downB down act pick eword
  simp only [← lanes_at r]
  generalize lanes = v0
  pointwise [k0_pay1, k0_pay24, k0_pay25]

end

end Cert.Moe

end
-- ==== Proof.MoeSpec.lean ====
/- The layer, row by row: the norm, the two sets of logits, the weights, the experts' sum and the last norm. Where the norm's
   and the router's arrays hold real numbers, the normed row and the logits are real numbers. -/
module

public import proofs.«01_k».proof.Proof.MoeBody

@[expose] public section

set_option maxRecDepth 16384

noncomputable section

namespace Cert.Moe

open Idealize.ShloMosaic

/-- Every element is a real number. -/
def Reals {s : Shape} {φ : FTy} (X : FVec Ideal s φ) : Prop := ∀ i, ∃ x : ℝ, (X i : EReal) = ((x : ℝ) : EReal)

/-- The norm of a row: divided by the root of its mean square, a small constant added, and scaled. -/
def normed (x g : Fin 1024 → EReal) (d : Fin 1024) : EReal :=
  x d * Ideal.rsqrt (Ideal.div (∑ k, x k * x k) (Ideal.ofBits .f32 1149239296#32) + Ideal.ofBits .f32 897988541#32) * g d

theorem width : (Ideal.ofBits .f32 1149239296#32 : EReal) = ((1024 : ℝ) : EReal) := by
  simp [Ideal.ofBits, Ideal.ieee, -EReal.coe_mul]; norm_num
theorem small : ∃ e : ℝ, 0 < e ∧ (Ideal.ofBits .f32 897988541#32 : EReal) = ((e : ℝ) : EReal) :=
  ⟨8796093 / 2 ^ 43, by norm_num, by simp [Ideal.ofBits, Ideal.ieee, -EReal.coe_mul]; norm_num⟩

theorem normed_real (x g : Fin 1024 → EReal) (hx : ∀ d, ∃ y : ℝ, x d = ((y : ℝ) : EReal)) (hg : ∀ d, ∃ y : ℝ, g d = ((y : ℝ) : EReal)) (d : Fin 1024) :
    ∃ y : ℝ, normed x g d = ((y : ℝ) : EReal) := by
  choose x' hx using hx
  choose g' hg using hg
  obtain ⟨e, he, hs⟩ := small
  have hp : 0 < (∑ k, x' k * x' k) * (1 / 1024) + e := by
    have : 0 ≤ ∑ k, x' k * x' k := Finset.sum_nonneg fun k _ => mul_self_nonneg _
    positivity
  unfold normed
  rw [width, hs]
  simp only [hx, hg, ← EReal.coe_mul, ← coe_sum]
  rw [Ideal.div_coe (by norm_num), ← EReal.coe_mul, ← EReal.coe_add, Ideal.rsqrt_coe, if_neg hp.not_gt, if_neg hp.ne', ← EReal.coe_mul, ← EReal.coe_mul]
  exact ⟨_, rfl⟩

section
variable (X : FVec Ideal ⟨2, ![16384, 1024]⟩ .f32) (NG : FVec Ideal ⟨1, ![1024]⟩ .f32) (WG : FVec Ideal ⟨2, ![1024, 4]⟩ .f32) (BG : FVec Ideal ⟨1, ![4]⟩ .f32)
  (WR : FVec Ideal ⟨3, ![1024, 4, 8]⟩ .f32) (BR : FVec Ideal ⟨2, ![4, 8]⟩ .f32) (W6 W7 : FVec Ideal ⟨3, ![32, 1024, 256]⟩ .f32)
  (W8 : FVec Ideal ⟨3, ![32, 256, 1024]⟩ .f32) (FG : FVec Ideal ⟨1, ![1024]⟩ .f32) (n : Fin 16384)

/-- The normed row. -/
def xnRow (d : Fin 1024) : EReal := normed (fun k => X (ix2 n k)) (fun k => NG (ix1 k)) d
/-- A group's logit. -/
def glog (g : Fin 4) : EReal := (∑ d, xnRow X NG n d * WG (ix2 d g)) + BG (ix1 g)
/-- An expert's logit within its group. -/
def elog (g : Fin 4) (j : Fin 8) : EReal := (∑ d, xnRow X NG n d * WR (ix3 d g j)) + BR (ix2 g j)
/-- The logits as real numbers. -/
def glR (g : Fin 4) : ℝ := (glog X NG WG BG n g).toReal
def elR (g : Fin 4) (j : Fin 8) : ℝ := (elog X NG WR BR n g j).toReal
/-- The weight of expert `e` for the row. -/
def wRow (e : ℕ) : EReal := ((weight (glR X NG WG BG n) (elR X NG WR BR n) e : ℝ) : EReal)
/-- What expert `e` adds to the row. -/
def exRow (e : Fin 32) (d : Fin 1024) : EReal :=
  down (xnRow X NG n) (fun x f => W6 (ix3 e x f)) (fun x f => W7 (ix3 e x f)) (fun f d => W8 (ix3 e f d)) (wRow X NG WG BG WR BR n e.val) d
/-- The layer's row. -/
def outRow (d : Fin 1024) : EReal :=
  normed (fun k => X (ix2 n k) + ∑ e, exRow X NG WG BG WR BR W6 W7 W8 n e k) (fun k => FG (ix1 k)) d

variable {X NG WG BG WR BR}

theorem xnRow_real (hX : Reals X) (hN : Reals NG) (d : Fin 1024) : ∃ y : ℝ, xnRow X NG n d = ((y : ℝ) : EReal) :=
  normed_real _ _ (fun _ => hX _) (fun _ => hN _) d

theorem logit_real {x w : Fin 1024 → EReal} {b : EReal} (hx : ∀ d, ∃ y : ℝ, x d = ((y : ℝ) : EReal)) (hw : ∀ d, ∃ y : ℝ, w d = ((y : ℝ) : EReal))
    (hb : ∃ y : ℝ, b = ((y : ℝ) : EReal)) : (∑ d, x d * w d) + b = ((((∑ d, x d * w d) + b).toReal : ℝ) : EReal) := by
  choose x' hx using hx
  choose w' hw using hw
  obtain ⟨b', hb⟩ := hb
  simp only [hx, hw, hb, ← EReal.coe_mul, ← coe_sum, ← EReal.coe_add, EReal.toReal_coe]

theorem glog_eq (hX : Reals X) (hN : Reals NG) (hW : Reals WG) (hB : Reals BG) (g : Fin 4) : glog X NG WG BG n g = ((glR X NG WG BG n g : ℝ) : EReal) :=
  logit_real (fun d => xnRow_real n hX hN d) (fun _ => hW _) (hB _)
theorem elog_eq (hX : Reals X) (hN : Reals NG) (hW : Reals WR) (hB : Reals BR) (g : Fin 4) (j : Fin 8) : elog X NG WR BR n g j = ((elR X NG WR BR n g j : ℝ) : EReal) :=
  logit_real (fun d => xnRow_real n hX hN d) (fun _ => hW _) (hB _)

end

end Cert.Moe

end
-- ==== Proof.Finite2.lean ====
/- The layer's precondition read at an element: where `finite_arrays2` is one, every element of the rows, the norm's scale and
   the router's arrays is a real number. -/
module

public import proofs.«01_k».proof.Proof.MoeSpec
public import proofs.«01_k».proof.Proof.Finite
public import proofs.«01_k».proof.Pre_finite_arrays2
public import Idealize.ShloMosaic.Lib.ReduceAll

@[expose] public section

set_option maxRecDepth 16384

noncomputable section

namespace Cert.Pre_finite_arrays2

open Idealize.ShloMosaic
open Cert.Moe (Reals)
open Cert.Pre_finite_arrays (real_of_olt andi_one)

/-- The shape relations the precondition's operations take. -/
theorem facts : Facts where
  bcast_S_S16384x1024 := by decide
  reducesTo_S16384x1024_S_d0_1 := by decide
  h_S_ := by decide
  bcast_S_S1024 := by decide
  reducesTo_S1024_S_d0 := by decide
  bcast_S_S1024x4 := by decide
  reducesTo_S1024x4_S_d0_1 := by decide
  bcast_S_S4 := by decide
  reducesTo_S4_S_d0 := by decide
  bcast_S_S1024x4x8 := by decide
  reducesTo_S1024x4x8_S_d0_1_2 := by decide
  bcast_S_S4x8 := by decide
  reducesTo_S4x8_S_d0_1 := by decide

/-- One test that holds says that the array's elements are real numbers. -/
theorem reals_of_test {s : Shape} {axes : List (Fin s.rank)} (a : FVec Ideal s .f32) (hb : S_.BroadcastsInDim s (![] : Fin 0 → Fin s.rank)) (hr : s.ReducesTo axes S_) (hz : 0 < S_.numel)
    (i : S_.Idx) (h : Host.reduce IntOp.andi (cmpf .olt (Host.absf a) (broadcastInDim s ![] hb (constant (F := Ideal) S_ .f32 0x7F800000#32))) (constantI S_ 1 1#1) hr hz i = 1#1) : Reals a := by
  haveI : Subsingleton S_.Idx := ⟨fun x y => funext fun k => k.elim0⟩
  exact fun j => real_of_olt _ (Host.reduce_andi_all _ _ hr hz i h j)

theorem reals [hF : Facts] (a0 : FVec Ideal S16384x1024 .f32) (a1 : FVec Ideal S1024 .f32) (a2 : FVec Ideal S1024x4 .f32) (a3 : FVec Ideal S4 .f32) (a4 : FVec Ideal S1024x4x8 .f32) (a5 : FVec Ideal S4x8 .f32)
    (a6 a7 : FVec Ideal S32x1024x256 .f32) (a8 : FVec Ideal S32x256x1024 .f32) (a9 : FVec Ideal S1024 .f32) (h : fn (F := Ideal) a0 a1 a2 a3 a4 a5 a6 a7 a8 a9 = fun _ => 1#1) :
    Reals a0 ∧ Reals a1 ∧ Reals a2 ∧ Reals a3 ∧ Reals a4 ∧ Reals a5 := by
  have i0 : S_.Idx := fun k => k.elim0
  obtain ⟨g, g5⟩ := andi_one (congrFun h i0)
  obtain ⟨g, g4⟩ := andi_one g
  obtain ⟨g, g3⟩ := andi_one g
  obtain ⟨g, g2⟩ := andi_one g
  obtain ⟨g0, g1⟩ := andi_one g
  exact ⟨reals_of_test a0 _ _ _ i0 g0, reals_of_test a1 _ _ _ i0 g1, reals_of_test a2 _ _ _ i0 g2, reals_of_test a3 _ _ _ i0 g3, reals_of_test a4 _ _ _ i0 g4, reals_of_test a5 _ _ _ i0 g5⟩

end Cert.Pre_finite_arrays2

end
-- ==== Proof.MoeTable.lean ====
/- The router's table of 128 lanes: the experts' columns in lanes 0 to 31, the groups' in lanes 32 to 35, each laid there by
   writing a block over a table of zeros. -/
module

public import proofs.«01_k».proof.Proof.MoeRoute
public import Idealize.ShloMosaic.Lib.Routing.OpsOne

@[expose] public section

set_option maxRecDepth 16384

noncomputable section

namespace Cert.Moe

open Idealize.ShloMosaic Idealize.ShloMosaic.TcCoe Idealize.ShloMosaic.Tactic Idealize.ShloMosaic.Routing
open Cert.Kernel2Ideal Cert.Kernel2Ideal.Gen

/-- A block of columns laid over a table from one column on. -/
theorem lands_cols {R C U : ℕ} (d : ScatterDims ⟨2, ![R, C]⟩ ⟨1, ![1]⟩ ⟨2, ![R, U]⟩) (huw : d.updateWindowDims = [0, 1]) (hiw : d.insertedWindowDims = [])
    (hsd : d.scatterDimsToOperandDims = [1]) (idx : IVec ⟨1, ![1]⟩ 32) (k : ℕ) (hidx : (idx (ix1 0)).toInt = (k : Int)) (a r : Fin R) (b : Fin U) (e : Fin C) :
    d.resultIdx? (ix2 a b) idx = some (ix2 r e) ↔ a = r ∧ k + b.val = e.val := by
  have hm : (1 : Fin 2) ∈ d.scatterDimsToOperandDims := by rw [hsd]; exact List.mem_singleton.2 rfl
  have hkept : d.sKept = [0, 1] := by
    show (⟨2, ![R, C]⟩ : Shape).kept d.insertedWindowDims = _
    rw [hiw]
    rfl
  obtain ⟨uw, iw, sd, iv, wf⟩ := d
  dsimp only at huw hiw hsd
  subst huw hiw hsd
  have hwin : ∀ q : Fin 2, ScatterDims.window ⟨[0, 1], [], [1], iv, wf⟩ (ix2 a b) q = (ix2 a b q).val := fun q => by
    unfold ScatterDims.window
    rw [dif_pos (by rw [hkept]; fin_cases q <;> simp)]
    fin_cases q <;> rfl
  have hstart0 : ScatterDims.start ⟨[0, 1], [], [1], iv, wf⟩ (ix2 a b) idx 0 = 0 := by
    unfold ScatterDims.start
    rw [dif_neg (fun h => absurd (List.mem_singleton.1 h) (by decide : (0 : Fin 2) ≠ 1))]
  have hstart1 : ScatterDims.start ⟨[0, 1], [], [1], iv, wf⟩ (ix2 a b) idx 1 = (k : Int) := by
    unfold ScatterDims.start
    rw [dif_pos hm, ← hidx]
    refine congrArg (fun t => (idx t).toInt) (funext fun b' => ?_)
    match b' with
    | ⟨0, _⟩ => exact Subsingleton.elim (α := Fin 1) _ _
  refine (resultIdx?_ix2 _ _ _ _ _).trans ?_
  rw [Fin.ext_iff, hstart0, hwin, hstart1, hwin]
  show ((0 : Int) + (a.val : Int) = r.val ∧ (k : Int) + (b.val : Int) = e.val) ↔ _
  omega

theorem scatter_cols_hit {α : Type} {R C U : ℕ} (d : ScatterDims ⟨2, ![R, C]⟩ ⟨1, ![1]⟩ ⟨2, ![R, U]⟩) (huw : d.updateWindowDims = [0, 1]) (hiw : d.insertedWindowDims = [])
    (hsd : d.scatterDimsToOperandDims = [1]) (x0 : (⟨2, ![R, C]⟩ : Shape).Idx → α) (idx : IVec ⟨1, ![1]⟩ 32) (upd : (⟨2, ![R, U]⟩ : Shape).Idx → α) (k : ℕ)
    (hidx : (idx (ix1 0)).toInt = (k : Int)) (r : Fin R) (b : Fin U) (e : Fin C) (he : k + b.val = e.val) :
    Host.scatter d (fun _ b => b) x0 idx upd (ix2 r e) = upd (ix2 r b) := by
  refine scatter_set_hit d x0 idx upd _ _ (fun k' hk' => ?_) (ix2 r b) ((lands_cols d huw hiw hsd idx k hidx r r b e).2 ⟨rfl, he⟩)
  obtain ⟨a', b', rfl⟩ : ∃ (a' : Fin R) (b' : Fin U), k' = ix2 a' b' := ⟨k' 0, k' 1, eq_ix2 k'⟩
  obtain ⟨h1, h2⟩ := (lands_cols d huw hiw hsd idx k hidx a' r b' e).1 hk'
  rw [h1, show b' = b from Fin.ext (by omega)]

theorem scatter_cols_miss {α : Type} {R C U : ℕ} (d : ScatterDims ⟨2, ![R, C]⟩ ⟨1, ![1]⟩ ⟨2, ![R, U]⟩) (huw : d.updateWindowDims = [0, 1]) (hiw : d.insertedWindowDims = [])
    (hsd : d.scatterDimsToOperandDims = [1]) (x0 : (⟨2, ![R, C]⟩ : Shape).Idx → α) (idx : IVec ⟨1, ![1]⟩ 32) (upd : (⟨2, ![R, U]⟩ : Shape).Idx → α) (k : ℕ)
    (hidx : (idx (ix1 0)).toInt = (k : Int)) (r : Fin R) (e : Fin C) (he : e.val < k) :
    Host.scatter d (fun _ b => b) x0 idx upd (ix2 r e) = x0 (ix2 r e) := by
  refine scatter_set_miss d x0 idx upd _ fun k' hk' => ?_
  obtain ⟨a', b', rfl⟩ : ∃ (a' : Fin R) (b' : Fin U), k' = ix2 a' b' := ⟨k' 0, k' 1, eq_ix2 k'⟩
  obtain ⟨h1, h2⟩ := (lands_cols d huw hiw hsd idx k hidx a' r b' e).1 hk'
  omega

/-- A run of entries laid over one row from one column on. -/
theorem lands_run {R C U : ℕ} (d : ScatterDims ⟨2, ![R, C]⟩ ⟨1, ![2]⟩ ⟨1, ![U]⟩) (huw : d.updateWindowDims = [0]) (hiw : d.insertedWindowDims = [0])
    (hsd : d.scatterDimsToOperandDims = [0, 1]) (hivd : d.indexVectorDim = 0) (idx : IVec ⟨1, ![2]⟩ 32) (k : ℕ) (hidx0 : (idx (ix1 0)).toInt = 0) (hidx : (idx (ix1 1)).toInt = (k : Int)) (r : Fin R) (b : Fin U) (e : Fin C) :
    d.resultIdx? (ix1 b) idx = some (ix2 r e) ↔ r.val = 0 ∧ k + b.val = e.val := by
  have hkept : d.sKept = [1] := by
    show (⟨2, ![R, C]⟩ : Shape).kept d.insertedWindowDims = _
    rw [hiw]
    rfl
  have hwin0 : d.window (ix1 b) 0 = 0 := by
    unfold ScatterDims.window
    rw [dif_neg (by rw [hkept]; simp)]
  have hwin1 : d.window (ix1 b) 1 = b.val := by
    unfold ScatterDims.window
    rw [dif_pos (by rw [hkept]; simp)]
    exact congrArg (fun t => ((ix1 b : (⟨1, ![U]⟩ : Shape).Idx) t).val) (Subsingleton.elim (α := Fin 1) _ 0)
  have hs0 : d.start (ix1 b) idx 0 = 0 := (start_pair d hsd hivd idx _ 0).trans hidx0
  have hs1 : d.start (ix1 b) idx 1 = (k : Int) := (start_pair d hsd hivd idx _ 1).trans hidx
  refine (resultIdx?_ix2 _ _ _ _ _).trans ?_
  rw [hs0, hs1, hwin0, hwin1]
  omega

theorem scatter_run_hit {α : Type} {R C U : ℕ} (d : ScatterDims ⟨2, ![R, C]⟩ ⟨1, ![2]⟩ ⟨1, ![U]⟩) (huw : d.updateWindowDims = [0]) (hiw : d.insertedWindowDims = [0])
    (hsd : d.scatterDimsToOperandDims = [0, 1]) (hivd : d.indexVectorDim = 0) (x0 : (⟨2, ![R, C]⟩ : Shape).Idx → α) (idx : IVec ⟨1, ![2]⟩ 32) (upd : (⟨1, ![U]⟩ : Shape).Idx → α) (k : ℕ)
    (hidx0 : (idx (ix1 0)).toInt = 0) (hidx : (idx (ix1 1)).toInt = (k : Int)) (r : Fin R) (hr : r.val = 0) (b : Fin U) (e : Fin C) (he : k + b.val = e.val) :
    Host.scatter d (fun _ b => b) x0 idx upd (ix2 r e) = upd (ix1 b) := by
  refine scatter_set_hit d x0 idx upd _ _ (fun k' hk' => ?_) (ix1 b) ((lands_run d huw hiw hsd hivd idx k hidx0 hidx r b e).2 ⟨hr, he⟩)
  obtain ⟨b', rfl⟩ : ∃ (b' : Fin U), k' = ix1 b' := ⟨k' 0, eq_ix1 k'⟩
  have h2 := ((lands_run d huw hiw hsd hivd idx k hidx0 hidx r b' e).1 hk').2
  rw [show b' = b from Fin.ext (by omega)]

theorem scatter_run_miss {α : Type} {R C U : ℕ} (d : ScatterDims ⟨2, ![R, C]⟩ ⟨1, ![2]⟩ ⟨1, ![U]⟩) (huw : d.updateWindowDims = [0]) (hiw : d.insertedWindowDims = [0])
    (hsd : d.scatterDimsToOperandDims = [0, 1]) (hivd : d.indexVectorDim = 0) (x0 : (⟨2, ![R, C]⟩ : Shape).Idx → α) (idx : IVec ⟨1, ![2]⟩ 32) (upd : (⟨1, ![U]⟩ : Shape).Idx → α) (k : ℕ)
    (hidx0 : (idx (ix1 0)).toInt = 0) (hidx : (idx (ix1 1)).toInt = (k : Int)) (r : Fin R) (e : Fin C) (he : e.val < k) :
    Host.scatter d (fun _ b => b) x0 idx upd (ix2 r e) = x0 (ix2 r e) := by
  refine scatter_set_miss d x0 idx upd _ fun k' hk' => ?_
  obtain ⟨b', rfl⟩ : ∃ (b' : Fin U), k' = ix1 b' := ⟨k' 0, eq_ix1 k'⟩
  have h2 := ((lands_run d huw hiw hsd hivd idx k hidx0 hidx r b' e).1 hk').2
  omega

/-! ## The kernel's two tables -/

section
variable (WG : FVec Ideal S1024x4 .f32) (BG : FVec Ideal S4 .f32) (WR : FVec Ideal S1024x4x8 .f32) (BR : FVec Ideal S4x8 .f32)

/-- The router's weights, laid in lanes, -/
def wtab : FVec Ideal S1024x128 .f32 :=
  Host.scatter scatter_S1024x128_S1_S1024x4_01_n_1_0 (fun _ b => b)
    (Host.scatter scatter_S1024x128_S1_S1024x32_01_n_1_0 (fun _ b => b) (broadcastInDim S1024x128 ![] bcast_S_S1024x128 (constant (F := Ideal) S_ .f32 0x00000000#32))
      (broadcastInDim S1 ![] bcast_S_S1 (constantI S_ 32 0#32)) (shapeCast S1024x32 WR shapeCasts_S1024x4x8_S1024x32))
    (broadcastInDim S1 ![] bcast_S_S1 (constantI S_ 32 32#32)) WG
/-- and its biases. -/
def btab : FVec Ideal S1x128 .f32 :=
  Host.scatter scatter_S1x128_S2_S4_0_0_01_0 (fun _ b => b)
    (Host.scatter scatter_S1x128_S2_S32_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S32 BR shapeCasts_S4x8_S32))
    (concatenate S2 0 [⟨S1, broadcastInDim S1 ![] bcast_S_S1 (constantI S_ 32 0#32)⟩, ⟨S1, broadcastInDim S1 ![] bcast_S_S1 (constantI S_ 32 32#32)⟩] concatenates_S1_S1_S2_d0) BG

theorem wtab_g (d : Fin 1024) (g : Fin 4) : wtab WG WR (ix2 d (glane g)) = WG (ix2 d g) :=
  scatter_cols_hit scatter_S1024x128_S1_S1024x4_01_n_1_0 rfl rfl rfl _ _ _ 32 rfl d g _ rfl

theorem wtab_e (d : Fin 1024) (g : Fin 4) (j : Fin 8) : wtab WG WR (ix2 d (elane g j)) = WR (ix3 d g j) := by
  unfold wtab
  rw [scatter_cols_miss scatter_S1024x128_S1_S1024x4_01_n_1_0 rfl rfl rfl _ _ _ 32 rfl d _ (by show g.val * 8 + j.val < 32; omega),
    scatter_cols_hit scatter_S1024x128_S1_S1024x32_01_n_1_0 rfl rfl rfl _ _ _ 0 rfl d ⟨g.val * 8 + j.val, by omega⟩ _ (by show 0 + (g.val * 8 + j.val) = g.val * 8 + j.val; omega)]
  pointwise

theorem btab_g (g : Fin 4) : btab BG BR (ix2 (0 : Fin 1) (glane g)) = BG (ix1 g) :=
  scatter_run_hit scatter_S1x128_S2_S4_0_0_01_0 rfl rfl rfl rfl _ _ _ 32 rfl rfl (0 : Fin 1) rfl g _ rfl

theorem btab_e (g : Fin 4) (j : Fin 8) : btab BG BR (ix2 (0 : Fin 1) (elane g j)) = BR (ix2 g j) := by
  unfold btab
  rw [scatter_run_miss scatter_S1x128_S2_S4_0_0_01_0 rfl rfl rfl rfl _ _ _ 32 rfl rfl (0 : Fin 1) _ (by show g.val * 8 + j.val < 32; omega),
    scatter_run_hit scatter_S1x128_S2_S32_0_0_01_0 rfl rfl rfl rfl _ _ _ 0 rfl rfl (0 : Fin 1) rfl ⟨g.val * 8 + j.val, by omega⟩ _ (by show 0 + (g.val * 8 + j.val) = g.val * 8 + j.val; omega)]
  pointwise

end

end Cert.Moe

end
-- ==== Proof.MoeArrays.lean ====
/- The kernel's arrays: what the host lays out before the launch, the blocks each grid point reads, what the three arrays
   carried from point to point hold, and the array the program leaves, at every element. -/
module

public import proofs.«01_k».proof.Proof.MoeSpec
public import proofs.«01_k».proof.Proof.MoeTable
public import Idealize.ShloMosaic.Lib.Pipeline.ValueKit
public import Idealize.ShloMosaic.Lib.Pipeline.ReadBack

@[expose] public section

set_option maxRecDepth 16384

noncomputable section

namespace Cert.Moe

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- The argument arrays. -/
abbrev B0 : FVec Ideal S16384x1024 .f32 := m ((c : Thread nD τ).loc main_arg0)
abbrev B1 : FVec Ideal S1024 .f32 := m ((c : Thread nD τ).loc main_arg1)
abbrev B2 : FVec Ideal S1024x4 .f32 := m ((c : Thread nD τ).loc main_arg2)
abbrev B3 : FVec Ideal S4 .f32 := m ((c : Thread nD τ).loc main_arg3)
abbrev B4 : FVec Ideal S1024x4x8 .f32 := m ((c : Thread nD τ).loc main_arg4)
abbrev B5 : FVec Ideal S4x8 .f32 := m ((c : Thread nD τ).loc main_arg5)
abbrev B6 : FVec Ideal S32x1024x256 .f32 := m ((c : Thread nD τ).loc main_arg6)
abbrev B7 : FVec Ideal S32x1024x256 .f32 := m ((c : Thread nD τ).loc main_arg7)
abbrev B8 : FVec Ideal S32x256x1024 .f32 := m ((c : Thread nD τ).loc main_arg8)
abbrev B9 : FVec Ideal S1024 .f32 := m ((c : Thread nD τ).loc main_arg9)

/-! ## What the host lays out -/

theorem V_arg0 : V m c main_arg0 = B0 m c := by
  show StableHlo.after (List.flatten [hostOps0]) _ _ = _
  simp only [List.flatten_cons, List.flatten_nil, List.append_nil]
  unfold_abbrev_sides
  after_results
theorem V_v16 : V m c main_v16 = (truncf .bf16 (wtab (B2 m c) (B4 m c)) bitsLt_bf16_f32 : FVec Ideal S1024x128 .bf16) := by
  show StableHlo.after (List.flatten [hostOps0]) _ _ = _
  simp only [List.flatten_cons, List.flatten_nil, List.append_nil]
  unfold_abbrev_sides
  after_results
  rfl
theorem V_v19 : V m c main_v19 = (truncf .bf16 (subf (wtab (B2 m c) (B4 m c)) (extf .f32 (truncf .bf16 (wtab (B2 m c) (B4 m c)) bitsLt_bf16_f32 : FVec Ideal S1024x128 .bf16) bitsLt_bf16_f32)) bitsLt_bf16_f32 : FVec Ideal S1024x128 .bf16) := by
  show StableHlo.after (List.flatten [hostOps0]) _ _ = _
  simp only [List.flatten_cons, List.flatten_nil, List.append_nil]
  unfold_abbrev_sides
  after_results
  rfl
theorem V_v15 : V m c main_v15 = btab (B3 m c) (B5 m c) := by
  show StableHlo.after (List.flatten [hostOps0]) _ _ = _
  simp only [List.flatten_cons, List.flatten_nil, List.append_nil]
  unfold_abbrev_sides
  after_results
  rfl
theorem V_v20 : V m c main_v20 = shapeCast S1x1024 (B9 m c) shapeCasts_S1024_S1x1024 := by
  show StableHlo.after (List.flatten [hostOps0]) _ _ = _
  simp only [List.flatten_cons, List.flatten_nil, List.append_nil]
  unfold_abbrev_sides
  after_results
  rfl
theorem V_v21 : V m c main_v21 = shapeCast S1x1024 (B1 m c) shapeCasts_S1024_S1x1024 := by
  show StableHlo.after (List.flatten [hostOps0]) _ _ = _
  simp only [List.flatten_cons, List.flatten_nil, List.append_nil]
  unfold_abbrev_sides
  after_results
  rfl
theorem V_v22 : V m c main_v22 = (truncf .bf16 (B6 m c) bitsLt_bf16_f32 : FVec Ideal S32x1024x256 .bf16) := by
  show StableHlo.after (List.flatten [hostOps0]) _ _ = _
  simp only [List.flatten_cons, List.flatten_nil, List.append_nil]
  unfold_abbrev_sides
  after_results
theorem V_v23 : V m c main_v23 = (truncf .bf16 (B7 m c) bitsLt_bf16_f32 : FVec Ideal S32x1024x256 .bf16) := by
  show StableHlo.after (List.flatten [hostOps0]) _ _ = _
  simp only [List.flatten_cons, List.flatten_nil, List.append_nil]
  unfold_abbrev_sides
  after_results
theorem V_v24 : V m c main_v24 = (truncf .bf16 (B8 m c) bitsLt_bf16_f32 : FVec Ideal S32x256x1024 .bf16) := by
  show StableHlo.after (List.flatten [hostOps0]) _ _ = _
  simp only [List.flatten_cons, List.flatten_nil, List.append_nil]
  unfold_abbrev_sides
  after_results

/-! ## The blocks -/

theorem lt_N (t : Fin cfg0.N) : t.val < 128 := Nat.lt_of_lt_of_eq t.isLt N_0
/-- Row `r` of point `t`'s block of rows. -/
abbrev rowAt (t : Fin cfg0.N) (r : Fin 1024) : Fin 16384 := ⟨t.val / 8 * 1024 + r.val, by have := lt_N t; omega⟩
/-- Expert `j` of point `t`'s four. -/
abbrev exAt (t : Fin cfg0.N) (j : Fin 4) : Fin 32 := ⟨t.val % 8 * 4 + j.val, by omega⟩

theorem pidx0 : ∀ t : Fin cfg0.N, win0_0.index t 0 = t.val / 8 ∧ win0_0.index t 1 = 0 := by decide +kernel
theorem pidx1 : ∀ t : Fin cfg0.N, win0_1.index t 0 = 0 ∧ win0_1.index t 1 = 0 := by decide +kernel
theorem pidx2 : ∀ t : Fin cfg0.N, win0_2.index t 0 = 0 ∧ win0_2.index t 1 = 0 := by decide +kernel
theorem pidx3 : ∀ t : Fin cfg0.N, win0_3.index t 0 = 0 ∧ win0_3.index t 1 = 0 := by decide +kernel
theorem pidx4 : ∀ t : Fin cfg0.N, win0_4.index t 0 = 0 ∧ win0_4.index t 1 = 0 := by decide +kernel
theorem pidx5 : ∀ t : Fin cfg0.N, win0_5.index t 0 = t.val % 8 ∧ win0_5.index t 1 = 0 ∧ win0_5.index t 2 = 0 := by decide +kernel
theorem pidx6 : ∀ t : Fin cfg0.N, win0_6.index t 0 = t.val % 8 ∧ win0_6.index t 1 = 0 ∧ win0_6.index t 2 = 0 := by decide +kernel
theorem pidx7 : ∀ t : Fin cfg0.N, win0_7.index t 0 = t.val % 8 ∧ win0_7.index t 1 = 0 ∧ win0_7.index t 2 = 0 := by decide +kernel
theorem pidx8 : ∀ t : Fin cfg0.N, win0_8.index t 0 = 0 ∧ win0_8.index t 1 = 0 := by decide +kernel
theorem pidx9 : ∀ t : Fin cfg0.N, win0_9.index t 0 = t.val / 8 ∧ win0_9.index t 1 = 0 := by decide +kernel
theorem step_at : ∀ t : Fin cfg0.N, (grid0.coords t 1).val = t.val % 8 := by decide +kernel

theorem blk0_at (t : Fin cfg0.N) (r d : Fin 1024) : iblk m c 0 t (ix2 r d) = B0 m c (ix2 (rowAt t r) d) := by
  have hi := pidx0 t
  have e : (win0_0.blk t).view.emb (ix2 r d) = ix2 (rowAt t r) d := by blk_ext <;> simp [hi]
  refine (congrArg (V m c main_arg0) e).trans ?_
  rw [V_arg0]
theorem blk1_at (t : Fin cfg0.N) (d : Fin 1024) : iblk m c 1 t (ix2 (0 : Fin 1) d) = B1 m c (ix1 d) := by
  have hi := pidx1 t
  have e : (win0_1.blk t).view.emb (ix2 (0 : Fin 1) d) = ix2 (0 : Fin 1) d := by blk_ext <;> simp [hi]
  refine (congrArg (V m c main_v21) e).trans ?_
  rw [V_v21]
  pointwise
theorem blk2_at (t : Fin cfg0.N) (d : Fin 1024) (l : Fin 128) : iblk m c 2 t (ix2 d l) = wtab (B2 m c) (B4 m c) (ix2 d l) := by
  have hi := pidx2 t
  have e : (win0_2.blk t).view.emb (ix2 d l) = ix2 d l := by blk_ext <;> simp [hi]
  refine (congrArg (V m c main_v16) e).trans ?_
  rw [V_v16]
  pointwise
theorem blk3_at (t : Fin cfg0.N) (d : Fin 1024) (l : Fin 128) : iblk m c 3 t (ix2 d l) = wtab (B2 m c) (B4 m c) (ix2 d l) - wtab (B2 m c) (B4 m c) (ix2 d l) := by
  have hi := pidx3 t
  have e : (win0_3.blk t).view.emb (ix2 d l) = ix2 d l := by blk_ext <;> simp [hi]
  refine (congrArg (V m c main_v19) e).trans ?_
  rw [V_v19]
  pointwise
theorem blk4_at (t : Fin cfg0.N) (l : Fin 128) : iblk m c 4 t (ix2 (0 : Fin 1) l) = btab (B3 m c) (B5 m c) (ix2 (0 : Fin 1) l) := by
  have hi := pidx4 t
  have e : (win0_4.blk t).view.emb (ix2 (0 : Fin 1) l) = ix2 (0 : Fin 1) l := by blk_ext <;> simp [hi]
  refine (congrArg (V m c main_v15) e).trans ?_
  rw [V_v15]
theorem blk5_at (t : Fin cfg0.N) (j : Fin 4) (x : Fin 1024) (f : Fin 256) : iblk m c 5 t (ix3 j x f) = B6 m c (ix3 (exAt t j) x f) := by
  have hi := pidx5 t
  have e : (win0_5.blk t).view.emb (ix3 j x f) = ix3 (exAt t j) x f := by blk_ext <;> simp [hi]
  refine (congrArg (V m c main_v22) e).trans ?_
  rw [V_v22]
  pointwise
theorem blk6_at (t : Fin cfg0.N) (j : Fin 4) (x : Fin 1024) (f : Fin 256) : iblk m c 6 t (ix3 j x f) = B7 m c (ix3 (exAt t j) x f) := by
  have hi := pidx6 t
  have e : (win0_6.blk t).view.emb (ix3 j x f) = ix3 (exAt t j) x f := by blk_ext <;> simp [hi]
  refine (congrArg (V m c main_v23) e).trans ?_
  rw [V_v23]
  pointwise
theorem blk7_at (t : Fin cfg0.N) (j : Fin 4) (f : Fin 256) (d : Fin 1024) : iblk m c 7 t (ix3 j f d) = B8 m c (ix3 (exAt t j) f d) := by
  have hi := pidx7 t
  have e : (win0_7.blk t).view.emb (ix3 j f d) = ix3 (exAt t j) f d := by blk_ext <;> simp [hi]
  refine (congrArg (V m c main_v24) e).trans ?_
  rw [V_v24]
  pointwise
theorem blk8_at (t : Fin cfg0.N) (d : Fin 1024) : iblk m c 8 t (ix2 (0 : Fin 1) d) = B9 m c (ix1 d) := by
  have hi := pidx8 t
  have e : (win0_8.blk t).view.emb (ix2 (0 : Fin 1) d) = ix2 (0 : Fin 1) d := by blk_ext <;> simp [hi]
  refine (congrArg (V m c main_v20) e).trans ?_
  rw [V_v20]
  pointwise

end Cert.Moe

end
-- ==== Proof.MoeSteps.lean ====
/- From point to point: the normed rows and the weights stay through a row block's eight points, and the accumulator gathers
   the experts' contributions, four a point; the last point writes the layer's rows. -/
module

public import proofs.«01_k».proof.Proof.MoeArrays

@[expose] public section

set_option maxRecDepth 16384

noncomputable section

namespace Cert.Moe

open Idealize.ShloMosaic Idealize.ShloMosaic.TcCoe Idealize.ShloMosaic.Tactic
open Cert.Kernel2Ideal Cert.Kernel2Ideal.Gen

/-! ## A point's results as functions of the blocks -/

theorem pay5_at (x : FVec Ideal S1024x1024 .f32) (g : FVec Ideal S1x1024 .f32) (r d : Fin 1024) :
    k0_pay5 (F := Ideal) x g (ix2 r d) = normed (fun k => x (ix2 r k)) (fun k => g (ix2 (0 : Fin 1) k)) d := by
  unfold normed
  pointwise [k0_pay5, k0_pay4, k0_pay3]

theorem pay6_at (x : FVec Ideal S1024x1024 .f32) (g : FVec Ideal S1x1024 .f32) (wh wl : FVec Ideal S1024x128 .bf16) (b : FVec Ideal S1x128 .f32) (r : Fin 1024) (l : Fin 128) :
    k0_pay6 (F := Ideal) x g wh wl b (ix2 r l)
      = (∑ d, normed (fun k => x (ix2 r k)) (fun k => g (ix2 (0 : Fin 1) k)) d * wh (ix2 d l))
        + (∑ d, (normed (fun k => x (ix2 r k)) (fun k => g (ix2 (0 : Fin 1) k)) d - normed (fun k => x (ix2 r k)) (fun k => g (ix2 (0 : Fin 1) k)) d) * wh (ix2 d l))
        + (∑ d, normed (fun k => x (ix2 r k)) (fun k => g (ix2 (0 : Fin 1) k)) d * wl (ix2 d l)) + b (ix2 (0 : Fin 1) l) := by
  unfold normed
  pointwise [k0_pay6, k0_pay4, k0_pay3]

theorem pay2_at (x a : FVec Ideal S1024x1024 .f32) (g : FVec Ideal S1x1024 .f32) (r d : Fin 1024) :
    k0_pay2 (F := Ideal) x a g (ix2 r d) = normed (fun k => x (ix2 r k) + a (ix2 r k)) (fun k => g (ix2 (0 : Fin 1) k)) d := by
  unfold normed
  pointwise [k0_pay2]

variable (m : (ℓ : Loc nD τ sig) → Buf (Elt Ideal) ℓ) (c : Dev nD)

/-- One point's sum into the accumulator. -/
def blkStep (t : Fin cfg0.N) (XN : FVec Ideal S1024x1024 .bf16) (CB : FVec Ideal S1024x128 .f32) (ACC : FVec Ideal S1024x1024 .f32) : FVec Ideal S1024x1024 .f32 :=
  k0_pay1 (BitVec.ofNat 32 (grid0.coords t 1).val) lanes XN
    (k0_pay23 (BitVec.ofNat 32 (grid0.coords t 1).val) lanes XN
      (k0_pay21 (BitVec.ofNat 32 (grid0.coords t 1).val) lanes XN
        (k0_pay20 (grid0.coords t) XN (View.ld (iblk m c 5 t) (Rect.unit ![0, 0, 0] ![1, 1024, 256] inb_S4x1024x256_S1x1024x256_0_0_0))
          (View.ld (iblk m c 6 t) (Rect.unit ![0, 0, 0] ![1, 1024, 256] inb_S4x1024x256_S1x1024x256_0_0_0)) CB)
        (View.ld (iblk m c 7 t) (Rect.unit ![0, 0, 0] ![1, 256, 1024] inb_S4x256x1024_S1x256x1024_0_0_0))
        (View.ld (iblk m c 5 t) (Rect.unit ![1, 0, 0] ![1, 1024, 256] inb_S4x1024x256_S1x1024x256_1_0_0))
        (View.ld (iblk m c 6 t) (Rect.unit ![1, 0, 0] ![1, 1024, 256] inb_S4x1024x256_S1x1024x256_1_0_0)) CB
        (View.ld (iblk m c 7 t) (Rect.unit ![1, 0, 0] ![1, 256, 1024] inb_S4x256x1024_S1x256x1024_1_0_0)))
      (k0_pay22 (View.ld (iblk m c 5 t) (Rect.unit ![2, 0, 0] ![1, 1024, 256] inb_S4x1024x256_S1x1024x256_2_0_0)))
      (View.ld (iblk m c 6 t) (Rect.unit ![2, 0, 0] ![1, 1024, 256] inb_S4x1024x256_S1x1024x256_2_0_0)) CB
      (View.ld (iblk m c 7 t) (Rect.unit ![2, 0, 0] ![1, 256, 1024] inb_S4x256x1024_S1x256x1024_2_0_0)))
    (k0_pay24 XN (View.ld (iblk m c 5 t) (Rect.unit ![3, 0, 0] ![1, 1024, 256] inb_S4x1024x256_S1x1024x256_3_0_0)))
    (k0_pay25 (View.ld (iblk m c 6 t) (Rect.unit ![3, 0, 0] ![1, 1024, 256] inb_S4x1024x256_S1x1024x256_3_0_0)))
    (constant S1024x256 FTy.f32 0#32) CB
    (View.ld (iblk m c 7 t) (Rect.unit ![3, 0, 0] ![1, 256, 1024] inb_S4x256x1024_S1x256x1024_3_0_0)) ACC

/-- Expert `j` of the point, for row `r`. -/
abbrev ptEx (t : Fin cfg0.N) (XN : FVec Ideal S1024x1024 .bf16) (CB : FVec Ideal S1024x128 .f32) (r : Fin 1024) (j : Fin 4) (d : Fin 1024) : EReal :=
  down (fun x => XN (ix2 r x)) (fun x f => B6 m c (ix3 (exAt t j) x f)) (fun x f => B7 m c (ix3 (exAt t j) x f)) (fun f d => B8 m c (ix3 (exAt t j) f d))
    (CB (ix2 r (⟨4 * (t.val % 8) + j.val, by omega⟩ : Fin 128))) d

theorem pick_pt (t : Fin cfg0.N) (CB : FVec Ideal S1024x128 .f32) (r : Fin 1024) (j : Fin 4) :
    pick (fun x => CB (ix2 r x)) (eword (BitVec.ofNat 32 (grid0.coords t 1).val) (BitVec.ofNat 32 j.val)) = CB (ix2 r (⟨4 * (t.val % 8) + j.val, by omega⟩ : Fin 128)) := by
  rw [step_at t]
  exact pick_at (fun x => CB (ix2 r x)) ⟨t.val % 8, by omega⟩ j

theorem ld5 (t : Fin cfg0.N) (k : ℕ) (hk : k < 4) (inb) (x : Fin 1024) (f : Fin 256) :
    View.ld (iblk m c 5 t) (Rect.unit (s := S4x1024x256) ![k, 0, 0] ![1, 1024, 256] inb) (ix3 (0 : Fin 1) x f) = B6 m c (ix3 (exAt t ⟨k, hk⟩) x f) := by
  rw [← blk5_at]
  refine congrArg (iblk m c 5 t) (funext fun a => Fin.ext ?_)
  match a with
  | ⟨0, _⟩ => show k + 1 * 0 = k; omega
  | ⟨1, _⟩ => show 0 + 1 * x.val = x.val; omega
  | ⟨2, _⟩ => show 0 + 1 * f.val = f.val; omega
theorem ld6 (t : Fin cfg0.N) (k : ℕ) (hk : k < 4) (inb) (x : Fin 1024) (f : Fin 256) :
    View.ld (iblk m c 6 t) (Rect.unit (s := S4x1024x256) ![k, 0, 0] ![1, 1024, 256] inb) (ix3 (0 : Fin 1) x f) = B7 m c (ix3 (exAt t ⟨k, hk⟩) x f) := by
  rw [← blk6_at]
  refine congrArg (iblk m c 6 t) (funext fun a => Fin.ext ?_)
  match a with
  | ⟨0, _⟩ => show k + 1 * 0 = k; omega
  | ⟨1, _⟩ => show 0 + 1 * x.val = x.val; omega
  | ⟨2, _⟩ => show 0 + 1 * f.val = f.val; omega
theorem ld7 (t : Fin cfg0.N) (k : ℕ) (hk : k < 4) (inb) (f : Fin 256) (d : Fin 1024) :
    View.ld (iblk m c 7 t) (Rect.unit (s := S4x256x1024) ![k, 0, 0] ![1, 256, 1024] inb) (ix3 (0 : Fin 1) f d) = B8 m c (ix3 (exAt t ⟨k, hk⟩) f d) := by
  rw [← blk7_at]
  refine congrArg (iblk m c 7 t) (funext fun a => Fin.ext ?_)
  match a with
  | ⟨0, _⟩ => show k + 1 * 0 = k; omega
  | ⟨1, _⟩ => show 0 + 1 * f.val = f.val; omega
  | ⟨2, _⟩ => show 0 + 1 * d.val = d.val; omega

theorem blkStep_at (t : Fin cfg0.N) (XN : FVec Ideal S1024x1024 .bf16) (CB : FVec Ideal S1024x128 .f32) (ACC : FVec Ideal S1024x1024 .f32) (r d : Fin 1024) :
    blkStep m c t XN CB ACC (ix2 r d) = ACC (ix2 r d) + (((ptEx m c t XN CB r ⟨0, by omega⟩ d + ptEx m c t XN CB r ⟨1, by omega⟩ d) + ptEx m c t XN CB r ⟨2, by omega⟩ d) + ptEx m c t XN CB r ⟨3, by omega⟩ d) := by
  have q0 : pick (fun x => CB (ix2 r x)) (eword (BitVec.ofNat 32 (grid0.coords t 1).val) 0#32) = _ := pick_pt t CB r ⟨0, by omega⟩
  have q1 : pick (fun x => CB (ix2 r x)) (eword (BitVec.ofNat 32 (grid0.coords t 1).val) 1#32) = _ := pick_pt t CB r ⟨1, by omega⟩
  have q2 : pick (fun x => CB (ix2 r x)) (eword (BitVec.ofNat 32 (grid0.coords t 1).val) 2#32) = _ := pick_pt t CB r ⟨2, by omega⟩
  have q3 : pick (fun x => CB (ix2 r x)) (eword (BitVec.ofNat 32 (grid0.coords t 1).val) 3#32) = _ := pick_pt t CB r ⟨3, by omega⟩
  unfold blkStep
  rw [pay1_at, pay23_at, pay21_at]
  unfold downB ptEx down
  simp only [pay20_at, q0, q1, q2, q3, ld5 m c t 0 (by omega), ld5 m c t 1 (by omega), ld5 m c t 2 (by omega), ld5 m c t 3 (by omega),
    ld6 m c t 0 (by omega), ld6 m c t 1 (by omega), ld6 m c t 2 (by omega), ld6 m c t 3 (by omega),
    ld7 m c t 0 (by omega), ld7 m c t 1 (by omega), ld7 m c t 2 (by omega), ld7 m c t 3 (by omega)]

end Cert.Moe

end
-- ==== Proof.MoeInv.lean ====
/- What the three scratch arrays hold after each point: the normed rows, the weights, and the sum of the experts met so far;
   and the rows the last of a block's eight points writes. -/
module

public import proofs.«01_k».proof.Proof.MoeSteps

@[expose] public section

set_option maxRecDepth 16384

noncomputable section

namespace Cert.Moe

open Idealize.ShloMosaic Idealize.ShloMosaic.TcCoe Idealize.ShloMosaic.Tactic
open Cert.Kernel2Ideal Cert.Kernel2Ideal.Gen

/-! ## The logits: the two correction terms vanish on real numbers -/

theorem real_sub_self {x : EReal} (h : ∃ y : ℝ, x = ((y : ℝ) : EReal)) : x - x = 0 := by
  obtain ⟨y, rfl⟩ := h
  rw [← EReal.coe_sub, sub_self, EReal.coe_zero]

theorem split_logit {x w wl : Fin 1024 → EReal} (b : EReal) (hx : ∀ d, ∃ y : ℝ, x d = ((y : ℝ) : EReal)) (hw : ∀ d, ∃ y : ℝ, w d = ((y : ℝ) : EReal))
    (hl : ∀ d, wl d = w d - w d) : (∑ d, x d * w d) + (∑ d, (x d - x d) * w d) + (∑ d, x d * wl d) + b = (∑ d, x d * w d) + b := by
  simp only [hl, fun d => real_sub_self (hx d), fun d => real_sub_self (hw d), zero_mul, mul_zero, Finset.sum_const_zero, add_zero]

variable (m : (ℓ : Loc nD τ sig) → Buf (Elt Ideal) ℓ) (c : Dev nD)

/-! ## The layer's quantities, of the launch's arrays -/

abbrev Xn (n : Fin 16384) (d : Fin 1024) : EReal := xnRow (B0 m c) (B1 m c) n d
abbrev Wn (n : Fin 16384) (e : ℕ) : EReal := wRow (B0 m c) (B1 m c) (B2 m c) (B3 m c) (B4 m c) (B5 m c) n e
abbrev En (n : Fin 16384) (e : Fin 32) (d : Fin 1024) : EReal := exRow (B0 m c) (B1 m c) (B2 m c) (B3 m c) (B4 m c) (B5 m c) (B6 m c) (B7 m c) (B8 m c) n e d
/-- Expert `e`'s contribution, zero past the last expert. -/
def En' (n : Fin 16384) (d : Fin 1024) (e : ℕ) : EReal := if h : e < 32 then En m c n ⟨e, h⟩ d else 0
abbrev On (n : Fin 16384) (d : Fin 1024) : EReal := outRow (B0 m c) (B1 m c) (B2 m c) (B3 m c) (B4 m c) (B5 m c) (B6 m c) (B7 m c) (B8 m c) (B9 m c) n d

/-- The normed rows and the logits of a row block. -/
abbrev xnBlk (t : Fin cfg0.N) : FVec Ideal S1024x1024 .bf16 := k0_pay5 (F := Ideal) (iblk m c 0 t) (iblk m c 1 t)
abbrev lgBlk (t : Fin cfg0.N) : FVec Ideal S1024x128 .f32 := k0_pay6 (F := Ideal) (iblk m c 0 t) (iblk m c 1 t) (iblk m c 2 t) (iblk m c 3 t) (iblk m c 4 t)

theorem xnBlk_at (t : Fin cfg0.N) (r d : Fin 1024) : xnBlk m c t (ix2 r d) = Xn m c (rowAt t r) d := by
  unfold xnBlk
  rw [pay5_at]
  simp only [blk0_at, blk1_at]
  rfl

section
variable (h0 : Reals (B0 m c)) (h1 : Reals (B1 m c)) (h2 : Reals (B2 m c)) (h3 : Reals (B3 m c)) (h4 : Reals (B4 m c)) (h5 : Reals (B5 m c))
include h0 h1

theorem lgBlk_at (t : Fin cfg0.N) (r : Fin 1024) (l : Fin 128) (hw : ∀ d, ∃ y : ℝ, wtab (B2 m c) (B4 m c) (ix2 d l) = ((y : ℝ) : EReal)) :
    lgBlk m c t (ix2 r l) = (∑ d, Xn m c (rowAt t r) d * wtab (B2 m c) (B4 m c) (ix2 d l)) + btab (B3 m c) (B5 m c) (ix2 (0 : Fin 1) l) := by
  have hx := fun d => xnRow_real (rowAt t r) h0 h1 d
  unfold lgBlk
  rw [pay6_at]
  simp only [blk0_at, blk1_at, blk2_at, blk3_at, blk4_at]
  exact split_logit (x := Xn m c (rowAt t r)) (w := fun d => wtab (B2 m c) (B4 m c) (ix2 d l)) _ hx hw (fun _ => rfl)

include h2 h3 h4 h5

theorem comb_at (t : Fin cfg0.N) (r : Fin 1024) (l : Fin 128) : combOf (lgBlk m c t) (ix2 r l) = Wn m c (rowAt t r) l.val := by
  refine combOf_at (lgBlk m c t) r (glR (B0 m c) (B1 m c) (B2 m c) (B3 m c) (rowAt t r)) (elR (B0 m c) (B1 m c) (B4 m c) (B5 m c) (rowAt t r)) (fun g => ?_) (fun g j => ?_) l
  · rw [lgBlk_at m c h0 h1 t r (glane g) (fun d => by rw [wtab_g]; exact h2 _), ← glog_eq (rowAt t r) h0 h1 h2 h3 g]
    simp only [wtab_g, btab_g]
    rfl
  · rw [lgBlk_at m c h0 h1 t r (elane g j) (fun d => by rw [wtab_e]; exact h4 _), ← elog_eq (rowAt t r) h0 h1 h4 h5 g j]
    simp only [wtab_e, btab_e]
    rfl

end

/-! ## One point -/

theorem outs_A0 (t : Fin cfg0.N) (h0 : t.val % 8 = 0) (h1 : ¬t.val % 8 = 7) : (outsAt0 m c t.val t.isLt).2.1 = xnBlk m c t := by
  rw [outsAt0_A m c t h0 h1]; dsimp only; frame_out
theorem outs_A1 (t : Fin cfg0.N) (h0 : t.val % 8 = 0) (h1 : ¬t.val % 8 = 7) : (outsAt0 m c t.val t.isLt).2.2.1 = combOf (lgBlk m c t) := by
  rw [outsAt0_A m c t h0 h1]; dsimp only; frame_out; rfl
theorem outs_A2 (t : Fin cfg0.N) (h0 : t.val % 8 = 0) (h1 : ¬t.val % 8 = 7) : (outsAt0 m c t.val t.isLt).2.2.2 = blkStep m c t (xnBlk m c t) (combOf (lgBlk m c t)) (k0_pay19 (F := Ideal)) := by
  rw [outsAt0_A m c t h0 h1]; dsimp only; frame_out; rfl

/-- The point before. -/
abbrev prev (t : Fin cfg0.N) := outsAt0 m c (t.val - 1) (Nat.lt_of_le_of_lt (Nat.sub_le _ _) t.isLt)

theorem outs_B0 (t : Fin cfg0.N) (h0 : ¬t.val % 8 = 0) : (outsAt0 m c t.val t.isLt).2.1 = (prev m c t).2.1 := by
  by_cases h1 : t.val % 8 = 7
  · rw [outsAt0_C m c t h0 h1]; rfl
  · rw [outsAt0_B m c t h0 h1]; rfl
theorem outs_B1 (t : Fin cfg0.N) (h0 : ¬t.val % 8 = 0) : (outsAt0 m c t.val t.isLt).2.2.1 = (prev m c t).2.2.1 := by
  by_cases h1 : t.val % 8 = 7
  · rw [outsAt0_C m c t h0 h1]; rfl
  · rw [outsAt0_B m c t h0 h1]; rfl
theorem outs_B2 (t : Fin cfg0.N) (h0 : ¬t.val % 8 = 0) : (outsAt0 m c t.val t.isLt).2.2.2 = blkStep m c t (prev m c t).2.1 (prev m c t).2.2.1 (prev m c t).2.2.2 := by
  by_cases h1 : t.val % 8 = 7
  · rw [outsAt0_C m c t h0 h1]; dsimp only; frame_out; simp only [read_unread_whole]; rfl
  · rw [outsAt0_B m c t h0 h1]; dsimp only; frame_out; simp only [read_unread_whole]; rfl
theorem outs_C (t : Fin cfg0.N) (h0 : ¬t.val % 8 = 0) (h1 : t.val % 8 = 7) :
    (outsAt0 m c t.val t.isLt).1 = k0_pay2 (F := Ideal) (iblk m c 0 t) (blkStep m c t (prev m c t).2.1 (prev m c t).2.2.1 (prev m c t).2.2.2) (iblk m c 8 t) := by
  rw [outsAt0_C m c t h0 h1]; dsimp only; frame_out; simp only [read_unread_whole]; rfl

theorem zero_at (r d : Fin 1024) : k0_pay19 (F := Ideal) (ix2 r d) = 0 := by pointwise [k0_pay19]

/-! ## All points -/

/-- What the scratch arrays hold after point `t`. -/
structure Holds (t : Fin cfg0.N) : Prop where
  xn : ∀ r d : Fin 1024, (outsAt0 m c t.val t.isLt).2.1 (ix2 r d) = Xn m c (rowAt t r) d
  comb : ∀ (r : Fin 1024) (l : Fin 128), (outsAt0 m c t.val t.isLt).2.2.1 (ix2 r l) = Wn m c (rowAt t r) l.val
  acc : ∀ r d : Fin 1024, (outsAt0 m c t.val t.isLt).2.2.2 (ix2 r d) = ∑ e ∈ Finset.range (4 * (t.val % 8 + 1)), En' m c (rowAt t r) d e

theorem pt_eq (t : Fin cfg0.N) (XN : FVec Ideal S1024x1024 .bf16) (CB : FVec Ideal S1024x128 .f32) (r : Fin 1024) (hx : ∀ d : Fin 1024, XN (ix2 r d) = Xn m c (rowAt t r) d)
    (hc : ∀ l : Fin 128, CB (ix2 r l) = Wn m c (rowAt t r) l.val) (j : Fin 4) (d : Fin 1024) : ptEx m c t XN CB r j d = En' m c (rowAt t r) d (4 * (t.val % 8) + j.val) := by
  have hlt : 4 * (t.val % 8) + j.val < 32 := by omega
  have he : exAt t j = ⟨4 * (t.val % 8) + j.val, hlt⟩ := Fin.ext (by show t.val % 8 * 4 + j.val = 4 * (t.val % 8) + j.val; omega)
  unfold ptEx
  rw [he, hc, show (fun x => XN (ix2 r x)) = Xn m c (rowAt t r) from funext hx, En', dif_pos hlt]
  rfl

theorem step_sum (t : Fin cfg0.N) (XN : FVec Ideal S1024x1024 .bf16) (CB : FVec Ideal S1024x128 .f32) (ACC : FVec Ideal S1024x1024 .f32) (r : Fin 1024)
    (hx : ∀ d : Fin 1024, XN (ix2 r d) = Xn m c (rowAt t r) d) (hc : ∀ l : Fin 128, CB (ix2 r l) = Wn m c (rowAt t r) l.val) (d : Fin 1024)
    (ha : ACC (ix2 r d) = ∑ e ∈ Finset.range (4 * (t.val % 8)), En' m c (rowAt t r) d e) :
    blkStep m c t XN CB ACC (ix2 r d) = ∑ e ∈ Finset.range (4 * (t.val % 8 + 1)), En' m c (rowAt t r) d e := by
  rw [blkStep_at, ha, pt_eq m c t XN CB r hx hc, pt_eq m c t XN CB r hx hc, pt_eq m c t XN CB r hx hc, pt_eq m c t XN CB r hx hc,
    show 4 * (t.val % 8 + 1) = 4 * (t.val % 8) + 1 + 1 + 1 + 1 by omega, Finset.sum_range_succ, Finset.sum_range_succ, Finset.sum_range_succ, Finset.sum_range_succ]
  simp only [add_assoc, add_zero]

section
variable (h0 : Reals (B0 m c)) (h1 : Reals (B1 m c)) (h2 : Reals (B2 m c)) (h3 : Reals (B3 m c)) (h4 : Reals (B4 m c)) (h5 : Reals (B5 m c))
include h0 h1 h2 h3 h4 h5

theorem holds_first (t : Fin cfg0.N) (hz : t.val % 8 = 0) : Holds m c t := by
  have hn : ¬t.val % 8 = 7 := by omega
  refine ⟨fun r d => ?_, fun r l => ?_, fun r d => ?_⟩
  · rw [outs_A0 m c t hz hn, xnBlk_at]
  · rw [outs_A1 m c t hz hn, comb_at m c h0 h1 h2 h3 h4 h5]
  · rw [outs_A2 m c t hz hn]
    refine step_sum m c t _ _ _ r (fun d => xnBlk_at m c t r d) (fun l => comb_at m c h0 h1 h2 h3 h4 h5 t r l) d ?_
    rw [zero_at, hz]
    rfl

omit h0 h1 h2 h3 h4 h5 in
theorem holds_next (t s : Fin cfg0.N) (hs : s.val = t.val - 1) (hz : ¬t.val % 8 = 0) (h : Holds m c s) : Holds m c t := by
  have hp : prev m c t = outsAt0 m c s.val s.isLt := by unfold prev; simp only [hs]
  have hr : ∀ r, rowAt s r = rowAt t r := fun r => Fin.ext (by show s.val / 8 * 1024 + r.val = t.val / 8 * 1024 + r.val; rw [hs, show (t.val - 1) / 8 = t.val / 8 by omega])
  have hx : ∀ r d : Fin 1024, (prev m c t).2.1 (ix2 r d) = Xn m c (rowAt t r) d := fun r d => by rw [hp, h.xn, hr]
  have hc : ∀ (r : Fin 1024) (l : Fin 128), (prev m c t).2.2.1 (ix2 r l) = Wn m c (rowAt t r) l.val := fun r l => by rw [hp, h.comb, hr]
  refine ⟨fun r d => ?_, fun r l => ?_, fun r d => ?_⟩
  · rw [outs_B0 m c t hz, hx]
  · rw [outs_B1 m c t hz, hc]
  · rw [outs_B2 m c t hz]
    refine step_sum m c t _ _ _ r (hx r) (hc r) d ?_
    rw [hp, h.acc, hr, hs, show (t.val - 1) % 8 + 1 = t.val % 8 by omega]

theorem holds_all (n : ℕ) : ∀ t : Fin cfg0.N, t.val = n → Holds m c t := by
  induction n with
  | zero => exact fun t ht => holds_first m c h0 h1 h2 h3 h4 h5 t (by omega)
  | succ n ih =>
    intro t ht
    by_cases hz : t.val % 8 = 0
    · exact holds_first m c h0 h1 h2 h3 h4 h5 t hz
    · exact holds_next m c t ⟨n, by have := t.isLt; omega⟩ (by show n = t.val - 1; omega) hz (ih _ rfl)

/-- The rows the last point of a row block writes. -/
theorem out_at (t : Fin cfg0.N) (hl : t.val % 8 = 7) (r d : Fin 1024) : (outsAt0 m c t.val t.isLt).1 (ix2 r d) = On m c (rowAt t r) d := by
  have hz : ¬t.val % 8 = 0 := by omega
  have hs : ∀ k : Fin 1024, blkStep m c t (prev m c t).2.1 (prev m c t).2.2.1 (prev m c t).2.2.2 (ix2 r k) = ∑ e, En m c (rowAt t r) e k := fun k => by
    rw [← outs_B2 m c t hz, (holds_all m c h0 h1 h2 h3 h4 h5 t.val t rfl).acc, hl, Finset.sum_range]
    exact Finset.sum_congr rfl fun e _ => dif_pos e.isLt
  rw [outs_C m c t hz hl, pay2_at]
  simp only [hs, blk0_at, blk8_at]
  rfl

/-- The array the launch leaves. -/
theorem out_final : (dats m 0 c).arrAt 9 cfg0.N = (fun i => On m c (i 0) (i 1) : FVec Ideal S16384x1024 .f32) := by
  refine (dats m 0 c).arrAt_eq_of_covers 9 _ (by decide +kernel) fun t hf y => ?_
  have hl := (flush0_9 t).mp hf
  blk_simp
  rw [after0_9]
  idx_vars y
  have hi := pidx9 t
  have e : ((View.whole main_v25).slice (win0_9.rect t)).emb (ix2 y0 y1) = ix2 (rowAt t y0) y1 := by blk_ext <;> simp [hi]
  rw [e, out_at m c h0 h1 h2 h3 h4 h5 t hl]
  rfl

end

end Cert.Moe

end
-- ==== Proof.MoeRef.lean ====
/- The reference's rows: the norm, the logits, the routing read from its sorted entries, and the experts' sum. -/
module

public import proofs.«01_k».proof.Proof.MoeSpec
public import proofs.«01_k».proof.Proof.Gen.Reference2Ideal.Run
public import Idealize.ShloMosaic.Lib.Pointwise

@[expose] public section

set_option maxRecDepth 16384

noncomputable section

namespace Cert.Moe

open Idealize.ShloMosaic Idealize.ShloMosaic.TcCoe Idealize.ShloMosaic.Tactic Idealize.ShloMosaic.StableHlo
open Cert.Reference2Ideal Cert.Reference2Ideal.Gen Cert.Reference2Ideal.Value

variable (V : Valuation τ sig (Elt Ideal)) (n : Fin 16384)

abbrev R0 : FVec Ideal ⟨2, ![16384, 1024]⟩ .f32 := V (Proc.devRef .tc main_arg0)
abbrev R1 : FVec Ideal ⟨1, ![1024]⟩ .f32 := V (Proc.devRef .tc main_arg1)
abbrev R2 : FVec Ideal ⟨2, ![1024, 4]⟩ .f32 := V (Proc.devRef .tc main_arg2)
abbrev R3 : FVec Ideal ⟨1, ![4]⟩ .f32 := V (Proc.devRef .tc main_arg3)
abbrev R4 : FVec Ideal ⟨3, ![1024, 4, 8]⟩ .f32 := V (Proc.devRef .tc main_arg4)
abbrev R5 : FVec Ideal ⟨2, ![4, 8]⟩ .f32 := V (Proc.devRef .tc main_arg5)
abbrev R6 : FVec Ideal ⟨3, ![32, 1024, 256]⟩ .f32 := V (Proc.devRef .tc main_arg6)
abbrev R7 : FVec Ideal ⟨3, ![32, 1024, 256]⟩ .f32 := V (Proc.devRef .tc main_arg7)
abbrev R8 : FVec Ideal ⟨3, ![32, 256, 1024]⟩ .f32 := V (Proc.devRef .tc main_arg8)
abbrev R9 : FVec Ideal ⟨1, ![1024]⟩ .f32 := V (Proc.devRef .tc main_arg9)

/-- The reference's arrays, with their shapes written out. -/
abbrev t12 : FVec Ideal S16384x1024 .f32 := res_main_v12 V
abbrev t16 : FVec Ideal S16384x4 .f32 := res_main_v16 V
abbrev t23 : FVec Ideal S16384x4 .f32 := res_main_v23 V
abbrev t5 : FVec Ideal S16384x2 .f32 := res_main_values_5 V
abbrev t41 : FVec Ideal S16384x2 .f32 := res_main_v41 V
abbrev t57 : FVec Ideal S16384x32x256 .f32 := res_main_v57 V

/-! ## The norm and the logits -/

theorem v12_at (d : Fin 1024) : res_main_v12 V (ix2 n d) = xnRow (R0 V) (R1 V) n d := by
  unfold xnRow normed
  pointwise [res_main_v12]

theorem v16_at (g : Fin 4) : res_main_v16 V (ix2 n g) = glog (R0 V) (R1 V) (R2 V) (R3 V) n g := by
  unfold glog
  simp only [← v12_at]
  pointwise [res_main_v16]

/-! ## A row's maximum, and a truth value as a number -/

/-- The maximum of row `n`, the reference's way. -/
def topOf {N C : ℕ} (h : (⟨2, ![N, C]⟩ : Shape).ReducesTo [1] ⟨1, ![N]⟩) (x : FVec Ideal ⟨2, ![N, C]⟩ .f32) (n : Fin N) : EReal :=
  max (Ideal.ofBits .f32 4286578688#32) (Finset.fold max (Ideal.ofBits .f32 4286578688#32) x {i | h.drop i = ix1 n})

theorem top_row {N C : ℕ} (h : (⟨2, ![N, C]⟩ : Shape).ReducesTo [1] ⟨1, ![N]⟩) (x : FVec Ideal ⟨2, ![N, C]⟩ .f32) (n : Fin N) (k : Fin C)
    (hk : ∀ j, (x (ix2 n j) : EReal) ≤ x (ix2 n k)) :
    topOf h x n = (x (ix2 n k) : EReal) := by
  unfold topOf
  have hb : (Ideal.ofBits .f32 4286578688#32 : EReal) = ⊥ := by simp [Ideal.ofBits, Ideal.ieee]
  have hm : ∀ i : (⟨2, ![N, C]⟩ : Shape).Idx, h.drop i = ix1 n ↔ i 0 = n := fun i => by
    have hv : (h.drop i 0 : ℕ) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hi : ∀ i : (⟨2, ![N, C]⟩ : Shape).Idx, i 0 = n → i = ix2 n (i 1) := fun i e => by
    funext b
    match b with
    | ⟨0, _⟩ => exact e
    | ⟨1, _⟩ => rfl
  rw [hb, max_eq_right bot_le]
  refine le_antisymm ((Finset.fold_max_le _).2 ⟨bot_le, fun i hin => ?_⟩) ((Finset.le_fold_max _).2 (Or.inr ⟨ix2 n k, ?_, le_rfl⟩))
  · rw [hi i ((hm i).1 (Finset.mem_filter.1 hin).2)]; exact hk _
  · exact Finset.mem_filter.2 ⟨Finset.mem_univ _, (hm _).2 rfl⟩

theorem truth (p : Prop) [Decidable p] (b : BitVec 1) (h : b = if p then 1#1 else 0#1) : (FloatOps.uitofp (F := Ideal) .f32 b : EReal) = if p then 1 else 0 := by
  show (((b.toNat : ℕ) : ℝ) : EReal) = _
  rw [h]
  split <;> simp

/-! ## The group -/

/-- The softmax of the group logits. -/
def soft (gl : Fin 4 → ℝ) (g : Fin 4) : ℝ := Real.exp (gl g - gl (grp gl)) * (1 / ∑ k, Real.exp (gl k - gl (grp gl)))

theorem soft_leads (gl : Fin 4 → ℝ) : Leads Finset.univ (soft gl) (grp gl) := by
  have hs : 0 < 1 / ∑ k, Real.exp (gl k - gl (grp gl)) := one_div_pos.2 (sum_exp_pos (by decide) _)
  refine ⟨Finset.mem_univ _, fun j hj => ⟨?_, fun hlt => ?_⟩⟩
  · exact mul_le_mul_of_nonneg_right (Real.exp_le_exp.2 (sub_le_sub_right ((grp_leads gl).2 j hj).1 _)) hs.le
  · exact mul_lt_mul_of_pos_right (Real.exp_lt_exp.2 (sub_lt_sub_right (((grp_leads gl).2 j hj).2 hlt) _)) hs

theorem soft_grp (gl : Fin 4 → ℝ) : soft gl (grp gl) = gate gl := by
  unfold soft gate
  rw [sub_self, Real.exp_zero, one_mul]

theorem v23_read (g : Fin 4) : (res_main_v23 V (ix2 n g) : EReal) = Ideal.exp (t16 V (ix2 n g) - topOf reducesTo_S16384x4_S16384_d1 (t16 V) n) := by
  pointwise [res_main_v23]
  rfl

theorem v27_read (g : Fin 4) : (res_main_v27 V (ix2 n g) : EReal) = Ideal.div (t23 V (ix2 n g)) (∑ k : Fin 4, t23 V (ix2 n k)) := by
  pointwise [res_main_v27]

section
variable (gl : Fin 4 → ℝ) (hg : ∀ g, glog (R0 V) (R1 V) (R2 V) (R3 V) n g = ((gl g : ℝ) : EReal))
include hg

theorem v23_at (g : Fin 4) : (res_main_v23 V (ix2 n g) : EReal) = ((Real.exp (gl g - gl (grp gl)) : ℝ) : EReal) := by
  have h : ∀ g, (res_main_v16 V (ix2 n g) : EReal) = ((gl g : ℝ) : EReal) := fun g => (v16_at V n g).trans (hg g)
  rw [v23_read]
  dsimp only [t16]
  rw [top_row reducesTo_S16384x4_S16384_d1 (res_main_v16 V) n (grp gl) (fun j => by
    rw [h, h]; exact EReal.coe_le_coe_iff.2 ((grp_leads gl).2 j (Finset.mem_univ _)).1), h, h, ← EReal.coe_sub, Ideal.exp_coe]

theorem v27_at (g : Fin 4) : (res_main_v27 V (ix2 n g) : EReal) = ((soft gl g : ℝ) : EReal) := by
  have hs := (sum_exp_pos (by decide) (fun k : Fin 4 => gl k - gl (grp gl))).ne'
  rw [v27_read]
  dsimp only [t23]
  simp only [v23_at V n gl hg]
  rw [← coe_sum, Ideal.div_coe hs, ← EReal.coe_mul]
  rfl

theorem group_at : (Host.topK S16384x1 1 (FloatOps.cmpfTotal .gt) (res_main_v27 V) sliceFits_S16384x4_S16384x1).1 (ix2 n (0 : Fin 1)) = ((gate gl : ℝ) : EReal)
    ∧ res_main_indices V (ix2 n (0 : Fin 1)) = BitVec.ofNat 32 (grp gl).val := by
  have h := topK_at (N := 16384) (C := 4) (K := 1) (by decide) (res_main_v27 V) sliceFits_S16384x4_S16384x1 n (soft gl) (v27_at V n gl hg) 0
  rw [sorted_one (soft gl) (by decide) (grp gl) (soft_leads gl), soft_grp] at h
  exact h

end

/-! ## The experts of the group -/

theorem v34_read (j : Fin 8) : (res_main_v34 V (ix2 n j) : EReal) = ∑ g : Fin 4, elog (R0 V) (R1 V) (R4 V) (R5 V) n g j
    * FloatOps.uitofp (F := Ideal) .f32 (IntOp.cmpi .eq (res_main_indices V (ix2 n (0 : Fin 1))) (BitVec.ofNat 32 g.val)) := by
  unfold elog
  simp only [← v12_at]
  pointwise [res_main_v34]

theorem v41_read (q : Fin 2) : (res_main_v41 V (ix2 n q) : EReal) = Ideal.exp (t5 V (ix2 n q) - topOf reducesTo_S16384x2_S16384_d1 (t5 V) n) := by
  pointwise [res_main_v41]
  rfl

theorem word_group : ∀ a g : Fin 4, IntOp.cmpi .eq (BitVec.ofNat 32 a.val) (BitVec.ofNat 32 g.val) = if g = a then 1#1 else 0#1 := by decide
theorem word_expert : ∀ (a : Fin 4) (b : Fin 8) (e : Fin 32), IntOp.cmpi .eq (IntOp.addi (IntOp.muli (BitVec.ofNat 32 a.val) 8#32) (BitVec.ofNat 32 b.val)) (BitVec.ofNat 32 e.val)
    = if e.val = a.val * 8 + b.val then 1#1 else 0#1 := by decide +kernel

/-- The chosen expert. -/
def sel (el : Fin 8 → ℝ) (q : Fin 2) : Fin 8 := if q = 0 then one el else two el

section
variable (gl : Fin 4 → ℝ) (el : Fin 4 → Fin 8 → ℝ) (hg : ∀ g, glog (R0 V) (R1 V) (R2 V) (R3 V) n g = ((gl g : ℝ) : EReal))
  (he : ∀ g j, elog (R0 V) (R1 V) (R4 V) (R5 V) n g j = ((el g j : ℝ) : EReal))
include hg he

theorem v34_at (j : Fin 8) : (res_main_v34 V (ix2 n j) : EReal) = ((el (grp gl) j : ℝ) : EReal) := by
  rw [v34_read, (group_at V n gl hg).2]
  simp only [he, fun g : Fin 4 => truth (g = grp gl) _ (word_group (grp gl) g), mul_ite, mul_one, mul_zero, Finset.sum_ite_eq', Finset.mem_univ, if_true]

theorem pair_at (q : Fin 2) : (res_main_values_5 V (ix2 n q) : EReal) = ((el (grp gl) (sel (el (grp gl)) q) : ℝ) : EReal)
    ∧ (Host.topK S16384x2 1 (FloatOps.cmpfTotal .gt) (res_main_v34 V) sliceFits_S16384x8_S16384x2).2 (ix2 n q) = BitVec.ofNat 32 (sel (el (grp gl)) q).val := by
  have h := topK_at (N := 16384) (C := 8) (K := 2) (by decide) (res_main_v34 V) sliceFits_S16384x8_S16384x2 n (el (grp gl)) (v34_at V n gl el hg he) q
  rw [sorted_two (el (grp gl)) q] at h
  exact h

theorem v41_at (q : Fin 2) : (res_main_v41 V (ix2 n q) : EReal) = ((Real.exp (el (grp gl) (sel (el (grp gl)) q) - el (grp gl) (one (el (grp gl)))) : ℝ) : EReal) := by
  have h := fun q => (pair_at V n gl el hg he q).1
  rw [v41_read]
  dsimp only [t5]
  rw [top_row reducesTo_S16384x2_S16384_d1 (res_main_values_5 V) n 0 (fun j => by
    rw [h, h]; exact EReal.coe_le_coe_iff.2 ((one_leads (el (grp gl))).2 _ (Finset.mem_univ _)).1), h, h, ← EReal.coe_sub, Ideal.exp_coe]
  rfl

/-- The weight of an expert. -/
theorem comb_ref (e : Fin 32) : (∑ q : Fin 2, FloatOps.uitofp (F := Ideal) .f32 (IntOp.cmpi .eq (IntOp.addi (IntOp.muli (res_main_indices V (ix2 n (0 : Fin 1))) 8#32)
        ((Host.topK S16384x2 1 (FloatOps.cmpfTotal .gt) (res_main_v34 V) sliceFits_S16384x8_S16384x2).2 (ix2 n q))) (BitVec.ofNat 32 e.val))
      * (Ideal.div (t41 V (ix2 n q)) (∑ q : Fin 2, t41 V (ix2 n q))
        * (Host.topK S16384x1 1 (FloatOps.cmpfTotal .gt) (res_main_v27 V) sliceFits_S16384x4_S16384x1).1 (ix2 n (0 : Fin 1))) : EReal)
      = ((weight gl el e.val : ℝ) : EReal) := by
  have hp : (1 : ℝ) + ratio (el (grp gl)) ≠ 0 := by have := ratio_pos (el (grp gl)); positivity
  have h1 : Real.exp (el (grp gl) (one (el (grp gl))) - el (grp gl) (one (el (grp gl)))) = 1 := by rw [sub_self, Real.exp_zero]
  have h2 : Real.exp (el (grp gl) (two (el (grp gl))) - el (grp gl) (one (el (grp gl)))) = ratio (el (grp gl)) := rfl
  have e1 : sel (el (grp gl)) 0 = one (el (grp gl)) := rfl
  have e2 : sel (el (grp gl)) 1 = two (el (grp gl)) := rfl
  dsimp only [t41]
  simp only [(group_at V n gl hg).1, (group_at V n gl hg).2, v41_at V n gl el hg he, fun q => (pair_at V n gl el hg he q).2,
    fun q : Fin 2 => truth _ _ (word_expert (grp gl) (sel (el (grp gl)) q) e), Fin.sum_univ_two, h1, h2, e1, e2]
  rw [← EReal.coe_add, Ideal.div_coe hp, Ideal.div_coe hp]
  simp only [← EReal.coe_mul, ite_mul, one_mul, zero_mul]
  unfold weight
  have t1 : 1 / (1 + ratio (el (grp gl))) * gate gl = gate gl / (1 + ratio (el (grp gl))) := by ring
  have t2 : ratio (el (grp gl)) * (1 / (1 + ratio (el (grp gl)))) * gate gl = gate gl / (1 + ratio (el (grp gl))) * ratio (el (grp gl)) := by ring
  rw [t1, t2, EReal.coe_add]
  congr 1 <;> split <;> simp

end

/-! ## The experts' sum and the result -/

theorem v57_at (e : Fin 32) (f : Fin 256) : (res_main_v57 V (ix3 n e f) : EReal) = ∑ d, xnRow (R0 V) (R1 V) n d * R6 V (ix3 e d f) := by
  simp only [← v12_at]
  pointwise [res_main_v57]

theorem v65_read (d : Fin 1024) : (res_main_v65 V (ix2 n d) : EReal) = R0 V (ix2 n d) + ∑ e : Fin 32, ∑ f : Fin 256,
    ((t57 V (ix3 n e f) * Ideal.div 1 (1 + Ideal.exp (-t57 V (ix3 n e f))) * ∑ x, t12 V (ix2 n x) * R7 V (ix3 e x f))
      * ∑ q : Fin 2, FloatOps.uitofp (F := Ideal) .f32 (IntOp.cmpi .eq (IntOp.addi (IntOp.muli (res_main_indices V (ix2 n (0 : Fin 1))) 8#32)
          ((Host.topK S16384x2 1 (FloatOps.cmpfTotal .gt) (res_main_v34 V) sliceFits_S16384x8_S16384x2).2 (ix2 n q))) (BitVec.ofNat 32 e.val))
        * (Ideal.div (t41 V (ix2 n q)) (∑ q : Fin 2, t41 V (ix2 n q))
          * (Host.topK S16384x1 1 (FloatOps.cmpfTotal .gt) (res_main_v27 V) sliceFits_S16384x4_S16384x1).1 (ix2 n (0 : Fin 1)))) * R8 V (ix3 e f d) := by
  pointwise [res_main_v65]

section
variable (h0 : Reals (R0 V)) (h1 : Reals (R1 V)) (h2 : Reals (R2 V)) (h3 : Reals (R3 V)) (h4 : Reals (R4 V)) (h5 : Reals (R5 V))
include h0 h1 h2 h3 h4 h5

theorem v65_at (d : Fin 1024) : (res_main_v65 V (ix2 n d) : EReal)
    = R0 V (ix2 n d) + ∑ e, exRow (R0 V) (R1 V) (R2 V) (R3 V) (R4 V) (R5 V) (R6 V) (R7 V) (R8 V) n e d := by
  rw [v65_read]
  dsimp only [t57, t12]
  simp only [comb_ref V n _ _ (fun g => glog_eq n h0 h1 h2 h3 g) (fun g j => elog_eq n h0 h1 h4 h5 g j), v57_at, v12_at]
  unfold exRow down act wRow
  simp only [zero_sub]

/-- The reference's row. -/
theorem ref_row (d : Fin 1024) : (mulf (mulf (res_main_v65 V) (broadcastInDim S16384x1024 ![0, 1] bcast_S16384x1_S16384x1024_0_1 (Host.rsqrt (addf (Host.divf (broadcastInDim S16384x1 ![0] bcast_S16384_S16384x1_0
      (Host.reduceAdd (mulf (res_main_v65 V) (res_main_v65 V)) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (V (Proc.devRef .tc main_arg9)))) : FVec Ideal S16384x1024 .f32) (ix2 n d)
    = outRow (R0 V) (R1 V) (R2 V) (R3 V) (R4 V) (R5 V) (R6 V) (R7 V) (R8 V) (R9 V) n d := by
  unfold outRow normed
  simp only [← v65_at V n h0 h1 h2 h3 h4 h5]
  pointwise

end

end Cert.Moe

end
-- ==== Proof.Equation2.lean ====
/- The layer's two programs give equal results: both are read, at every element, as the same row. -/
module

public import proofs.«01_k».proof.Defs
public import proofs.«01_k».proof.Proof.Finite2
public import proofs.«01_k».proof.Proof.MoeInv
public import proofs.«01_k».proof.Proof.MoeRef
public import Idealize.ShloMosaic.Lib.Claim

@[expose] public section

set_option maxRecDepth 16384

noncomputable section

open Idealize.ShloMosaic Idealize.ShloMosaic.TcCoe Idealize.SL.Sem

namespace Cert.Proof

open Cert.Moe (Reals)

theorem kernel2_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v25) = (Cert.Kernel2Ideal.Gen.dats m 0 c).arrAt 9 Cert.Kernel2Ideal.cfg0.N) :=
  (θ_run Cert.Kernel2Ideal.defs _ _).mono (fun r h c => Cert.Kernel2Ideal.Value.post9 m r h c) (Cert.Kernel2Ideal.Gen.run_main m g)

section
open Cert.Reference2Ideal Cert.Reference2Ideal.Gen Cert.Reference2Ideal.Value
/-- The reference's last norm, of the array it is taken of and the scale. -/
abbrev refTerm (V : Valuation τ sig (Elt Ideal)) : FVec Ideal S16384x1024 .f32 :=
  mulf (mulf (res_main_v65 V) (broadcastInDim S16384x1024 ![0, 1] bcast_S16384x1_S16384x1024_0_1 (Host.rsqrt (addf (Host.divf (broadcastInDim S16384x1 ![0] bcast_S16384_S16384x1_0 (Host.reduceAdd (mulf (res_main_v65 V) (res_main_v65 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (V (Proc.devRef .tc main_arg9))))
end

/-- The array the reference leaves. -/
def refOut (m : (ℓ : Loc Cert.Reference2Ideal.nD Cert.Reference2Ideal.τ Cert.Reference2Ideal.sig) → Buf (Elt Ideal) ℓ) (c : Dev Cert.Reference2Ideal.nD) : Buf (Elt Ideal) ((c.tc : Thread Cert.Reference2Ideal.nD Cert.Reference2Ideal.τ).loc Cert.Reference2Ideal.main_v78) :=
  refTerm (StableHlo.launchContents m c)

theorem ref2_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v78) = refOut m c
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)) :=
  Cert.Reference2Ideal.Value.run m g

theorem out_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : Cert.Moe.R0 (StableHlo.launchContents m' c) = Cert.Moe.B0 m c)
    (e1 : Cert.Moe.R1 (StableHlo.launchContents m' c) = Cert.Moe.B1 m c)
    (e2 : Cert.Moe.R2 (StableHlo.launchContents m' c) = Cert.Moe.B2 m c)
    (e3 : Cert.Moe.R3 (StableHlo.launchContents m' c) = Cert.Moe.B3 m c)
    (e4 : Cert.Moe.R4 (StableHlo.launchContents m' c) = Cert.Moe.B4 m c)
    (e5 : Cert.Moe.R5 (StableHlo.launchContents m' c) = Cert.Moe.B5 m c)
    (e6 : Cert.Moe.R6 (StableHlo.launchContents m' c) = Cert.Moe.B6 m c)
    (e7 : Cert.Moe.R7 (StableHlo.launchContents m' c) = Cert.Moe.B7 m c)
    (e8 : Cert.Moe.R8 (StableHlo.launchContents m' c) = Cert.Moe.B8 m c)
    (e9 : Cert.Moe.R9 (StableHlo.launchContents m' c) = Cert.Moe.B9 m c)
    (hr : Reals (Cert.Moe.B0 m c) ∧ Reals (Cert.Moe.B1 m c) ∧ Reals (Cert.Moe.B2 m c) ∧ Reals (Cert.Moe.B3 m c) ∧ Reals (Cert.Moe.B4 m c) ∧ Reals (Cert.Moe.B5 m c)) :
    refOut m' c = (Cert.Kernel2Ideal.Gen.dats m 0 c).arrAt 9 Cert.Kernel2Ideal.cfg0.N := by
  obtain ⟨h0, h1, h2, h3, h4, h5⟩ := hr
  rw [Cert.Moe.out_final m c h0 h1 h2 h3 h4 h5]
  funext x
  obtain ⟨n, d, rfl⟩ : ∃ (n : Fin 16384) (d : Fin 1024), x = ix2 n d := ⟨x 0, x 1, eq_ix2 x⟩
  refine (Cert.Moe.ref_row (StableHlo.launchContents m' c) n (e0 ▸ h0) (e1 ▸ h1) (e2 ▸ h2) (e3 ▸ h3) (e4 ▸ h4) (e5 ▸ h5) d).trans ?_
  rw [e0, e1, e2, e3, e4, e5, e6, e7, e8, e9]
  rfl

theorem algebraic2 [hP : Cert.Pre_finite_arrays2.Facts] : Cert.algebraic_Kernel2Ideal_Reference2Ideal_pre_finite_arrays2 := by
  intro m g m' g' hpre hagree
  refine ⟨fun c => (Cert.Kernel2Ideal.Gen.dats m 0 c).arrAt 9 Cert.Kernel2Ideal.cfg0.N, ?_, ?_⟩
  · exact (θ_run _ _ _).mono (fun r h c => ⟨h.1 c, h.2.1 c⟩) (θ_run_and (kernel2_run m g) (Cert.Kernel2Ideal.Gen.frame m g))
  · refine (θ_run _ _ _).mono (fun r h c => ?_) (ref2_run m' g')
    obtain ⟨e0, e1, e2, e3, e4, e5, e6, e7, e8, e9⟩ := hagree c
    exact ⟨(h c).1.trans (out_eq m m' c e0 e1 e2 e3 e4 e5 e6 e7 e8 e9 (Cert.Pre_finite_arrays2.reals _ _ _ _ _ _ _ _ _ _ (hpre c))), (h c).2⟩

end Cert.Proof

end
-- ==== Proof.Finite3.lean ====
/- The attention's precondition read at an element: where `finite_arrays3` is one, every element of the six arrays is a real number. -/
module

public import proofs.«01_k».proof.Proof.Finite2
public import proofs.«01_k».proof.Pre_finite_arrays3

@[expose] public section

set_option maxRecDepth 16384

noncomputable section

namespace Cert.Pre_finite_arrays3

open Idealize.ShloMosaic
open Cert.Moe (Reals)
open Cert.Pre_finite_arrays (andi_one)
open Cert.Pre_finite_arrays2 (reals_of_test)

/-- The shape relations the precondition's operations take. -/
theorem facts : Facts where
  bcast_S_S2x8192x8x64 := by decide
  reducesTo_S2x8192x8x64_S_d0_1_2_3 := by decide
  h_S_ := by decide
  bcast_S_S2x8192x8x32 := by decide
  reducesTo_S2x8192x8x32_S_d0_1_2_3 := by decide
  bcast_S_S2x8192x256 := by decide
  reducesTo_S2x8192x256_S_d0_1_2 := by decide
  bcast_S_S2x8192x32 := by decide
  reducesTo_S2x8192x32_S_d0_1_2 := by decide
  bcast_S_S256x8x64 := by decide
  reducesTo_S256x8x64_S_d0_1_2 := by decide

theorem reals [hF : Facts] (a0 : FVec Ideal S2x8192x8x64 .f32) (a1 : FVec Ideal S2x8192x8x32 .f32) (a2 : FVec Ideal S2x8192x256 .f32) (a3 : FVec Ideal S2x8192x32 .f32) (a4 a5 : FVec Ideal S256x8x64 .f32)
    (h : fn (F := Ideal) a0 a1 a2 a3 a4 a5 = fun _ => 1#1) : Reals a0 ∧ Reals a1 ∧ Reals a2 ∧ Reals a3 ∧ Reals a4 ∧ Reals a5 := by
  have i0 : S_.Idx := fun k => k.elim0
  obtain ⟨g, g5⟩ := andi_one (congrFun h i0)
  obtain ⟨g, g4⟩ := andi_one g
  obtain ⟨g, g3⟩ := andi_one g
  obtain ⟨g, g2⟩ := andi_one g
  obtain ⟨g0, g1⟩ := andi_one g
  exact ⟨reals_of_test a0 _ _ _ i0 g0, reals_of_test a1 _ _ _ i0 g1, reals_of_test a2 _ _ _ i0 g2, reals_of_test a3 _ _ _ i0 g3, reals_of_test a4 _ _ _ i0 g4, reals_of_test a5 _ _ _ i0 g5⟩

end Cert.Pre_finite_arrays3

end
-- ==== Proof.AttnBody.lean ====
/- The body of the attention at one grid point: a block of 512 queries against the keys before it, 512 at a time, and last
   against its own 512 with the later keys masked; what it leaves is the state of that pass, divided. -/
module

public import proofs.«01_k».proof.Proof.Gen.Kernel3Ideal.Value
public import Idealize.ShloMosaic.Lib.Pointwise
public import Idealize.ShloMosaic.Lib.VecWindow

@[expose] public section

set_option maxRecDepth 16384

noncomputable section

namespace Cert.Attn

open Idealize.ShloMosaic Idealize.ShloMosaic.TcCoe Idealize.ShloMosaic.Tactic
open Cert.Kernel3Ideal Cert.Kernel3Ideal.Gen

/-- The running maxima, the running sums and the running weighted rows of a block's queries. -/
abbrev State := Vec Ideal S512x128 .f32 × Vec Ideal S512x128 .f32 × Vec Ideal S512x64 .f32

section
variable (x0 : Vec Ideal S1x1x512x96 .bf16) (x1 : Vec Ideal S1x8192x96 .bf16) (x2 : Vec Ideal S1x8192x64 .bf16)

/-- The state after one more chunk of keys and values, none masked. -/
def step (kb : Vec Ideal S1x512x96 .bf16) (vb : Vec Ideal S1x512x64 .bf16) (s : State) : State :=
  (k0_pay18 (k0_pay3 (k0_pay14 x0) kb s.1), k0_pay6 (k0_pay14 x0) kb s.1 s.2.1, k0_pay7 (k0_pay14 x0) kb s.1 s.2.2 vb)

/-- The state before any chunk. -/
def start : State := (k0_pay15 (F := Ideal), k0_pay16 (F := Ideal), k0_pay17 (F := Ideal))

/-- The state after the chunk of trip `k`. -/
def nextOf (i : grid0.Coords) (k : Fin (k0_t1_loop i).trips) (s : State) : State :=
  step x0 (View.ld x1 (Rect.unit (k0_off1 i k) ![1, 512, 96] (k0_off1_inb i k))) (View.ld x2 (Rect.unit (k0_off2 i k) ![1, 512, 64] (k0_off2_inb i k))) s

/-- The state after the first `n` chunks before the block's own. -/
def pass (i : grid0.Coords) : ℕ → State
  | 0 => start
  | n + 1 => if h : n < (k0_t1_loop i).trips then nextOf x0 x1 x2 i ⟨n, h⟩ (pass i n) else pass i n
end

variable (c : Dev nD) (i : grid0.Coords) (arg2 : Memref sig .tc .vmem S1x1x512x96 .bf16) (harg2 : arg2.IsWhole) (arg3 : Memref sig .tc .vmem S1x8192x96 .bf16) (harg3 : arg3.IsWhole) (arg4 : Memref sig .tc .vmem S1x8192x64 .bf16) (harg4 : arg4.IsWhole) (arg5 : Memref sig .tc .vmem S1x1x512x64 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole)

section
variable (x0 : Vec Ideal S1x1x512x96 .bf16) (x1 : Vec Ideal S1x8192x96 .bf16) (x2 : Vec Ideal S1x8192x64 .bf16)
  (X3 : BufTy.Contents (Elt Ideal) arg3.view.ty) (X4 : BufTy.Contents (Elt Ideal) arg4.view.ty)
  (h3 : arg3.view.read (Elt Ideal) X3 = x1) (h4 : arg4.view.read (Elt Ideal) X4 = x2)
  (G6 : BufTy.Contents (Elt Ideal) arg6.view.ty) (G7 : BufTy.Contents (Elt Ideal) arg7.view.ty) (G8 : BufTy.Contents (Elt Ideal) arg8.view.ty)
  (h6 : arg6.view.read (Elt Ideal) G6 = k0_pay15 (F := Ideal)) (h7 : arg7.view.read (Elt Ideal) G7 = k0_pay16 (F := Ideal)) (h8 : arg8.view.read (Elt Ideal) G8 = k0_pay17 (F := Ideal))

/-- What the loop's first `n` trips have stored, in the three buffers of the state. -/
abbrev stores (n : ℕ) := pb_k0_t1 (F := Ideal) Variants.none c none i arg2 harg2 arg3 harg3 arg4 harg4 arg5 harg5 arg6 harg6 arg7 harg7 arg8 harg8 x0 X3 X4 G6 G7 G8 n

include h3 h4 in
/-- The pieces one trip stores: over each buffer the whole of the next state. -/
theorem trip_pieces (k : Fin (k0_t1_loop i).trips) (f6 : BufTy.Contents (Elt Ideal) arg6.view.ty) (f7 : BufTy.Contents (Elt Ideal) arg7.view.ty)
    (f8 : BufTy.Contents (Elt Ideal) arg8.view.ty) (s : State)
    (e6 : arg6.view.read (Elt Ideal) f6 = s.1) (e7 : arg7.view.read (Elt Ideal) f7 = s.2.1) (e8 : arg8.view.read (Elt Ideal) f8 = s.2.2) :
    tripL_k0_t1 (F := Ideal) Variants.none c none i arg2 harg2 arg3 harg3 arg4 harg4 arg5 harg5 arg6 harg6 arg7 harg7 arg8 harg8 x0 X3 X4 k f6 f7 f8
      = ([⟨Rect.unit ![0, 0] ![512, 128] inb_S512x128_S512x128_0_0, (nextOf x0 x1 x2 i k s).1⟩],
         [⟨Rect.unit ![0, 0] ![512, 128] inb_S512x128_S512x128_0_0, (nextOf x0 x1 x2 i k s).2.1⟩],
         [⟨Rect.unit ![0, 0] ![512, 64] inb_S512x64_S512x64_0_0, (nextOf x0 x1 x2 i k s).2.2⟩]) := by
  unfold tripL_k0_t1 trip_k0_t1
  dsimp only
  unfold trip_k0_t1.sl.r nextOf step
  have r6 := View.readAt_full (Val := Elt Ideal) arg6.view f6 (off := ![0, 0]) inb_S512x128_S512x128_0_0
  have r7 := View.readAt_full (Val := Elt Ideal) arg7.view f7 (off := ![0, 0]) inb_S512x128_S512x128_0_0
  have r8 := View.readAt_full (Val := Elt Ideal) arg8.view f8 (off := ![0, 0]) inb_S512x64_S512x64_0_0
  dsimp only
  rw [← e6, ← e7, ← e8, ← r6, ← r7, ← r8, ← h3, ← h4]
  rfl

include h3 h4 h6 h7 h8 in
theorem pass_read (n : ℕ) (hn : n ≤ (k0_t1_loop i).trips) :
    arg6.view.read (Elt Ideal) (arg6.view.writes (Elt Ideal) G6 (stores c i arg2 harg2 arg3 harg3 arg4 harg4 arg5 harg5 arg6 harg6 arg7 harg7 arg8 harg8 x0 X3 X4 G6 G7 G8 n).1) = (pass x0 x1 x2 i n).1
    ∧ arg7.view.read (Elt Ideal) (arg7.view.writes (Elt Ideal) G7 (stores c i arg2 harg2 arg3 harg3 arg4 harg4 arg5 harg5 arg6 harg6 arg7 harg7 arg8 harg8 x0 X3 X4 G6 G7 G8 n).2.1) = (pass x0 x1 x2 i n).2.1
    ∧ arg8.view.read (Elt Ideal) (arg8.view.writes (Elt Ideal) G8 (stores c i arg2 harg2 arg3 harg3 arg4 harg4 arg5 harg5 arg6 harg6 arg7 harg7 arg8 harg8 x0 X3 X4 G6 G7 G8 n).2.2) = (pass x0 x1 x2 i n).2.2 := by
  induction n with
  | zero => exact ⟨h6, h7, h8⟩
  | succ n ih =>
    obtain ⟨e6, e7, e8⟩ := ih (by omega)
    have h : n < (k0_t1_loop i).trips := hn
    have e := pb_k0_t1_succ (F := Ideal) Variants.none c none i arg2 harg2 arg3 harg3 arg4 harg4 arg5 harg5 arg6 harg6 arg7 harg7 arg8 harg8 x0 X3 X4 G6 G7 G8 ⟨n, h⟩
    rw [trip_pieces c i arg2 harg2 arg3 harg3 arg4 harg4 arg5 harg5 arg6 harg6 arg7 harg7 arg8 harg8 x0 x1 x2 X3 X4 h3 h4 ⟨n, h⟩ _ _ _ (pass x0 x1 x2 i n) e6 e7 e8] at e
    have ep : pass x0 x1 x2 i (n + 1) = nextOf x0 x1 x2 i ⟨n, h⟩ (pass x0 x1 x2 i n) := dif_pos h
    rw [ep, show stores c i arg2 harg2 arg3 harg3 arg4 harg4 arg5 harg5 arg6 harg6 arg7 harg7 arg8 harg8 x0 X3 X4 G6 G7 G8 (n + 1) = _ from e]
    exact ⟨View.read_writes_full (s := S512x128) arg6.view G6 (off := ![0, 0]) inb_S512x128_S512x128_0_0 _ _,
      View.read_writes_full (s := S512x128) arg7.view G7 (off := ![0, 0]) inb_S512x128_S512x128_0_0 _ _,
      View.read_writes_full (s := S512x64) arg8.view G8 (off := ![0, 0]) inb_S512x64_S512x64_0_0 _ _⟩
end

theorem trips1_eq : ∀ i : grid0.Coords, (k0_t1_loop i).trips = (i 1).val := by
  intro i
  have h : ∀ j : Fin 16, Scf.trips 0#32 (Scalar.addi 0#32 (Scalar.muli (Scalar.divsi (Scalar.subi (BitVec.ofNat 32 j.val) 0#32) 1#32) 1#32)) 1#32 = j.val := by decide +kernel
  exact h (i 1)
theorem trips2_eq : ∀ i : grid0.Coords, (k0_t2_loop i).trips = 0 := by
  intro i
  have h : ∀ j : Fin 16, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by decide +kernel
  exact h (i 1)

/-- What a point writes, of the three blocks it stages. -/
def outOf (i : grid0.Coords) (x0 : Vec Ideal S1x1x512x96 .bf16) (x1 : Vec Ideal S1x8192x96 .bf16) (x2 : Vec Ideal S1x8192x64 .bf16) : Vec Ideal S1x1x512x64 .f32 :=
  let s := pass x0 x1 x2 i (i 1).val
  let kb : Vec Ideal S1x512x96 .bf16 := View.ld x1 (Rect.unit (k0_off5 i) ![1, 512, 96] (k0_off5_inb i))
  let vb : Vec Ideal S1x512x64 .bf16 := View.ld x2 (Rect.unit (k0_off6 i) ![1, 512, 64] (k0_off6_inb i))
  let sc := k0_pay20 x0 kb
  let jj : IVec S512x512 32 := iota .tc S512x512 32 [1] iota_S512x512_d1_w32
  k0_pay1 (k0_pay27 sc k0_pay21 jj s.1 s.2.2 vb) (k0_pay26 sc k0_pay21 jj s.1 s.2.1)

theorem out_eq (x0 : Vec Ideal S1x1x512x96 .bf16) (x1 : Vec Ideal S1x8192x96 .bf16) (x2 : Vec Ideal S1x8192x64 .bf16) :
  out0_A_3 c i arg2 harg2 arg3 harg3 arg4 harg4 arg5 harg5 arg6 harg6 arg7 harg7 arg8 harg8 x0 x1 x2 = outOf i x0 x1 x2 := by
  unfold out0_A_3 kernelRun0_A
  dsimp only
  refine (View.read_writes_full (s := S1x1x512x64) VO0_3 _ (off := ![0, 0, 0, 0]) inb_S1x1x512x64_S1x1x512x64_0_0_0_0 _ _).trans ?_
  unfold outOf
  unfold kernelRun0_A.sl.v67 kernelRun0_A.sl.v68 kernelRun0_A.sl.HS2_1_1 kernelRun0_A.sl.HS1_1_1
  have hx0 : View.readAt (Elt Ideal) arg2.view (Rect.unit ![0, 0, 0, 0] S1x1x512x96.size inb_S1x1x512x96_S1x1x512x96_0_0_0_0).toLoadRect (harg2.unread x0) = x0 :=
    (View.readAt_full (Val := Elt Ideal) arg2.view _ inb_S1x1x512x96_S1x1x512x96_0_0_0_0).trans (harg2.read_unread x0)
  have e1 : Scf.trips (k0_t1_loop i).lb (k0_t1_loop i).ub (k0_t1_loop i).st = (i 1).val := trips1_eq i
  have e2 : Scf.trips (k0_t2_loop i).lb (k0_t2_loop i).ub (k0_t2_loop i).st = 0 := trips2_eq i
  have P := pass_read c i arg2 harg2 arg3 harg3 arg4 harg4 arg5 harg5 arg6 harg6 arg7 harg7 arg8 harg8 x0 x1 x2
    (harg3.unread x1) (harg4.unread x2) (harg3.read_unread x1) (harg4.read_unread x2)
    (arg6.view.writes (Elt Ideal) arg6.view.junk kernelRun0_A.sl.HS0_1) (arg7.view.writes (Elt Ideal) arg7.view.junk kernelRun0_A.sl.HS1_1)
    (arg8.view.writes (Elt Ideal) arg8.view.junk kernelRun0_A.sl.HS2_1)
    (View.read_writes_full (s := S512x128) arg6.view _ (off := ![0, 0]) inb_S512x128_S512x128_0_0 _ _)
    (View.read_writes_full (s := S512x128) arg7.view _ (off := ![0, 0]) inb_S512x128_S512x128_0_0 _ _)
    (View.read_writes_full (s := S512x64) arg8.view _ (off := ![0, 0]) inb_S512x64_S512x64_0_0 _ _) (i 1).val (trips1_eq i).ge
  obtain ⟨P6, P7, P8⟩ := P
  rw [← View.writes_append] at P6 P7 P8
  have Q6 := (View.readAt_full (Val := Elt Ideal) arg6.view _ (off := ![0, 0]) inb_S512x128_S512x128_0_0).trans P6
  have Q7 := (View.readAt_full (Val := Elt Ideal) arg7.view _ (off := ![0, 0]) inb_S512x128_S512x128_0_0).trans P7
  have Q8 := (View.readAt_full (Val := Elt Ideal) arg8.view _ (off := ![0, 0]) inb_S512x64_S512x64_0_0).trans P8
  have W6 : kernelRun0_A.sl.v33 c i arg2 harg2 arg3 harg3 arg4 harg4 arg5 harg5 arg6 harg6 arg7 harg7 arg8 harg8 x0 x1 x2 = (pass x0 x1 x2 i (i 1).val).1 := by
    unfold kernelRun0_A.sl.v33
    rw [hx0, e1, e2]
    exact Q6
  have W7 : kernelRun0_A.sl.v43 c i arg2 harg2 arg3 harg3 arg4 harg4 arg5 harg5 arg6 harg6 arg7 harg7 arg8 harg8 x0 x1 x2 = (pass x0 x1 x2 i (i 1).val).2.1 := by
    unfold kernelRun0_A.sl.v43
    rw [hx0, e1, e2]
    exact Q7
  have W8 : kernelRun0_A.sl.v53 c i arg2 harg2 arg3 harg3 arg4 harg4 arg5 harg5 arg6 harg6 arg7 harg7 arg8 harg8 x0 x1 x2 = (pass x0 x1 x2 i (i 1).val).2.2 := by
    unfold kernelRun0_A.sl.v53
    rw [hx0, e1, e2]
    exact Q8
  have W3 : kernelRun0_A.sl.r c i arg2 harg2 arg3 harg3 x0 x1 = k0_pay20 x0 (View.ld x1 (Rect.unit (k0_off5 i) ![1, 512, 96] (k0_off5_inb i))) := by
    unfold kernelRun0_A.sl.r
    rw [hx0]
    exact congrArg (fun z => k0_pay20 x0 (View.ld z (Rect.unit (k0_off5 i) ![1, 512, 96] (k0_off5_inb i)))) (harg3.read_unread x1)
  have W4 : View.readAt (Elt Ideal) arg4.view (Rect.unit (s := S1x8192x64) (k0_off6 i) S1x512x64.size (k0_off6_inb i)).toLoadRect (harg4.unread x2) = View.ld x2 (Rect.unit (k0_off6 i) ![1, 512, 64] (k0_off6_inb i)) :=
    congrArg (fun z => View.ld z (Rect.unit (k0_off6 i) ![1, 512, 64] (k0_off6_inb i))) (harg4.read_unread x2)
  refine congrArg₂ k0_pay1 ((View.readCov_full (s := S512x64) arg8.view (off := ![0, 0]) inb_S512x64_S512x64_0_0 inb_S512x64_S512x64_0_0 _ _).trans ?_)
    ((View.readCov_full (s := S512x128) arg7.view (off := ![0, 0]) inb_S512x128_S512x128_0_0 inb_S512x128_S512x128_0_0 _ _).trans ?_)
  · rw [W3, W6, W8, W4]
    rfl
  · rw [W3, W6, W7]
    rfl

end Cert.Attn
-- ==== Proof.AttnPay.lean ====
/- What the body's steps hold at one row: a row's 512 scores of a chunk, its greatest, the weights, and the row's state after
   the chunk. -/
module

public import proofs.«01_k».proof.Proof.AttnBody

@[expose] public section

set_option maxRecDepth 16384

noncomputable section

namespace Cert.Attn

open Idealize.ShloMosaic Idealize.ShloMosaic.TcCoe Idealize.ShloMosaic.Tactic
open Cert.Kernel3Ideal Cert.Kernel3Ideal.Gen

/-- One query's state: the greatest score so far, the sum of the weights, the weighted sum of the values. -/
structure Row where
  top : EReal
  sum : EReal
  val : Fin 64 → EReal

/-- The greater of `a` and a chunk's scores. -/
def topWith (a : EReal) (sc : Fin 512 → EReal) : EReal := max a (Finset.fold max ⊥ sc Finset.univ)

/-- A query's state after a chunk of scores `sc` and values `v`. -/
def Row.next (sc : Fin 512 → EReal) (v : Fin 512 → Fin 64 → EReal) (s : Row) : Row where
  top := topWith s.top sc
  sum := Ideal.exp (s.top - topWith s.top sc) * s.sum + ∑ j, Ideal.exp (sc j - topWith s.top sc)
  val := fun e => Ideal.exp (s.top - topWith s.top sc) * s.val e + ∑ j, Ideal.exp (sc j - topWith s.top sc) * v j e

/-- A query's state before any chunk. -/
def Row.start : Row := ⟨⊥, 0, fun _ => 0⟩

/-- Row `r` of the buffers holds the state `s`, the first two the same on every lane. -/
def Holds (S : State) (r : Fin 512) (s : Row) : Prop :=
  (∀ d : Fin 128, S.1 (ix2 r d) = s.top) ∧ (∀ d : Fin 128, S.2.1 (ix2 r d) = s.sum) ∧ ∀ e : Fin 64, S.2.2 (ix2 r e) = s.val e

theorem neg_inf : (Ideal.ofBits .f32 4286578688#32 : EReal) = ⊥ := by simp [Ideal.ofBits, Ideal.ieee]

section
variable (q : FVec Ideal S512x96 .bf16) (kb : FVec Ideal S1x512x96 .bf16) (m l : FVec Ideal S512x128 .f32) (acc : FVec Ideal S512x64 .f32) (vb : FVec Ideal S1x512x64 .bf16)
  (r : Fin 512)

theorem pay2_at (j : Fin 512) : k0_pay2 q kb (ix2 r j) = (∑ x : Fin 96, q (ix2 r x) * kb (ix3 0 j x) : EReal) := by
  pointwise [k0_pay2]

variable (a b : EReal) (hm : ∀ d : Fin 128, m (ix2 r d) = a) (hl : ∀ d : Fin 128, l (ix2 r d) = b)

section
variable (sc : Fin 512 → EReal) (hs : ∀ j, k0_pay2 q kb (ix2 r j) = sc j)

include hm hs in
theorem pay3_at (d : Fin 128) : k0_pay3 q kb m (ix2 r d) = topWith a sc := by
  pointwise [k0_pay3]
  rw [hm, neg_inf, funext hs]; rfl

include hm hs in
theorem pay4_at (j : Fin 512) : k0_pay4 q kb m (ix2 r j) = Ideal.exp (sc j - topWith a sc) := by
  pointwise [k0_pay4]
  simp only [pay3_at q kb m r a hm sc hs, hs, dite_eq_ite, ite_self]

include hm hs in
theorem pay5_at (d : Fin 128) : k0_pay5 q kb m (ix2 r d) = Ideal.exp (a - topWith a sc) := by
  pointwise [k0_pay5]
  rw [pay3_at q kb m r a hm sc hs, hm]

include hm hl hs in
theorem pay6_at (d : Fin 128) : k0_pay6 q kb m l (ix2 r d) = Ideal.exp (a - topWith a sc) * b + ∑ j, Ideal.exp (sc j - topWith a sc) := by
  pointwise [k0_pay6]
  simp only [pay5_at q kb m r a hm sc hs, pay4_at q kb m r a hm sc hs, hl]

include hm hs in
theorem pay7_at (e : Fin 64) : k0_pay7 q kb m acc vb (ix2 r e) = Ideal.exp (a - topWith a sc) * acc (ix2 r e) + ∑ j, Ideal.exp (sc j - topWith a sc) * vb (ix3 0 j e) := by
  pointwise [k0_pay7]
  simp only [pay5_at q kb m r a hm sc hs, pay4_at q kb m r a hm sc hs]
end

theorem pay18_at (d : Fin 128) : k0_pay18 m (ix2 r d) = (m (ix2 r d) : EReal) := by
  pointwise [k0_pay18]
theorem pay14_at (x0 : FVec Ideal S1x1x512x96 .bf16) (x : Fin 96) : k0_pay14 (F := Ideal) x0 (ix2 r x) = (x0 (ix4 0 0 r x) : EReal) := by
  pointwise [k0_pay14]
theorem pay15_at (d : Fin 128) : k0_pay15 (F := Ideal) (ix2 r d) = (⊥ : EReal) := by
  pointwise [k0_pay15]
  exact neg_inf
theorem pay16_at (d : Fin 128) : k0_pay16 (F := Ideal) (ix2 r d) = (0 : EReal) := by
  pointwise [k0_pay16]
theorem pay17_at (d : Fin 64) : k0_pay17 (F := Ideal) (ix2 r d) = (0 : EReal) := by
  pointwise [k0_pay17]

/-! ## The block's own chunk, masked -/

theorem pay20_at (x0 : FVec Ideal S1x1x512x96 .bf16) (j : Fin 512) : k0_pay20 (F := Ideal) x0 kb (ix2 r j) = (∑ x : Fin 96, x0 (ix4 0 0 r x) * kb (ix3 0 j x) : EReal) := by
  pointwise [k0_pay20]
  simp only [pay14_at]

theorem low9 : ∀ r : Fin 512, IntOp.andi (BitVec.ofNat 32 r.val) 511#32 = BitVec.ofNat 32 r.val := by decide +kernel
theorem pay21_at (j : Fin 512) : k0_pay21 (ix2 r j) = BitVec.ofNat 32 r.val := by
  pointwise [k0_pay21]
  exact low9 r

theorem sle_at (j r : Fin 512) : IntOp.cmpi .sle (BitVec.ofNat 32 j.val) (BitVec.ofNat 32 r.val) = if j ≤ r then 1#1 else 0#1 := by
  have e : ∀ n : Fin 512, (BitVec.ofNat 32 n.val).toInt = n.val := by decide +kernel
  have h : (BitVec.ofNat 32 j.val).sle (BitVec.ofNat 32 r.val) = decide (j ≤ r) := by
    rw [BitVec.sle, e, e]; simp
  show BitVec.ofBool ((BitVec.ofNat 32 j.val).sle (BitVec.ofNat 32 r.val)) = _
  rw [h]
  by_cases hh : j ≤ r <;> simp [hh]

/-- The columns' numbers. -/
abbrev cols : IVec S512x512 32 := iota .tc S512x512 32 [1] iota_S512x512_d1_w32
theorem pay22_at (s : FVec Ideal S512x512 .f32) (j : Fin 512) : k0_pay22 s k0_pay21 cols (ix2 r j) = (if j ≤ r then s (ix2 r j) else ⊥ : EReal) := by
  pointwise [k0_pay22, cols]
  rw [pay21_at, sle_at, neg_inf]
  by_cases hh : j ≤ r <;> simp [hh, Scalar.select]

section
variable (s : FVec Ideal S512x512 .f32) (sc : Fin 512 → EReal) (hs : ∀ j, k0_pay22 s k0_pay21 cols (ix2 r j) = sc j)

include hm hs in
theorem pay23_at (d : Fin 128) : k0_pay23 s k0_pay21 cols m (ix2 r d) = topWith a sc := by
  pointwise [k0_pay23]
  rw [hm, neg_inf, funext hs]; rfl

include hm hs in
theorem pay24_at (j : Fin 512) : k0_pay24 s k0_pay21 cols m (ix2 r j) = Ideal.exp (sc j - topWith a sc) := by
  pointwise [k0_pay24]
  simp only [pay23_at m r a hm s sc hs, hs, dite_eq_ite, ite_self]

include hm hs in
theorem pay25_at (d : Fin 128) : k0_pay25 s k0_pay21 cols m (ix2 r d) = Ideal.exp (a - topWith a sc) := by
  pointwise [k0_pay25]
  rw [pay23_at m r a hm s sc hs, hm]

include hm hl hs in
theorem pay26_at (d : Fin 128) : k0_pay26 s k0_pay21 cols m l (ix2 r d) = Ideal.exp (a - topWith a sc) * b + ∑ j, Ideal.exp (sc j - topWith a sc) := by
  pointwise [k0_pay26]
  simp only [pay25_at m r a hm s sc hs, pay24_at m r a hm s sc hs, hl]

include hm hs in
theorem pay27_at (e : Fin 64) : k0_pay27 s k0_pay21 cols m acc vb (ix2 r e) = Ideal.exp (a - topWith a sc) * acc (ix2 r e) + ∑ j, Ideal.exp (sc j - topWith a sc) * vb (ix3 0 j e) := by
  pointwise [k0_pay27]
  simp only [pay25_at m r a hm s sc hs, pay24_at m r a hm s sc hs]
end

theorem pay1_at (e : Fin 64) : k0_pay1 (F := Ideal) acc l (ix4 0 0 r e) = Ideal.div (acc (ix2 r e)) (l (ix2 r ⟨e.val, by omega⟩)) := by
  pointwise [k0_pay1]
end

end Cert.Attn
-- ==== Proof.AttnRows.lean ====
/- What a point writes, row by row: a query's pass over the chunks before its own block, then over its own chunk masked. -/
module

public import proofs.«01_k».proof.Proof.AttnPay

@[expose] public section

set_option maxRecDepth 16384

noncomputable section

namespace Cert.Attn

open Idealize.ShloMosaic Idealize.ShloMosaic.TcCoe Idealize.ShloMosaic.Tactic
open Cert.Kernel3Ideal Cert.Kernel3Ideal.Gen

/-- Position `j` of chunk `k`, among the 8192. -/
abbrev pos (k j : ℕ) (hk : k < 16) (hj : j < 512) : Fin 8192 := ⟨512 * k + j, by omega⟩

/-- Chunk `k`'s part of a row of 8192. -/
def chunk {α : Type} (f : Fin 8192 → α) (k : ℕ) (hk : k < 16) : Fin 512 → α := fun j => f (pos k j.val hk j.isLt)

/-- A query's state after the first `n` chunks of its scores `f` and the values `v`. -/
def rowPass (f : Fin 8192 → EReal) (v : Fin 8192 → Fin 64 → EReal) : (n : ℕ) → n ≤ 16 → Row
  | 0, _ => Row.start
  | n + 1, h => (rowPass f v n (by omega)).next (chunk f n (by omega)) (chunk v n (by omega))

/-- A query's state after its pass, the query the `r`-th of block `n`. -/
def rowLast (f : Fin 8192 → EReal) (v : Fin 8192 → Fin 64 → EReal) (n : ℕ) (hn : n < 16) (r : Fin 512) : Row :=
  (rowPass f v n (by omega)).next (fun j => if j ≤ r then chunk f n hn j else ⊥) (chunk v n hn)

theorem off1_at (i : grid0.Coords) (k : Fin (k0_t1_loop i).trips) : k0_off1 i k = ![0, 512 * k.val, 0] := by
  have hk : k.val < 16 := Nat.lt_of_lt_of_le k.isLt ((trips1_eq i).le.trans (Nat.le_of_lt (i 1).isLt))
  have h : ∀ n : Fin 16, (Scalar.indexCast (Scalar.muli (Scf.iv (0#32) 1#32 n.val) 512#32)).toNat = 512 * n.val := by decide +kernel
  show ![0, (Scalar.indexCast (Scalar.muli (Scf.iv (0#32) 1#32 k.val) 512#32)).toNat, 0] = _
  rw [h ⟨k.val, hk⟩]
theorem off2_at (i : grid0.Coords) (k : Fin (k0_t1_loop i).trips) : k0_off2 i k = ![0, 512 * k.val, 0] := off1_at i k
theorem off5_at (i : grid0.Coords) : k0_off5 i = ![0, 512 * (i 1).val, 0] := by
  have h : ∀ n : Fin 16, (Scalar.indexCast (Scalar.muli (BitVec.ofNat 32 n.val) 512#32)).toNat = 512 * n.val := by decide +kernel
  show ![0, (Scalar.indexCast (Scalar.muli (BitVec.ofNat 32 (i 1).val) 512#32)).toNat, 0] = _
  rw [h (i 1)]
theorem off6_at (i : grid0.Coords) : k0_off6 i = ![0, 512 * (i 1).val, 0] := off5_at i

theorem ld_at {D : ℕ} (x : Vec Ideal ⟨3, ![1, 8192, D]⟩ .bf16) (o : Fin 3 → ℕ) (inb : ∀ a, o a + (![1, 512, D] : Fin 3 → ℕ) a ≤ (⟨3, ![1, 8192, D]⟩ : Shape).size a) (n : ℕ) (hn : n < 16)
    (ho : o = ![0, 512 * n, 0]) (j : Fin 512) (d : Fin D) :
    (View.ld x (Rect.unit o ![1, 512, D] inb) : Vec Ideal ⟨3, ![1, 512, D]⟩ .bf16) (ix3 0 j d) = x (ix3 0 (pos n j.val hn j.isLt) d) := by
  subst ho
  refine congrArg x (funext fun a => ?_)
  match a with
  | ⟨0, _⟩ => rfl
  | ⟨1, _⟩ => exact Fin.ext (show 512 * n + 1 * j.val = 512 * n + j.val by omega)
  | ⟨2, _⟩ => exact Fin.ext (show 0 + 1 * d.val = d.val by omega)

section
variable (x0 : Vec Ideal S1x1x512x96 .bf16) (x1 : Vec Ideal S1x8192x96 .bf16) (x2 : Vec Ideal S1x8192x64 .bf16)

/-- Row `r`'s scores against the 8192 keys. -/
def score (r : Fin 512) (p : Fin 8192) : EReal := ∑ x : Fin 96, (x0 (ix4 0 0 r x) : EReal) * (x1 (ix3 0 p x) : EReal)
/-- The values. -/
def value (p : Fin 8192) (e : Fin 64) : EReal := x2 (ix3 0 p e)

theorem holds_start (r : Fin 512) : Holds start r Row.start :=
  ⟨fun d => pay15_at r d, fun d => pay16_at r d, fun e => pay17_at r e⟩

theorem holds_step (kb : Vec Ideal S1x512x96 .bf16) (vb : Vec Ideal S1x512x64 .bf16) (S : State) (r : Fin 512) (s : Row) (h : Holds S r s)
    (sc : Fin 512 → EReal) (v : Fin 512 → Fin 64 → EReal) (hs : ∀ j, (∑ x : Fin 96, (x0 (ix4 0 0 r x) : EReal) * (kb (ix3 0 j x) : EReal)) = sc j) (hv : ∀ j e, (vb (ix3 0 j e) : EReal) = v j e) :
    Holds (step x0 kb vb S) r (s.next sc v) := by
  obtain ⟨h1, h2, h3⟩ := h
  have hs' : ∀ j, k0_pay2 (k0_pay14 x0) kb (ix2 r j) = sc j := fun j => by
    rw [pay2_at, ← hs]
    simp only [pay14_at]
  refine ⟨fun d => ?_, fun d => ?_, fun e => ?_⟩
  · exact (pay18_at _ r d).trans (pay3_at _ _ _ r _ h1 sc hs' d)
  · exact pay6_at _ _ _ _ r _ _ h1 h2 sc hs' d
  · refine (pay7_at _ _ _ _ _ r _ h1 sc hs' e).trans ?_
    simp only [h3, hv]; rfl

theorem holds_pass (i : grid0.Coords) (r : Fin 512) (n : ℕ) (hn : n ≤ (i 1).val) (h16 : n ≤ 16) :
    Holds (pass x0 x1 x2 i n) r (rowPass (score x0 x1 r) (value x2) n h16) := by
  induction n with
  | zero => exact holds_start r
  | succ n ih =>
    have h : n < (k0_t1_loop i).trips := by rw [trips1_eq]; omega
    have e : pass x0 x1 x2 i (n + 1) = nextOf x0 x1 x2 i ⟨n, h⟩ (pass x0 x1 x2 i n) := dif_pos h
    rw [e]
    refine holds_step x0 _ _ _ r _ (ih (by omega) (by omega)) _ _ (fun j => ?_) (fun j e => ?_)
    · show _ = score x0 x1 r _
      exact Finset.sum_congr rfl fun x _ => congrArg _ (ld_at x1 _ _ n (by omega) (off1_at i ⟨n, h⟩) j x)
    · exact ld_at x2 _ _ n (by omega) (off2_at i ⟨n, h⟩) j e

/-- What a point writes at row `r`. -/
theorem outOf_at (i : grid0.Coords) (hi : (i 1).val < 16) (r : Fin 512) (e : Fin 64) : outOf i x0 x1 x2 (ix4 0 0 r e)
    = Ideal.div ((rowLast (score x0 x1 r) (value x2) (i 1).val hi r).val e) (rowLast (score x0 x1 r) (value x2) (i 1).val hi r).sum := by
  obtain ⟨h1, h2, h3⟩ := holds_pass x0 x1 x2 i r (i 1).val le_rfl (by omega)
  have hs : ∀ j, k0_pay22 (k0_pay20 x0 (View.ld x1 (Rect.unit (k0_off5 i) ![1, 512, 96] (k0_off5_inb i)))) k0_pay21 cols (ix2 r j)
      = (if j ≤ r then chunk (score x0 x1 r) (i 1).val hi j else ⊥ : EReal) := fun j => by
    rw [pay22_at, pay20_at]
    refine if_congr Iff.rfl ?_ rfl
    exact Finset.sum_congr rfl fun x _ => congrArg _ (ld_at x1 _ _ (i 1).val hi (off5_at i) j x)
  unfold outOf
  refine (pay1_at _ _ r e).trans (congrArg₂ Ideal.div ?_ ?_)
  · refine (pay27_at _ _ _ r _ h1 _ _ hs e).trans ?_
    rw [h3]
    exact congrArg₂ (· + ·) rfl (Finset.sum_congr rfl fun j _ => congrArg _ (ld_at x2 _ _ (i 1).val hi (off6_at i) j e))
  · exact pay26_at _ _ r _ _ h1 h2 _ _ hs _
end

end Cert.Attn
-- ==== Proof.AttnMath.lean ====
/- The pass over a query's chunks, on real scores and values: whatever maxima it goes by, its sum and its weighted sum are
   those of the exponentials up to one common factor, so their quotient is the softmax's mean of the values. -/
module

public import proofs.«01_k».proof.Proof.AttnRows
public import Mathlib.Data.Finset.Fold
public import Mathlib.Analysis.SpecialFunctions.Exp

@[expose] public section

set_option maxRecDepth 16384

noncomputable section

namespace Cert.Attn

open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-! ## Sums over the positions before one -/

/-- The sum of the first `n` of 8192 numbers. -/
def upTo (h : Fin 8192 → ℝ) (n : ℕ) : ℝ := ∑ p ∈ Finset.range n, if hp : p < 8192 then h ⟨p, hp⟩ else 0

theorem upTo_chunk (h : Fin 8192 → ℝ) (n : ℕ) (hn : n < 16) : upTo h (512 * (n + 1)) = upTo h (512 * n) + ∑ j, chunk h n hn j := by
  unfold upTo
  rw [Nat.mul_succ, Finset.sum_range_add, ← Fin.sum_univ_eq_sum_range (fun j => if hp : 512 * n + j < 8192 then h ⟨512 * n + j, hp⟩ else 0)]
  refine congrArg _ (Finset.sum_congr rfl fun j _ => ?_)
  rw [dif_pos (by omega)]; rfl

theorem upTo_part (h : Fin 8192 → ℝ) (n : ℕ) (hn : n < 16) (r : Fin 512) : upTo h (512 * n + (r.val + 1)) = upTo h (512 * n) + ∑ j : Fin 512, if j ≤ r then chunk h n hn j else 0 := by
  unfold upTo
  rw [Finset.sum_range_add]
  refine congrArg _ ?_
  have e : (∑ j : Fin 512, if j ≤ r then chunk h n hn j else 0) = ∑ j ∈ Finset.range 512, if j ≤ r.val then (if hp : 512 * n + j < 8192 then h ⟨512 * n + j, hp⟩ else 0) else 0 := by
    rw [← Fin.sum_univ_eq_sum_range (fun j => if j ≤ r.val then (if hp : 512 * n + j < 8192 then h ⟨512 * n + j, hp⟩ else 0) else 0)]
    refine Finset.sum_congr rfl fun j _ => if_congr Iff.rfl ?_ rfl
    rw [dif_pos (by omega)]; rfl
  rw [e, ← Finset.sum_filter]
  refine Finset.sum_congr (Finset.ext fun j => ?_) fun _ _ => rfl
  simp only [Finset.mem_range, Finset.mem_filter]
  omega

theorem upTo_masked (h : Fin 8192 → ℝ) (t : Fin 8192) : upTo h (t.val + 1) = ∑ p : Fin 8192, if p ≤ t then h p else 0 := by
  unfold upTo
  have e : (∑ p : Fin 8192, if p ≤ t then h p else 0) = ∑ p ∈ Finset.range 8192, if p ≤ t.val then (if hp : p < 8192 then h ⟨p, hp⟩ else 0) else 0 := by
    rw [← Fin.sum_univ_eq_sum_range (fun p => if p ≤ t.val then (if hp : p < 8192 then h ⟨p, hp⟩ else 0) else 0)]
    refine Finset.sum_congr rfl fun j _ => if_congr Iff.rfl ?_ rfl
    rw [dif_pos j.isLt]
  rw [e, ← Finset.sum_filter]
  refine Finset.sum_congr (Finset.ext fun j => ?_) fun _ _ => rfl
  simp only [Finset.mem_range, Finset.mem_filter]
  omega

/-! ## One chunk -/

/-- The state is that of a sum `S` of exponentials and a weighted sum `T`: both zero at the start, afterwards both at a factor. -/
def Reps (s : Row) (S : ℝ) (T : Fin 64 → ℝ) : Prop :=
  (s = Row.start ∧ S = 0 ∧ T = fun _ => 0) ∨
  ∃ M : ℝ, s.top = (M : EReal) ∧ s.sum = ((Real.exp (-M) * S : ℝ) : EReal) ∧ ∀ e, s.val e = ((Real.exp (-M) * T e : ℝ) : EReal)

/-- A score kept, or masked away. -/
def maybe (keep : Prop) [Decidable keep] (x : ℝ) : EReal := if keep then (x : EReal) else ⊥

theorem top_real (a : EReal) (ha : a ≠ ⊤) (keep : Fin 512 → Prop) [DecidablePred keep] (f : Fin 512 → ℝ) (k : Fin 512) (hk : keep k) :
    ∃ M : ℝ, topWith a (fun j => maybe (keep j) (f j)) = (M : EReal) := by
  have h1 : topWith a (fun j => maybe (keep j) (f j)) ≠ ⊤ := by
    refine ne_of_lt (max_lt (lt_top_iff_ne_top.2 ha) ((Finset.fold_max_lt _).2 ⟨bot_lt_top, fun j _ => ?_⟩))
    unfold maybe; split
    · exact EReal.coe_lt_top _
    · exact bot_lt_top
  have h2 : topWith a (fun j => maybe (keep j) (f j)) ≠ ⊥ := by
    refine ne_of_gt (lt_of_lt_of_le (EReal.bot_lt_coe (f k)) ((le_max_right _ _).trans' ((Finset.le_fold_max _).2 (Or.inr ⟨k, Finset.mem_univ _, ?_⟩))))
    unfold maybe; rw [if_pos hk]
  exact ⟨_, (EReal.coe_toReal h1 h2).symm⟩

theorem weight_real (keep : Prop) [Decidable keep] (x M : ℝ) : Ideal.exp (maybe keep x - (M : EReal)) = ((if keep then Real.exp (-M) * Real.exp x else 0 : ℝ) : EReal) := by
  unfold maybe; split
  · rw [← EReal.coe_sub, Ideal.exp_coe, ← Real.exp_add]; congr 2; ring
  · rw [EReal.bot_sub, Ideal.exp_bot]; rfl

theorem reps_next (s : Row) (S : ℝ) (T : Fin 64 → ℝ) (h : Reps s S T) (keep : Fin 512 → Prop) [DecidablePred keep] (k : Fin 512) (hk : keep k)
    (f : Fin 512 → ℝ) (g : Fin 512 → Fin 64 → ℝ) :
    Reps (s.next (fun j => maybe (keep j) (f j)) (fun j e => (g j e : EReal)))
      (S + ∑ j, if keep j then Real.exp (f j) else 0) (fun e => T e + ∑ j, if keep j then Real.exp (f j) * g j e else 0) := by
  have hs : s.top ≠ ⊤ := by
    rcases h with ⟨h, _⟩ | ⟨M, h, _⟩
    · rw [h]; exact bot_ne_top
    · rw [h]; exact EReal.coe_ne_top M
  obtain ⟨M', hM⟩ := top_real s.top hs keep f k hk
  have hS : (∑ j, Ideal.exp (maybe (keep j) (f j) - (M' : EReal))) = ((Real.exp (-M') * ∑ j, (if keep j then Real.exp (f j) else 0) : ℝ) : EReal) := by
    rw [Finset.mul_sum, coe_sum]
    refine Finset.sum_congr rfl fun j _ => ?_
    rw [weight_real]; split <;> simp
  have hT : ∀ e, (∑ j, Ideal.exp (maybe (keep j) (f j) - (M' : EReal)) * (g j e : EReal)) = ((Real.exp (-M') * ∑ j, (if keep j then Real.exp (f j) * g j e else 0) : ℝ) : EReal) := fun e => by
    rw [Finset.mul_sum, coe_sum]
    refine Finset.sum_congr rfl fun j _ => ?_
    rw [weight_real, ← EReal.coe_mul]; split
    · rw [mul_assoc]
    · simp
  refine Or.inr ⟨M', hM, ?_, fun e => ?_⟩
  · show Ideal.exp (s.top - topWith s.top _) * s.sum + ∑ j, Ideal.exp (maybe (keep j) (f j) - topWith s.top _) = _
    rw [hM, hS]
    rcases h with ⟨h, h0, h1⟩ | ⟨M, h, h0, h1⟩
    · rw [h, h0]; simp [Row.start]
    · rw [h, h0, ← EReal.coe_sub, Ideal.exp_coe, ← EReal.coe_mul, ← EReal.coe_add, ← mul_assoc, ← Real.exp_add, mul_add]
      congr 4; ring
  · show Ideal.exp (s.top - topWith s.top _) * s.val e + ∑ j, Ideal.exp (maybe (keep j) (f j) - topWith s.top _) * (g j e : EReal) = _
    rw [hM, hT]
    rcases h with ⟨h, h0, h1⟩ | ⟨M, h, h0, h1⟩
    · rw [h, h1]; simp [Row.start]
    · rw [h, h1, ← EReal.coe_sub, Ideal.exp_coe, ← EReal.coe_mul, ← EReal.coe_add, ← mul_assoc, ← Real.exp_add, mul_add]
      congr 4; ring

/-! ## The pass -/

section
variable (f : Fin 8192 → ℝ) (g : Fin 8192 → Fin 64 → ℝ)

theorem reps_pass (n : ℕ) (hn : n ≤ 16) : Reps (rowPass (fun p => (f p : EReal)) (fun p e => (g p e : EReal)) n hn)
    (upTo (fun p => Real.exp (f p)) (512 * n)) (fun e => upTo (fun p => Real.exp (f p) * g p e) (512 * n)) := by
  induction n with
  | zero => exact Or.inl ⟨rfl, by simp [upTo], by simp [upTo]⟩
  | succ n ih =>
    have h := reps_next _ _ _ (ih (by omega)) (fun _ => True) 0 trivial (chunk f n (by omega)) (chunk g n (by omega))
    simp only [if_true] at h
    have e : ∀ u : Fin 8192 → ℝ, upTo u (512 * (n + 1)) = _ := fun u => upTo_chunk u n (by omega)
    simp only [e]
    exact h

theorem reps_last (n : ℕ) (hn : n < 16) (r : Fin 512) : Reps (rowLast (fun p => (f p : EReal)) (fun p e => (g p e : EReal)) n hn r)
    (upTo (fun p => Real.exp (f p)) (512 * n + (r.val + 1))) (fun e => upTo (fun p => Real.exp (f p) * g p e) (512 * n + (r.val + 1))) := by
  have h := reps_next _ _ _ (reps_pass f g n (by omega)) (fun j => j ≤ r) r le_rfl (chunk f n hn) (chunk g n hn)
  simp only [upTo_part _ n hn r]
  exact h

/-- The mean of the values at the positions up to `t`, weighted by the exponentials of the scores. -/
def mean (t : Fin 8192) (e : Fin 64) : ℝ := (∑ p, if p ≤ t then Real.exp (f p) * g p e else 0) / ∑ p, if p ≤ t then Real.exp (f p) else 0

theorem mass_pos (t : Fin 8192) : 0 < ∑ p, if p ≤ t then Real.exp (f p) else 0 :=
  Finset.sum_pos' (fun p _ => by split; exacts [(Real.exp_pos _).le, le_rfl]) ⟨t, Finset.mem_univ _, by rw [if_pos le_rfl]; exact Real.exp_pos _⟩

theorem last_mean (n : ℕ) (hn : n < 16) (r : Fin 512) (e : Fin 64) :
    Ideal.div ((rowLast (fun p => (f p : EReal)) (fun p e => (g p e : EReal)) n hn r).val e) (rowLast (fun p => (f p : EReal)) (fun p e => (g p e : EReal)) n hn r).sum
      = ((mean f g (pos n r.val hn r.isLt) e : ℝ) : EReal) := by
  have hp := mass_pos f (pos n r.val hn r.isLt)
  have eu : ∀ u : Fin 8192 → ℝ, upTo u (512 * n + (r.val + 1)) = _ := fun u => upTo_masked u (pos n r.val hn r.isLt)
  have h := reps_last f g n hn r
  simp only [eu] at h
  rcases h with ⟨_, h, _⟩ | ⟨M, _, h0, h1⟩
  · exact absurd h hp.ne'
  · rw [h0, h1, Ideal.div_coe (mul_pos (Real.exp_pos _) hp).ne', ← EReal.coe_mul]
    refine congrArg _ ?_
    unfold mean
    have := (Real.exp_pos (-M)).ne'
    have := hp.ne'
    field_simp
end

end Cert.Attn
-- ==== Proof.AttnArrays.lean ====
/- The kernel's arrays: the queries, keys and values the host lays out head by head, the blocks each grid point reads, and the
   array the launch leaves, at every element. -/
module

public import proofs.«01_k».proof.Proof.AttnMath
public import Idealize.ShloMosaic.Lib.Pipeline.ValueKit
public import Idealize.ShloMosaic.Lib.Pipeline.ReadBack

@[expose] public section

set_option maxRecDepth 16384

noncomputable section

namespace Cert.Attn

open Idealize.ShloMosaic Idealize.ShloMosaic.TcCoe Idealize.ShloMosaic.Tactic
open Cert.Kernel3Ideal Cert.Kernel3Ideal.Gen

variable (m : (ℓ : Loc nD τ sig) → Buf (Elt Ideal) ℓ) (c : Dev nD)

/-- The argument arrays. -/
abbrev A0 : FVec Ideal S2x8192x8x64 .f32 := m ((c : Thread nD τ).loc main_arg0)
abbrev A1 : FVec Ideal S2x8192x8x32 .f32 := m ((c : Thread nD τ).loc main_arg1)
abbrev A2 : FVec Ideal S2x8192x256 .f32 := m ((c : Thread nD τ).loc main_arg2)
abbrev A3 : FVec Ideal S2x8192x32 .f32 := m ((c : Thread nD τ).loc main_arg3)
abbrev A4 : FVec Ideal S256x8x64 .f32 := m ((c : Thread nD τ).loc main_arg4)
abbrev A5 : FVec Ideal S256x8x64 .f32 := m ((c : Thread nD τ).loc main_arg5)

/-- The batch entry and the head that the first axis of the kernel's arrays numbers together. -/
abbrev bat (y : Fin 16) : Fin 2 := ⟨y.val / 8, by omega⟩
abbrev head (y : Fin 16) : Fin 8 := ⟨y.val % 8, by omega⟩

/-- The scores' factor. -/
def factor : EReal := Ideal.ofBits .f32 0x3DD105EC#32

/-- A query: its part without positions, then its part with, scaled. -/
def qry (a0 : FVec Ideal S2x8192x8x64 .f32) (a1 : FVec Ideal S2x8192x8x32 .f32) (b : Fin 2) (h : Fin 8) (t : Fin 8192) (x : Fin 96) : EReal :=
  (if hx : x.val < 64 then (a0 (ix4 b t h ⟨x.val, hx⟩) : EReal) else a1 (ix4 b t h ⟨x.val - 64, by omega⟩)) * factor
/-- A key: the latent row by the head's key matrix, then the part with positions. -/
def key (a2 : FVec Ideal S2x8192x256 .f32) (a3 : FVec Ideal S2x8192x32 .f32) (a4 : FVec Ideal S256x8x64 .f32) (b : Fin 2) (h : Fin 8) (p : Fin 8192) (x : Fin 96) : EReal :=
  if hx : x.val < 64 then ∑ y : Fin 256, (a2 (ix3 b p y) : EReal) * a4 (ix3 y h ⟨x.val, hx⟩) else a3 (ix3 b p ⟨x.val - 64, by omega⟩)
/-- A value: the latent row by the head's value matrix. -/
def vlu (a2 : FVec Ideal S2x8192x256 .f32) (a5 : FVec Ideal S256x8x64 .f32) (b : Fin 2) (h : Fin 8) (p : Fin 8192) (e : Fin 64) : EReal :=
  ∑ y : Fin 256, (a2 (ix3 b p y) : EReal) * a5 (ix3 y h e)

/-! ## What the host lays out -/

theorem ix_row (y : Fin 16) (p : Fin 8192) (z : Fin 256) (h1 : (y.val / 8 * 8192 + p.val) / 8192 < 2) (h2 : (y.val / 8 * 8192 + p.val) % 8192 < 8192) :
    ix3 (⟨(y.val / 8 * 8192 + p.val) / 8192, h1⟩ : Fin 2) (⟨(y.val / 8 * 8192 + p.val) % 8192, h2⟩ : Fin 8192) z = ix3 (bat y) p z := by
  have := p.isLt
  have e1 : (⟨(y.val / 8 * 8192 + p.val) / 8192, h1⟩ : Fin 2) = bat y := Fin.ext (by show (y.val / 8 * 8192 + p.val) / 8192 = y.val / 8; omega)
  have e2 : (⟨(y.val / 8 * 8192 + p.val) % 8192, h2⟩ : Fin 8192) = p := Fin.ext (by show (y.val / 8 * 8192 + p.val) % 8192 = p.val; omega)
  rw [e1, e2]
theorem ix_col (y : Fin 16) (x : Fin 64) (z : Fin 256) (h1 : (y.val % 8 * 64 + x.val) / 64 < 8) (h2 : (y.val % 8 * 64 + x.val) % 64 < 64) :
    ix3 z (⟨(y.val % 8 * 64 + x.val) / 64, h1⟩ : Fin 8) (⟨(y.val % 8 * 64 + x.val) % 64, h2⟩ : Fin 64) = ix3 z (head y) x := by
  have := x.isLt
  have e1 : (⟨(y.val % 8 * 64 + x.val) / 64, h1⟩ : Fin 8) = head y := Fin.ext (by show (y.val % 8 * 64 + x.val) / 64 = y.val % 8; omega)
  have e2 : (⟨(y.val % 8 * 64 + x.val) % 64, h2⟩ : Fin 64) = x := Fin.ext (by show (y.val % 8 * 64 + x.val) % 64 = x.val; omega)
  rw [e1, e2]

theorem V_q_all : V m c main_v17 = (fun i => qry (A0 m c) (A1 m c) (bat (i 0)) (head (i 0)) (i 2) (i 3) : FVec Ideal S16x1x8192x96 .bf16) := by
  show StableHlo.after (List.flatten [hostOps0]) _ _ = _
  simp only [List.flatten_cons, List.flatten_nil, List.append_nil]
  unfold_abbrev_sides
  after_results
  funext i
  idx_vars i
  pointwise
  rfl
theorem V_q (y : Fin 16) (t : Fin 8192) (x : Fin 96) :
    (V m c main_v17 : FVec Ideal S16x1x8192x96 .bf16) (ix4 y 0 t x) = qry (A0 m c) (A1 m c) (bat y) (head y) t x := by
  rw [V_q_all m c]
  rfl

theorem V_k_all : V m c main_v26 = (fun i => key (A2 m c) (A3 m c) (A4 m c) (bat (i 0)) (head (i 0)) (i 1) (i 2) : FVec Ideal S16x8192x96 .bf16) := by
  show StableHlo.after (List.flatten [hostOps0]) _ _ = _
  simp only [List.flatten_cons, List.flatten_nil, List.append_nil]
  unfold_abbrev_sides
  after_results
  funext i
  idx_vars i
  pointwise
  unfold key
  refine dite_congr rfl (fun hx => ?_) (fun hx => ?_)
  · refine Finset.sum_congr rfl fun z _ => ?_
    refine congrArg₂ (· * ·) (congrArg (A2 m c) (ix_row i0 i1 z _ _)) ((dif_pos (show i0.val % 8 * 64 + i2.val < 512 by have : i2.val < 64 := hx; omega)).trans (congrArg (A4 m c) (ix_col i0 ⟨i2.val, hx⟩ z _ _)))
  · rfl
theorem V_k (y : Fin 16) (p : Fin 8192) (x : Fin 96) :
    (V m c main_v26 : FVec Ideal S16x8192x96 .bf16) (ix3 y p x) = key (A2 m c) (A3 m c) (A4 m c) (bat y) (head y) p x := by
  rw [V_k_all m c]
  rfl

theorem V_v_all : V m c main_v31 = (fun i => vlu (A2 m c) (A5 m c) (bat (i 0)) (head (i 0)) (i 1) (i 2) : FVec Ideal S16x8192x64 .bf16) := by
  show StableHlo.after (List.flatten [hostOps0]) _ _ = _
  simp only [List.flatten_cons, List.flatten_nil, List.append_nil]
  unfold_abbrev_sides
  after_results
  funext i
  idx_vars i
  pointwise
  exact Finset.sum_congr rfl fun z _ => congrArg₂ (· * ·) (congrArg (A2 m c) (ix_row i0 i1 z _ _)) (congrArg (A5 m c) (ix_col i0 i2 z _ _))
theorem V_v (y : Fin 16) (p : Fin 8192) (e : Fin 64) :
    (V m c main_v31 : FVec Ideal S16x8192x64 .bf16) (ix3 y p e) = vlu (A2 m c) (A5 m c) (bat y) (head y) p e := by
  rw [V_v_all m c]
  rfl

/-! ## The blocks a point reads -/

theorem lt_N (t : Fin cfg0.N) : t.val < 256 := t.isLt
/-- The head (with its batch entry) of point `t`, and its block of queries. -/
abbrev hdAt (t : Fin cfg0.N) : Fin 16 := ⟨t.val / 16, by have := lt_N t; omega⟩
abbrev qAt (t : Fin cfg0.N) (r : Fin 512) : Fin 8192 := pos (t.val % 16) r.val (by omega) r.isLt

theorem pidx0 : ∀ t : Fin cfg0.N, win0_0.index t 0 = t.val / 16 ∧ win0_0.index t 1 = 0 ∧ win0_0.index t 2 = t.val % 16 ∧ win0_0.index t 3 = 0 := by decide +kernel
theorem pidx1 : ∀ t : Fin cfg0.N, win0_1.index t 0 = t.val / 16 ∧ win0_1.index t 1 = 0 ∧ win0_1.index t 2 = 0 := by decide +kernel
theorem pidx2 : ∀ t : Fin cfg0.N, win0_2.index t 0 = t.val / 16 ∧ win0_2.index t 1 = 0 ∧ win0_2.index t 2 = 0 := by decide +kernel
theorem pidx3 : ∀ t : Fin cfg0.N, win0_3.index t 0 = t.val / 16 ∧ win0_3.index t 1 = 0 ∧ win0_3.index t 2 = t.val % 16 ∧ win0_3.index t 3 = 0 := by decide +kernel
theorem step_at : ∀ t : Fin cfg0.N, (grid0.coords t 1).val = t.val % 16 := by decide +kernel

theorem blk0_at (t : Fin cfg0.N) (r : Fin 512) (x : Fin 96) : iblk m c 0 t (ix4 0 0 r x) = qry (A0 m c) (A1 m c) (bat (hdAt t)) (head (hdAt t)) (qAt t r) x := by
  have hi := pidx0 t
  have e : (win0_0.blk t).view.emb (ix4 (0 : Fin 1) (0 : Fin 1) r x) = ix4 (hdAt t) (0 : Fin 1) (qAt t r) x := by blk_ext <;> simp [hi] <;> omega
  refine (congrArg (V m c main_v17) e).trans ?_
  rw [V_q]
theorem blk1_at (t : Fin cfg0.N) (p : Fin 8192) (x : Fin 96) : iblk m c 1 t (ix3 0 p x) = key (A2 m c) (A3 m c) (A4 m c) (bat (hdAt t)) (head (hdAt t)) p x := by
  have hi := pidx1 t
  have e : (win0_1.blk t).view.emb (ix3 (0 : Fin 1) p x) = ix3 (hdAt t) p x := by blk_ext <;> simp [hi]
  refine (congrArg (V m c main_v26) e).trans ?_
  rw [V_k]
theorem blk2_at (t : Fin cfg0.N) (p : Fin 8192) (x : Fin 64) : iblk m c 2 t (ix3 0 p x) = vlu (A2 m c) (A5 m c) (bat (hdAt t)) (head (hdAt t)) p x := by
  have hi := pidx2 t
  have e : (win0_2.blk t).view.emb (ix3 (0 : Fin 1) p x) = ix3 (hdAt t) p x := by blk_ext <;> simp [hi]
  refine (congrArg (V m c main_v31) e).trans ?_
  rw [V_v]

/-! ## The array the launch leaves -/

/-- A query's last state. -/
def lastRow (y : Fin 16) (t : Fin 8192) : Row :=
  rowLast (fun p => ∑ x, qry (A0 m c) (A1 m c) (bat y) (head y) t x * key (A2 m c) (A3 m c) (A4 m c) (bat y) (head y) p x) (vlu (A2 m c) (A5 m c) (bat y) (head y))
    (t.val / 512) (by omega) ⟨t.val % 512, by omega⟩

theorem out_at (t : Fin cfg0.N) (r : Fin 512) (e : Fin 64) :
    outsAt0 m c t (ix4 0 0 r e) = Ideal.div ((lastRow m c (hdAt t) (qAt t r)).val e) (lastRow m c (hdAt t) (qAt t r)).sum := by
  unfold outsAt0
  have hi : (grid0.coords t 1).val < 16 := by rw [step_at]; omega
  rw [out_eq]
  refine (outOf_at _ _ _ _ hi r e).trans ?_
  have hs : score (iblk m c 0 t) (iblk m c 1 t) r = fun p => ∑ x, qry (A0 m c) (A1 m c) (bat (hdAt t)) (head (hdAt t)) (qAt t r) x * key (A2 m c) (A3 m c) (A4 m c) (bat (hdAt t)) (head (hdAt t)) p x := by
    funext p
    exact Finset.sum_congr rfl fun x _ => congrArg₂ (· * ·) (blk0_at m c t r x) (blk1_at m c t p x)
  have hv : value (iblk m c 2 t) = vlu (A2 m c) (A5 m c) (bat (hdAt t)) (head (hdAt t)) := by
    funext p x
    exact blk2_at m c t p x
  have hn : (grid0.coords t 1).val = (qAt t r).val / 512 := by rw [step_at]; show _ = (512 * (t.val % 16) + r.val) / 512; omega
  have hr : r = ⟨(qAt t r).val % 512, by omega⟩ := Fin.ext (by show r.val = (512 * (t.val % 16) + r.val) % 512; omega)
  have key : ∀ (n n' : ℕ) (h : n < 16) (h' : n' < 16) (r r' : Fin 512) (f : Fin 8192 → EReal) (v : Fin 8192 → Fin 64 → EReal), n = n' → r = r' →
      rowLast f v n h r = rowLast f v n' h' r' := by intro n n' h h' r r' f v hn hr; subst hn; subst hr; rfl
  have e1 : rowLast (score (iblk m c 0 t) (iblk m c 1 t) r) (value (iblk m c 2 t)) (grid0.coords t 1).val hi r = lastRow m c (hdAt t) (qAt t r) := by
    rw [hs, hv]
    exact key _ _ _ _ _ _ _ _ hn hr
  rw [e1]

theorem out_final : (dats m 0 c).arrAt 3 cfg0.N
    = (fun i => Ideal.div ((lastRow m c (i 0) (i 2)).val (i 3)) (lastRow m c (i 0) (i 2)).sum : FVec Ideal S16x1x8192x64 .f32) := by
  refine (dats m 0 c).arrAt_eq_of_covers 3 _ (by decide +kernel) fun t hf y => ?_
  blk_simp
  rw [after0_3]
  idx_vars y
  have hi := pidx3 t
  have e : ((View.whole main_v32).slice (win0_3.rect t)).emb (ix4 y0 y1 y2 y3) = ix4 (hdAt t) (0 : Fin 1) (qAt t y2) y3 := by blk_ext <;> simp [hi] <;> omega
  have h0 : y0 = 0 := Subsingleton.elim _ _
  have h1 : y1 = 0 := Subsingleton.elim _ _
  subst h0 h1
  rw [e, out_at m c t]
  rfl

end Cert.Attn
-- ==== Proof.AttnRef.lean ====
/- The reference's arrays at one element: the masked scores, their softmax, and the two products after it. -/
module

public import proofs.«01_k».proof.Proof.AttnMath
public import proofs.«01_k».proof.Proof.Gen.Reference3Ideal.Run
public import Idealize.ShloMosaic.Lib.Pointwise

@[expose] public section

set_option maxRecDepth 16384

noncomputable section

namespace Cert.Attn

open Idealize.ShloMosaic Idealize.ShloMosaic.TcCoe Idealize.ShloMosaic.Tactic
open Cert.Reference3Ideal Cert.Reference3Ideal.Gen

/-- The fold of a maximum over the last axis, at one element. -/
def topOf {A B C D : ℕ} (h : (⟨4, ![A, B, C, D]⟩ : Shape).ReducesTo [3] ⟨3, ![A, B, C]⟩) (x : FVec Ideal ⟨4, ![A, B, C, D]⟩ .f32) (j : (⟨3, ![A, B, C]⟩ : Shape).Idx) : EReal :=
  max (Ideal.ofBits .f32 0xFF800000#32) (Finset.fold max (Ideal.ofBits .f32 0xFF800000#32) x {i | h.drop i = j})

theorem reduce_at {A B C D : ℕ} (h : (⟨4, ![A, B, C, D]⟩ : Shape).ReducesTo [3] ⟨3, ![A, B, C]⟩) (hu : 0 < (⟨0, ![]⟩ : Shape).numel) (x : FVec Ideal ⟨4, ![A, B, C, D]⟩ .f32)
    (d : (⟨3, ![A, B, C]⟩ : Shape).Idx → EReal) (hd : ∀ j, d j = Ideal.ofBits .f32 0xFF800000#32) (j : (⟨3, ![A, B, C]⟩ : Shape).Idx) :
    (maximumf (d : FVec Ideal ⟨3, ![A, B, C]⟩ .f32) (Host.reduce FloatOps.maximumf x (constant (F := Ideal) (⟨0, ![]⟩ : Shape) .f32 0xFF800000#32) h hu) j : EReal) = topOf h x j := by
  exact congrArg₂ max (hd j) (Host.reduce_eq_fold (FloatOps.maximumf (F := Ideal) (φ := .f32)) _ _ _ _ _)

/-- A row with a real score and none of plus infinity has a real maximum. -/
theorem topOf_real {A B C D : ℕ} (h : (⟨4, ![A, B, C, D]⟩ : Shape).ReducesTo [3] ⟨3, ![A, B, C]⟩) (x : FVec Ideal ⟨4, ![A, B, C, D]⟩ .f32) (a : Fin A) (b : Fin B) (c : Fin C)
    (hx : ∀ i, x i ≠ (⊤ : EReal)) (k : Fin D) (hk : x (ix4 a b c k) ≠ (⊥ : EReal)) : ∃ M : ℝ, topOf h x (ix3 a b c) = (M : EReal) := by
  have hb : (Ideal.ofBits .f32 0xFF800000#32 : EReal) = ⊥ := by simp [Ideal.ofBits, Ideal.ieee]
  have hm : h.drop (ix4 a b c k) = ix3 a b c := by
    funext z
    have hv : (h.drop (ix4 a b c k) z : ℕ) = _ := Shape.ReducesTo.drop_apply_val h (ix4 a b c k) z
    match z with
    | ⟨0, _⟩ => exact Fin.ext hv
    | ⟨1, _⟩ => exact Fin.ext hv
    | ⟨2, _⟩ => exact Fin.ext hv
  have ht : topOf h x (ix3 a b c) ≠ ⊤ := by
    unfold topOf
    rw [hb, max_eq_right bot_le]
    exact ((Finset.fold_max_lt _).2 ⟨bot_lt_top, fun i _ => lt_top_iff_ne_top.2 (hx i)⟩).ne
  have hl : topOf h x (ix3 a b c) ≠ ⊥ := by
    unfold topOf
    rw [hb, max_eq_right bot_le]
    exact fun e => hk (le_bot_iff.1 (e ▸ (Finset.le_fold_max _).2 (Or.inr ⟨ix4 a b c k, Finset.mem_filter.2 ⟨Finset.mem_univ _, hm⟩, le_rfl⟩)))
  exact ⟨_, (EReal.coe_toReal ht hl).symm⟩

section
variable (a0 : FVec Ideal S2x8192x8x64 .f32) (a1 : FVec Ideal S2x8192x8x32 .f32) (a2 : FVec Ideal S2x8192x256 .f32) (a3 : FVec Ideal S2x8192x32 .f32) (a4 a5 : FVec Ideal S256x8x64 .f32)

/-- The scores, scaled. -/
def scores : FVec Ideal S2x8x8192x8192 .f32 :=
  mulf (addf (transpose S2x8x8192x8192 [0, 3, 2, 1] (Host.dotGeneral dot_S2x8192x256_S2x8192x8x256_S2x8192x8192x8_2_3_1_12_0_0 none a2
      (transpose S2x8192x8x256 [2, 3, 0, 1] (Host.dotGeneral dot_S256x8x64_S2x8192x8x64_S8x256x2x8192_2_3_0_01_1_2 none a4 a0) transposes_S8x256x2x8192_S2x8192x8x256_2_3_0_1)) transposes_S2x8192x8192x8_S2x8x8192x8192_0_3_2_1)
    (transpose S2x8x8192x8192 [0, 3, 2, 1] (Host.dotGeneral dot_S2x8192x32_S2x8192x8x32_S2x8192x8192x8_2_3_1_12_0_0 none a3 a1) transposes_S2x8192x8192x8_S2x8x8192x8192_0_3_2_1))
    (broadcastInDim S2x8x8192x8192 ![] bcast_S_S2x8x8192x8192 (constant S_ .f32 0x3DD105EC#32))

/-- The scores where the key is not after the query, minus infinity elsewhere. -/
def masked (s : FVec Ideal S2x8x8192x8192 .f32) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))) s
    (broadcastInDim S2x8x8192x8192 ![] bcast_S_S2x8x8192x8192 (id (constant S_ .f32 0xFF800000#32)))

/-- Each query's greatest score. -/
def tops (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- The exponentials of the scores less a number per query. -/
def weights (s : FVec Ideal S2x8x8192x8192 .f32) (M : FVec Ideal S2x8x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 M)))

/-- The exponentials by their sum. -/
def probs (w : FVec Ideal S2x8x8192x8192 .f32) : FVec Ideal S2x8x8192x8192 .f32 :=
  Host.divf w (broadcastInDim S2x8x8192x8192 ![0, 1, 2, 3] bcast_S2x8x8192x1_S2x8x8192x8192_0_1_2_3 (broadcastInDim S2x8x8192x1 ![0, 1, 2] bcast_S2x8x8192_S2x8x8192x1_0_1_2
    (Host.reduceAdd w (constant S_ .f32 0x00000000#32) reducesTo_S2x8x8192x8192_S2x8x8192_d3 h_S_)))

/-- The latent rows' mean, by the values' matrix, laid out head by head. -/
def mixed (p : FVec Ideal S2x8x8192x8192 .f32) : FVec Ideal S16x1x8192x64 .f32 :=
  shapeCast S16x1x8192x64 (transpose S2x8x8192x64 [0, 2, 1, 3] (transpose S2x8192x8x64 [2, 3, 0, 1] (Host.dotGeneral dot_S256x8x64_S2x8192x8x256_S8x64x2x8192_0_3_2_01_1_2 none a5
    (transpose S2x8192x8x256 [0, 3, 2, 1] (Host.dotGeneral dot_S2x8192x256_S2x8x8192x8192_S2x256x8x8192_1_3_2_12_0_0 none a2 p) transposes_S2x256x8x8192_S2x8192x8x256_0_3_2_1)) transposes_S8x64x2x8192_S2x8192x8x64_2_3_0_1)
    transposes_S2x8192x8x64_S2x8x8192x64_0_2_1_3) shapeCasts_S2x8x8192x64_S16x1x8192x64

theorem scores_at (b : Fin 2) (h : Fin 8) (t p : Fin 8192) : (scores a0 a1 a2 a3 a4 (ix4 b h t p) : EReal)
    = (∑ x : Fin 256, a2 (ix3 b p x) * ∑ z : Fin 64, a4 (ix3 x h z) * a0 (ix4 b t h z) + ∑ x : Fin 32, a3 (ix3 b p x) * a1 (ix4 b t h x)) * Ideal.ofBits .f32 0x3DD105EC#32 := by
  pointwise [scores]

theorem le_word (j r : Fin 8192) : IntOp.cmpi .sle (BitVec.ofNat 32 j.val) (BitVec.ofNat 32 r.val) = if j ≤ r then 1#1 else 0#1 := by
  have e : ∀ n : Fin 8192, (BitVec.ofNat 32 n.val).toInt = n.val := fun n => by
    have := n.isLt
    rw [BitVec.toInt_eq_toNat_cond, BitVec.toNat_ofNat, Nat.mod_eq_of_lt (by omega), if_pos (by omega)]
  have h : (BitVec.ofNat 32 j.val).sle (BitVec.ofNat 32 r.val) = decide (j ≤ r) := by
    rw [BitVec.sle, e, e]; simp
  show BitVec.ofBool ((BitVec.ofNat 32 j.val).sle (BitVec.ofNat 32 r.val)) = _
  rw [h]
  by_cases hh : j ≤ r <;> simp [hh]

theorem masked_at (s : FVec Ideal S2x8x8192x8192 .f32) (b : Fin 2) (h : Fin 8) (t p : Fin 8192) :
    (masked s (ix4 b h t p) : EReal) = if p ≤ t then s (ix4 b h t p) else ⊥ := by
  pointwise [masked]
  show Scalar.select _ (s (ix4 b h t p) : EReal) (Ideal.ofBits .f32 0xFF800000#32) = _
  have hb : (Ideal.ofBits .f32 0xFF800000#32 : EReal) = ⊥ := by simp [Ideal.ofBits, Ideal.ieee]
  rw [hb, le_word]
  by_cases hh : p ≤ t <;> simp [hh, Scalar.select]

theorem tops_at (s : FVec Ideal S2x8x8192x8192 .f32) (j : S2x8x8192.Idx) : (tops s j : EReal) = topOf reducesTo_S2x8x8192x8192_S2x8x8192_d3 s j := by
  unfold tops
  exact reduce_at (A := 2) (B := 8) (C := 8192) (D := 8192) reducesTo_S2x8x8192x8192_S2x8x8192_d3 h_S_ s (broadcastInDim S2x8x8192 ![] bcast_S_S2x8x8192 (constant (F := Ideal) S_ .f32 0xFF800000#32)) (fun _ => rfl) j

theorem weights_at (s : FVec Ideal S2x8x8192x8192 .f32) (M : FVec Ideal S2x8x8192 .f32) (b : Fin 2) (h : Fin 8) (t p : Fin 8192) :
    (weights s M (ix4 b h t p) : EReal) = Ideal.exp ((s (ix4 b h t p) : EReal) - M (ix3 b h t)) := by
  pointwise [weights]
theorem probs_at (s : FVec Ideal S2x8x8192x8192 .f32) (b : Fin 2) (h : Fin 8) (t p : Fin 8192) :
    (probs s (ix4 b h t p) : EReal) = Ideal.div (s (ix4 b h t p)) (∑ x : Fin 8192, s (ix4 b h t x)) := by
  pointwise [probs]
theorem mixed_at (s : FVec Ideal S2x8x8192x8192 .f32) (y : Fin 16) (t : Fin 8192) (e : Fin 64) :
    (mixed a2 a5 s (ix4 y 0 t e) : EReal)
      = ∑ x : Fin 256, a5 (ix3 x ⟨y.val % 8, by omega⟩ e) * ∑ p : Fin 8192, a2 (ix3 ⟨y.val / 8, by omega⟩ p x) * s (ix4 ⟨y.val / 8, by omega⟩ ⟨y.val % 8, by omega⟩ t p) := by
  pointwise [mixed]
end

theorem res_eq (m : (ℓ : Loc nD τ sig) → Buf (Elt Ideal) ℓ) (c : Dev nD) :
    Value.res_main_v32 m c = mixed (m ((c.tc : Thread nD τ).loc main_arg2)) (m ((c.tc : Thread nD τ).loc main_arg5))
      (let s := masked (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
       probs (weights s (tops s))) := by
  unfold Value.res_main_v32
  rfl

end Cert.Attn
-- ==== Proof.AttnEqual.lean ====
/- On arrays of reals the kernel's array and the reference's are one: the mean of the values, each key weighted by the exponential
   of its score. The kernel projects the latent rows before the scores, the reference the queries, and the last product the other
   way round as well. -/
module

public import proofs.«01_k».proof.Proof.AttnArrays
public import proofs.«01_k».proof.Proof.AttnRef

@[expose] public section

set_option maxRecDepth 16384

noncomputable section

namespace Cert.Attn

open Idealize.ShloMosaic Idealize.ShloMosaic.TcCoe Idealize.ShloMosaic.Tactic

abbrev Sq : Shape := ⟨4, ![2, 8192, 8, 64]⟩
abbrev Sr : Shape := ⟨4, ![2, 8192, 8, 32]⟩
abbrev Sc : Shape := ⟨3, ![2, 8192, 256]⟩
abbrev Sp : Shape := ⟨3, ![2, 8192, 32]⟩
abbrev Sw : Shape := ⟨3, ![256, 8, 64]⟩

theorem factor_real : ∃ k : ℝ, factor = (k : EReal) := by
  unfold factor
  simp only [Ideal.ofBits, Ideal.ieee]
  norm_num
  exact ⟨_, rfl⟩

section
variable (r0 : Sq.Idx → ℝ) (r1 : Sr.Idx → ℝ) (r2 : Sc.Idx → ℝ) (r3 : Sp.Idx → ℝ) (r4 r5 : Sw.Idx → ℝ) (k : ℝ)

/-- The score of key `p` for query `t`. -/
def sc (b : Fin 2) (h : Fin 8) (t p : Fin 8192) : ℝ :=
  (∑ x : Fin 256, r2 (ix3 b p x) * ∑ z : Fin 64, r4 (ix3 x h z) * r0 (ix4 b t h z) + ∑ x : Fin 32, r3 (ix3 b p x) * r1 (ix4 b t h x)) * k
/-- The value of key `p`. -/
def vl (b : Fin 2) (h : Fin 8) (p : Fin 8192) (e : Fin 64) : ℝ := ∑ y : Fin 256, r2 (ix3 b p y) * r5 (ix3 y h e)

/-- A query and a key as reals. -/
def qr (b : Fin 2) (h : Fin 8) (t : Fin 8192) (x : Fin 96) : ℝ :=
  (if hx : x.val < 64 then r0 (ix4 b t h ⟨x.val, hx⟩) else r1 (ix4 b t h ⟨x.val - 64, by omega⟩)) * k
def kr (b : Fin 2) (h : Fin 8) (p : Fin 8192) (x : Fin 96) : ℝ :=
  if hx : x.val < 64 then ∑ y : Fin 256, r2 (ix3 b p y) * r4 (ix3 y h ⟨x.val, hx⟩) else r3 (ix3 b p ⟨x.val - 64, by omega⟩)

/-- The product of a query and a key is the score. -/
theorem dot_eq (b : Fin 2) (h : Fin 8) (t p : Fin 8192) : ∑ x, qr r0 r1 k b h t x * kr r2 r3 r4 b h p x = sc r0 r1 r2 r3 r4 k b h t p := by
  refine (Fin.sum_univ_add (a := 64) (b := 32) fun x => qr r0 r1 k b h t x * kr r2 r3 r4 b h p x).trans ?_
  have e1 : ∀ x : Fin 64, qr r0 r1 k b h t (Fin.castAdd 32 x) * kr r2 r3 r4 b h p (Fin.castAdd 32 x) = r0 (ix4 b t h x) * k * ∑ y : Fin 256, r2 (ix3 b p y) * r4 (ix3 y h x) := fun x => by
    unfold qr kr
    rw [dif_pos (show (Fin.castAdd 32 x).val < 64 from x.isLt), dif_pos (show (Fin.castAdd 32 x).val < 64 from x.isLt)]
    rfl
  have e2 : ∀ x : Fin 32, qr r0 r1 k b h t (Fin.natAdd 64 x) * kr r2 r3 r4 b h p (Fin.natAdd 64 x) = r1 (ix4 b t h x) * k * r3 (ix3 b p x) := fun x => by
    have hn : ¬ (Fin.natAdd 64 x).val < 64 := by simp
    have hx : ∀ hh, (⟨(Fin.natAdd 64 x).val - 64, hh⟩ : Fin 32) = x := fun _ => Fin.ext (by simp)
    unfold qr kr
    rw [dif_neg hn, dif_neg hn, hx]
  simp only [e1, e2]
  unfold sc
  rw [add_mul]
  congr 1
  · simp only [Finset.mul_sum, Finset.sum_mul]
    rw [Finset.sum_comm]
    exact Finset.sum_congr rfl fun y _ => Finset.sum_congr rfl fun z _ => by ring
  · rw [Finset.sum_mul]
    exact Finset.sum_congr rfl fun x _ => by ring

/-- The mean of the projected latent rows is the projection of their mean. -/
theorem mean_eq (c : ℝ) (hc : 0 < c) (b : Fin 2) (h : Fin 8) (t : Fin 8192) (e : Fin 64) :
    ∑ x : Fin 256, r5 (ix3 x h e) * ∑ p : Fin 8192, r2 (ix3 b p x) * ((if p ≤ t then c * Real.exp (sc r0 r1 r2 r3 r4 k b h t p) else 0)
        / ∑ q : Fin 8192, if q ≤ t then c * Real.exp (sc r0 r1 r2 r3 r4 k b h t q) else 0)
      = mean (sc r0 r1 r2 r3 r4 k b h t) (vl r2 r5 b h) t e := by
  unfold mean
  generalize sc r0 r1 r2 r3 r4 k b h t = f
  have e1 : ∀ p, (if p ≤ t then c * Real.exp (f p) else 0) = c * (if p ≤ t then Real.exp (f p) else 0) := fun p => by split <;> simp
  have e2 : ∀ p, (if p ≤ t then Real.exp (f p) * vl r2 r5 b h p e else 0) = (if p ≤ t then Real.exp (f p) else 0) * vl r2 r5 b h p e := fun p => by split <;> simp
  simp only [e1, e2, ← Finset.mul_sum, mul_div_mul_left _ _ hc.ne']
  generalize (∑ p : Fin 8192, if p ≤ t then Real.exp (f p) else 0) = S
  unfold vl
  simp only [Finset.mul_sum, Finset.sum_div]
  rw [Finset.sum_comm]
  exact Finset.sum_congr rfl fun p _ => Finset.sum_congr rfl fun y _ => by ring

variable (a0 : FVec Ideal Sq .f32) (a1 : FVec Ideal Sr .f32) (a2 : FVec Ideal Sc .f32) (a3 : FVec Ideal Sp .f32) (a4 a5 : FVec Ideal Sw .f32)
variable (h0 : ∀ i, a0 i = ((r0 i : ℝ) : EReal)) (h1 : ∀ i, a1 i = ((r1 i : ℝ) : EReal)) (h2 : ∀ i, a2 i = ((r2 i : ℝ) : EReal)) (h3 : ∀ i, a3 i = ((r3 i : ℝ) : EReal))
  (h4 : ∀ i, a4 i = ((r4 i : ℝ) : EReal)) (h5 : ∀ i, a5 i = ((r5 i : ℝ) : EReal)) (hk : factor = ((k : ℝ) : EReal))

/-! ## The kernel -/

include h0 h1 hk in
theorem qry_coe (b : Fin 2) (h : Fin 8) (t : Fin 8192) (x : Fin 96) : qry a0 a1 b h t x = ((qr r0 r1 k b h t x : ℝ) : EReal) := by
  unfold qry qr
  rw [hk, EReal.coe_mul]
  congr 1
  split
  · exact h0 _
  · exact h1 _

include h2 h3 h4 in
theorem key_coe (b : Fin 2) (h : Fin 8) (p : Fin 8192) (x : Fin 96) : key a2 a3 a4 b h p x = ((kr r2 r3 r4 b h p x : ℝ) : EReal) := by
  unfold key kr
  split
  · rw [coe_sum]
    exact Finset.sum_congr rfl fun y _ => by rw [h2, h4, EReal.coe_mul]
  · exact h3 _

include h2 h5 in
theorem vlu_coe (b : Fin 2) (h : Fin 8) (p : Fin 8192) (e : Fin 64) : vlu a2 a5 b h p e = ((vl r2 r5 b h p e : ℝ) : EReal) := by
  unfold vlu vl
  rw [coe_sum]
  exact Finset.sum_congr rfl fun y _ => by rw [h2, h5, EReal.coe_mul]

include h0 h1 h2 h3 h4 hk in
theorem score_coe (b : Fin 2) (h : Fin 8) (t p : Fin 8192) : ∑ x, qry a0 a1 b h t x * key a2 a3 a4 b h p x = ((sc r0 r1 r2 r3 r4 k b h t p : ℝ) : EReal) := by
  rw [← dot_eq, coe_sum]
  exact Finset.sum_congr rfl fun x _ => by rw [qry_coe r0 r1 k a0 a1 h0 h1 hk, key_coe r2 r3 r4 a2 a3 a4 h2 h3 h4, EReal.coe_mul]

include h0 h1 h2 h3 h4 h5 hk in
/-- The kernel's quotient for query `t` of a head. -/
theorem kernel_mean (b : Fin 2) (h : Fin 8) (t : Fin 8192) (e : Fin 64) :
    Ideal.div ((rowLast (fun p => ∑ x, qry a0 a1 b h t x * key a2 a3 a4 b h p x) (vlu a2 a5 b h) (t.val / 512) (by omega) ⟨t.val % 512, by omega⟩).val e)
      (rowLast (fun p => ∑ x, qry a0 a1 b h t x * key a2 a3 a4 b h p x) (vlu a2 a5 b h) (t.val / 512) (by omega) ⟨t.val % 512, by omega⟩).sum
      = ((mean (sc r0 r1 r2 r3 r4 k b h t) (vl r2 r5 b h) t e : ℝ) : EReal) := by
  have e1 : (fun p => ∑ x, qry a0 a1 b h t x * key a2 a3 a4 b h p x) = fun p => ((sc r0 r1 r2 r3 r4 k b h t p : ℝ) : EReal) := funext fun p => score_coe r0 r1 r2 r3 r4 k a0 a1 a2 a3 a4 h0 h1 h2 h3 h4 hk b h t p
  have e2 : vlu a2 a5 b h = fun p e => ((vl r2 r5 b h p e : ℝ) : EReal) := funext fun p => funext fun e => vlu_coe r2 r5 a2 a5 h2 h5 b h p e
  rw [e1, e2, last_mean]
  have e3 : pos (t.val / 512) (⟨t.val % 512, by omega⟩ : Fin 512).val (by omega) (Fin.isLt _) = t := Fin.ext (by show 512 * (t.val / 512) + t.val % 512 = t.val; omega)
  rw [e3]

/-! ## The reference -/

include h0 h1 h2 h3 h4 hk in
theorem masked_coe (b : Fin 2) (h : Fin 8) (t p : Fin 8192) :
    (masked (scores a0 a1 a2 a3 a4) (ix4 b h t p) : EReal) = maybe (p ≤ t) (sc r0 r1 r2 r3 r4 k b h t p) := by
  rw [masked_at]
  unfold maybe
  refine ite_congr rfl (fun _ => ?_) fun _ => rfl
  rw [scores_at]
  unfold sc
  rw [EReal.coe_mul, EReal.coe_add, coe_sum, coe_sum]
  refine congrArg₂ (· * ·) (congrArg₂ (· + ·) (Finset.sum_congr rfl fun x _ => ?_) (Finset.sum_congr rfl fun x _ => ?_)) hk
  · rw [EReal.coe_mul, coe_sum, h2]
    exact congrArg _ (Finset.sum_congr rfl fun z _ => by rw [h4, h0, EReal.coe_mul])
  · rw [h3, h1, EReal.coe_mul]

include h0 h1 h2 h3 h4 hk in
theorem top_coe (b : Fin 2) (h : Fin 8) (t : Fin 8192) : ∃ M : ℝ, (tops (masked (scores a0 a1 a2 a3 a4)) (ix3 b h t) : EReal) = (M : EReal) := by
  have hm := masked_coe r0 r1 r2 r3 r4 k a0 a1 a2 a3 a4 h0 h1 h2 h3 h4 hk
  generalize masked (scores a0 a1 a2 a3 a4) = s at hm
  rw [tops_at]
  refine topOf_real _ s b h t (fun i => ?_) t ?_
  · have e : ∃ (b' : Fin 2) (h' : Fin 8) (t' p' : Fin 8192), i = ix4 b' h' t' p' := ⟨i 0, i 1, i 2, i 3, by
      funext a
      match a with
      | ⟨0, _⟩ => rfl
      | ⟨1, _⟩ => rfl
      | ⟨2, _⟩ => rfl
      | ⟨3, _⟩ => rfl⟩
    obtain ⟨b', h', t', p', rfl⟩ := e
    refine ne_of_eq_of_ne (hm b' h' t' p') ?_
    unfold maybe
    split
    · exact EReal.coe_ne_top _
    · exact bot_ne_top
  · refine ne_of_eq_of_ne (hm b h t t) ?_
    unfold maybe
    rw [if_pos le_rfl]
    exact EReal.coe_ne_bot _

include h0 h1 h2 h3 h4 h5 hk in
/-- The reference's element for query `t` of a head. -/
theorem ref_mean (y : Fin 16) (t : Fin 8192) (e : Fin 64) :
    (mixed a2 a5 (probs (weights (masked (scores a0 a1 a2 a3 a4)) (tops (masked (scores a0 a1 a2 a3 a4))))) (ix4 y 0 t e) : EReal)
      = ((mean (sc r0 r1 r2 r3 r4 k (bat y) (head y) t) (vl r2 r5 (bat y) (head y)) t e : ℝ) : EReal) := by
  obtain ⟨M, hM⟩ := top_coe r0 r1 r2 r3 r4 k a0 a1 a2 a3 a4 h0 h1 h2 h3 h4 hk (bat y) (head y) t
  have hm := masked_coe r0 r1 r2 r3 r4 k a0 a1 a2 a3 a4 h0 h1 h2 h3 h4 hk
  generalize masked (scores a0 a1 a2 a3 a4) = s at hm hM
  generalize tops s = T at hM
  have hw : ∀ p, (weights s T (ix4 (bat y) (head y) t p) : EReal)
      = ((if p ≤ t then Real.exp (-M) * Real.exp (sc r0 r1 r2 r3 r4 k (bat y) (head y) t p) else 0 : ℝ) : EReal) := fun p => by
    rw [weights_at, hm, hM, weight_real]
  generalize weights s T = w at hw
  have hZ : (∑ q : Fin 8192, if q ≤ t then Real.exp (-M) * Real.exp (sc r0 r1 r2 r3 r4 k (bat y) (head y) t q) else 0) ≠ 0 := by
    have e1 : ∀ q, (if q ≤ t then Real.exp (-M) * Real.exp (sc r0 r1 r2 r3 r4 k (bat y) (head y) t q) else 0) = Real.exp (-M) * (if q ≤ t then Real.exp (sc r0 r1 r2 r3 r4 k (bat y) (head y) t q) else 0) := fun q => by split <;> simp
    simp only [e1, ← Finset.mul_sum]
    exact (mul_pos (Real.exp_pos _) (mass_pos _ t)).ne'
  have hp : ∀ p, (probs w (ix4 (bat y) (head y) t p) : EReal)
      = (((if p ≤ t then Real.exp (-M) * Real.exp (sc r0 r1 r2 r3 r4 k (bat y) (head y) t p) else 0)
        / ∑ q : Fin 8192, if q ≤ t then Real.exp (-M) * Real.exp (sc r0 r1 r2 r3 r4 k (bat y) (head y) t q) else 0 : ℝ) : EReal) := fun p => by
    rw [probs_at]
    simp only [hw]
    rw [← coe_sum, Ideal.div_coe hZ, ← EReal.coe_mul, mul_one_div]
  generalize probs w = P at hp
  rw [mixed_at, ← mean_eq r0 r1 r2 r3 r4 r5 k (Real.exp (-M)) (Real.exp_pos _), coe_sum]
  refine Finset.sum_congr rfl fun x _ => ?_
  rw [EReal.coe_mul, coe_sum, h5]
  exact congrArg _ (Finset.sum_congr rfl fun p _ => by rw [h2, hp, EReal.coe_mul])

end

end Cert.Attn
-- ==== Proof.Equation3.lean ====
/- The attention's two programs give equal results: both are read, at every element, as the same weighted mean. -/
module

public import proofs.«01_k».proof.Defs
public import proofs.«01_k».proof.Proof.Finite3
public import proofs.«01_k».proof.Proof.AttnEqual
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem

namespace Cert.Proof

open Cert.Moe (Reals)

theorem kernel3_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v32) = (Cert.Kernel3Ideal.Gen.dats m 0 c).arrAt 3 Cert.Kernel3Ideal.cfg0.N) :=
  (θ_run Cert.Kernel3Ideal.defs _ _).mono (fun r h c => Cert.Kernel3Ideal.Value.post3 m r h c) (Cert.Kernel3Ideal.Gen.run_main m g)

theorem ref3_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v32) = Cert.Reference3Ideal.Value.res_main_v32 m c
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)) :=
  Cert.Reference3Ideal.Value.run m g

theorem out_eq3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = Cert.Attn.A0 m c)
    (e1 : m' ((c.tc : Thread Cert.Reference3Ideal.nD Cert.Reference3Ideal.τ).loc Cert.Reference3Ideal.main_arg1) = Cert.Attn.A1 m c)
    (e2 : m' ((c.tc : Thread Cert.Reference3Ideal.nD Cert.Reference3Ideal.τ).loc Cert.Reference3Ideal.main_arg2) = Cert.Attn.A2 m c)
    (e3 : m' ((c.tc : Thread Cert.Reference3Ideal.nD Cert.Reference3Ideal.τ).loc Cert.Reference3Ideal.main_arg3) = Cert.Attn.A3 m c)
    (e4 : m' ((c.tc : Thread Cert.Reference3Ideal.nD Cert.Reference3Ideal.τ).loc Cert.Reference3Ideal.main_arg4) = Cert.Attn.A4 m c)
    (e5 : m' ((c.tc : Thread Cert.Reference3Ideal.nD Cert.Reference3Ideal.τ).loc Cert.Reference3Ideal.main_arg5) = Cert.Attn.A5 m c)
    (hr : Reals (Cert.Attn.A0 m c) ∧ Reals (Cert.Attn.A1 m c) ∧ Reals (Cert.Attn.A2 m c) ∧ Reals (Cert.Attn.A3 m c) ∧ Reals (Cert.Attn.A4 m c) ∧ Reals (Cert.Attn.A5 m c)) :
    Cert.Reference3Ideal.Value.res_main_v32 m' c = (Cert.Kernel3Ideal.Gen.dats m 0 c).arrAt 3 Cert.Kernel3Ideal.cfg0.N := by
  obtain ⟨h0, h1, h2, h3, h4, h5⟩ := hr
  obtain ⟨k, hk⟩ := Cert.Attn.factor_real
  choose r0 h0 using h0
  choose r1 h1 using h1
  choose r2 h2 using h2
  choose r3 h3 using h3
  choose r4 h4 using h4
  choose r5 h5 using h5
  rw [Cert.Attn.out_final m c, Cert.Attn.res_eq, e0, e1, e2, e3, e4, e5]
  funext x
  have e : ∃ (y : Fin 16) (z : Fin 1) (t : Fin 8192) (d : Fin 64), x = ix4 y z t d := ⟨x 0, x 1, x 2, x 3, by
    funext a
    match a with
    | ⟨0, _⟩ => rfl
    | ⟨1, _⟩ => rfl
    | ⟨2, _⟩ => rfl
    | ⟨3, _⟩ => rfl⟩
  obtain ⟨y, z, t, d, rfl⟩ := e
  have hz : z = 0 := Subsingleton.elim _ _
  subst hz
  refine (Cert.Attn.ref_mean r0 r1 r2 r3 r4 r5 k _ _ _ _ _ _ h0 h1 h2 h3 h4 h5 hk y t d).trans ?_
  exact (Cert.Attn.kernel_mean r0 r1 r2 r3 r4 r5 k _ _ _ _ _ _ h0 h1 h2 h3 h4 h5 hk (Cert.Attn.bat y) (Cert.Attn.head y) t d).symm

theorem algebraic3 [hP : Cert.Pre_finite_arrays3.Facts] : Cert.algebraic_Kernel3Ideal_Reference3Ideal_pre_finite_arrays3 := by
  intro m g m' g' hpre hagree
  refine ⟨fun c => (Cert.Kernel3Ideal.Gen.dats m 0 c).arrAt 3 Cert.Kernel3Ideal.cfg0.N, ?_, ?_⟩
  · exact (θ_run _ _ _).mono (fun r h c => ⟨h.1 c, h.2.1 c⟩) (θ_run_and (kernel3_run m g) (Cert.Kernel3Ideal.Gen.frame m g))
  · refine (θ_run _ _ _).mono (fun r h c => ?_) (ref3_run m' g')
    obtain ⟨e0, e1, e2, e3, e4, e5⟩ := hagree c
    exact ⟨(h c).1.trans (out_eq3 m m' c e0 e1 e2 e3 e4 e5 (Cert.Pre_finite_arrays3.reals _ _ _ _ _ _ (hpre c))), (h c).2⟩

end Cert.Proof

end
-- ==== Proof.lean ====
/- The claim assembled. Each program's run is written once, for the idealized program over any float semantics, and the
   printed program's frame is that run at the bits. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Launch
public import proofs.«01_k».proof.Proof.Finite
public import proofs.«01_k».proof.Proof.Equation
public import proofs.«01_k».proof.Proof.Gen.Kernel2
public import proofs.«01_k».proof.Proof.Equation2
public import proofs.«01_k».proof.Proof.Gen.Kernel3
public import proofs.«01_k».proof.Proof.Equation3
public import Idealize.ShloMosaic.Lib.Claim
public import Idealize.ShloMosaic.Lib.Quiescent

@[expose] public section

noncomputable section

open Idealize.ShloMosaic Idealize.ShloMosaic.TcCoe Idealize.SL.Sem

namespace Cert.Proof

instance : Cert.Pre_finite_arrays.Facts := Cert.Pre_finite_arrays.facts

/-- The printed program's body table is the idealized one's: there is one label, and its body is the same text. -/
theorem defs₀_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) ?_
  funext l x
  match l, x with
  | ⟨0, _⟩, (t, s) => rfl

theorem defs_eq {F : FTy → Type} [FloatOps F] : Cert.Kernel.defs (F := F) = Cert.KernelIdeal.defs (F := F) :=
  congrArg (Pipeline.defs (Cert.KernelIdeal.pcfgs (F := F))) defs₀_eq

/-- Every fair execution of the printed program ends, its argument arrays as launched, its counters at zero. -/
theorem frame_kernel : Cert.quiescent_Kernel := fun m ρ _ => by
  rw [defs_eq]
  exact Cert.KernelIdeal.Scan.frame_run (F := Bits) m ρ

theorem frame_kernelIdeal : Cert.quiescent_KernelIdeal := fun m ρ _ => Cert.KernelIdeal.Scan.frame_run m ρ

theorem frame_kernelIdeal_pre : Cert.quiescent_KernelIdeal_pre_finite_arrays := fun m ρ _ => Cert.KernelIdeal.Scan.frame_run m ρ

/-- Every execution of the reference ends, its argument arrays as launched; it has no counters. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, Idealize.ShloMosaic.sem_eq_zero_of_no_sems (by decide) r.2⟩) (ref_run m ρ)

/-! ## The layer of experts -/

instance : Cert.Pre_finite_arrays2.Facts := Cert.Pre_finite_arrays2.facts

theorem defs₀_eq2 {F : FTy → Type} [FloatOps F] : Cert.Kernel2.defs₀ (F := F) = Cert.Kernel2Ideal.defs₀ (F := F) := by
  refine congrArg (Defs.onTc (nD := Cert.Kernel2Ideal.nD) (τ := Cert.Kernel2Ideal.τ) (sig := Cert.Kernel2Ideal.sig) (Λ := Cert.Kernel2Ideal.Λ₀)) ?_
  funext l x
  match l, x with
  | ⟨0, _⟩, (t, s) => rfl

theorem defs_eq2 {F : FTy → Type} [FloatOps F] : Cert.Kernel2.defs (F := F) = Cert.Kernel2Ideal.defs (F := F) :=
  congrArg (Pipeline.defs (Cert.Kernel2Ideal.pcfgs (F := F))) defs₀_eq2

theorem frame_kernel2 : Cert.quiescent_Kernel2 := fun m ρ _ => by
  rw [defs_eq2]
  exact Cert.Kernel2Ideal.Gen.frame (F := Bits) m ρ

theorem frame_kernel2Ideal : Cert.quiescent_Kernel2Ideal := fun m ρ _ => Cert.Kernel2Ideal.Gen.frame m ρ

theorem frame_kernel2Ideal_pre : Cert.quiescent_Kernel2Ideal_pre_finite_arrays2 := fun m ρ _ => Cert.Kernel2Ideal.Gen.frame m ρ

theorem frame_reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0) :=
  (θ_run Cert.Reference2Ideal.defs _ _).mono (fun r h => ⟨fun c => (h c).2, Idealize.ShloMosaic.sem_eq_zero_of_no_sems (by decide) r.2⟩) (ref2_run m ρ)

/-! ## The latent attention -/

instance : Cert.Pre_finite_arrays3.Facts := Cert.Pre_finite_arrays3.facts

theorem defs₀_eq3 {F : FTy → Type} [FloatOps F] : Cert.Kernel3.defs₀ (F := F) = Cert.Kernel3Ideal.defs₀ (F := F) := by
  refine congrArg (Defs.onTc (nD := Cert.Kernel3Ideal.nD) (τ := Cert.Kernel3Ideal.τ) (sig := Cert.Kernel3Ideal.sig) (Λ := Cert.Kernel3Ideal.Λ₀)) ?_
  funext l x
  match l, x with
  | ⟨0, _⟩, (t, s) => rfl

theorem defs_eq3 {F : FTy → Type} [FloatOps F] : Cert.Kernel3.defs (F := F) = Cert.Kernel3Ideal.defs (F := F) :=
  congrArg (Pipeline.defs (Cert.Kernel3Ideal.pcfgs (F := F))) defs₀_eq3

theorem frame_kernel3 : Cert.quiescent_Kernel3 := fun m ρ _ => by
  rw [defs_eq3]
  exact Cert.Kernel3Ideal.Gen.frame (F := Bits) m ρ

theorem frame_kernel3Ideal : Cert.quiescent_Kernel3Ideal := fun m ρ _ => Cert.Kernel3Ideal.Gen.frame m ρ

theorem frame_kernel3Ideal_pre : Cert.quiescent_Kernel3Ideal_pre_finite_arrays3 := fun m ρ _ => Cert.Kernel3Ideal.Gen.frame m ρ

theorem frame_reference3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run Cert.Reference3Ideal.defs _ _).mono (fun r h => ⟨fun c => (h c).2, Idealize.ShloMosaic.sem_eq_zero_of_no_sems (by decide) r.2⟩) (ref3_run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite_arrays.facts, Cert.Pre_finite_arrays2.facts, Cert.Pre_finite_arrays3.facts,
    frame_kernel, frame_kernelIdeal, frame_kernelIdeal_pre, fun m ρ _ => frame_reference m ρ, fun m ρ _ => frame_reference m ρ,
    frame_kernel2, frame_kernel2Ideal, frame_kernel2Ideal_pre, fun m ρ _ => frame_reference2 m ρ, fun m ρ _ => frame_reference2 m ρ,
    frame_kernel3, frame_kernel3Ideal, frame_kernel3Ideal_pre, fun m ρ _ => frame_reference3 m ρ, fun m ρ _ => frame_reference3 m ρ,
    trivial, algebraic, trivial, algebraic2, trivial, algebraic3⟩

end Cert.Proof

end
